-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_values_35) = v1 c
          ∧ r.2.mem ((c.tc : Thread Cert.ReferenceIdeal.nD Cert.ReferenceIdeal.τ).loc Cert.ReferenceIdeal.main_v204) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x52x52x255 : Shape := ⟨4, ![1, 52, 52, 255]⟩
abbrev S1x26x26x255 : Shape := ⟨4, ![1, 26, 26, 255]⟩
abbrev S1x13x13x255 : Shape := ⟨4, ![1, 13, 13, 255]⟩
abbrev S8x10752 : Shape := ⟨2, ![8, 10752]⟩
abbrev S8112x85 : Shape := ⟨2, ![8112, 85]⟩
abbrev S85x8112 : Shape := ⟨2, ![85, 8112]⟩
abbrev S2028x85 : Shape := ⟨2, ![2028, 85]⟩
abbrev S85x2028 : Shape := ⟨2, ![85, 2028]⟩
abbrev S507x85 : Shape := ⟨2, ![507, 85]⟩
abbrev S85x507 : Shape := ⟨2, ![85, 507]⟩
abbrev S85x10647 : Shape := ⟨2, ![85, 10647]⟩
abbrev S_ : Shape := ⟨0, ![]⟩
abbrev S85x10752 : Shape := ⟨2, ![85, 10752]⟩
abbrev S80x10752 : Shape := ⟨2, ![80, 10752]⟩
abbrev S5x10752 : Shape := ⟨2, ![5, 10752]⟩
abbrev S8x128 : Shape := ⟨2, ![8, 128]⟩
abbrev S80x128 : Shape := ⟨2, ![80, 128]⟩
abbrev S1x128 : Shape := ⟨2, ![1, 128]⟩
abbrev S80 : Shape := ⟨1, ![80]⟩
abbrev S80x1 : Shape := ⟨2, ![80, 1]⟩
abbrev S1x80x128 : Shape := ⟨3, ![1, 80, 128]⟩
abbrev S1 : Shape := ⟨1, ![1]⟩
abbrev S1x1x1 : Shape := ⟨3, ![1, 1, 1]⟩
abbrev S1x100 : Shape := ⟨2, ![1, 100]⟩
abbrev S100 : Shape := ⟨1, ![100]⟩
abbrev S100x1 : Shape := ⟨2, ![100, 1]⟩
abbrev S100x4 : Shape := ⟨2, ![100, 4]⟩

abbrev nBuf : Space → Nat
  | .hbm => 39
  | .vmem => 14
  | .smem => 0
  | _ => 0

abbrev bufTy : (tb : Table) → Fin (tcTables nBuf tb) → BufTy
  | .hbm, ⟨0, _⟩ => ⟨S1x52x52x255, .f32⟩
  | .hbm, ⟨1, _⟩ => ⟨S1x26x26x255, .f32⟩
  | .hbm, ⟨2, _⟩ => ⟨S1x13x13x255, .f32⟩
  | .hbm, ⟨3, _⟩ => ⟨S8x10752, .f32⟩
  | .hbm, ⟨4, _⟩ => ⟨S8112x85, .f32⟩
  | .hbm, ⟨5, _⟩ => ⟨S85x8112, .f32⟩
  | .hbm, ⟨6, _⟩ => ⟨S2028x85, .f32⟩
  | .hbm, ⟨7, _⟩ => ⟨S85x2028, .f32⟩
  | .hbm, ⟨8, _⟩ => ⟨S507x85, .f32⟩
  | .hbm, ⟨9, _⟩ => ⟨S85x507, .f32⟩
  | .hbm, ⟨10, _⟩ => ⟨S85x10647, .f32⟩
  | .hbm, ⟨11, _⟩ => ⟨S_, .i32⟩
  | .hbm, ⟨12, _⟩ => ⟨S_, .f32⟩
  | .hbm, ⟨13, _⟩ => ⟨S85x10752, .f32⟩
  | .hbm, ⟨14, _⟩ => ⟨S80x10752, .f32⟩
  | .hbm, ⟨15, _⟩ => ⟨S5x10752, .f32⟩
  | .hbm, ⟨16, _⟩ => ⟨S_, .i32⟩
  | .hbm, ⟨17, _⟩ => ⟨S_, .f32⟩
  | .hbm, ⟨18, _⟩ => ⟨S8x10752, .f32⟩
  | .hbm, ⟨19, _⟩ => ⟨S8x128, .f32⟩
  | .hbm, ⟨20, _⟩ => ⟨S8x128, .f32⟩
  | .hbm, ⟨21, _⟩ => ⟨S8x128, .i32⟩
  | .hbm, ⟨22, _⟩ => ⟨S1x100, .f32⟩
  | .hbm, ⟨23, _⟩ => ⟨S100, .f32⟩
  | .hbm, ⟨24, _⟩ => ⟨S1x100, .f32⟩
  | .hbm, ⟨25, _⟩ => ⟨S100, .f32⟩
  | .hbm, ⟨26, _⟩ => ⟨S1x100, .f32⟩
  | .hbm, ⟨27, _⟩ => ⟨S100, .f32⟩
  | .hbm, ⟨28, _⟩ => ⟨S1x100, .f32⟩
  | .hbm, ⟨29, _⟩ => ⟨S100, .f32⟩
  | .hbm, ⟨30, _⟩ => ⟨S100x1, .f32⟩
  | .hbm, ⟨31, _⟩ => ⟨S100x1, .f32⟩
  | .hbm, ⟨32, _⟩ => ⟨S100x1, .f32⟩
  | .hbm, ⟨33, _⟩ => ⟨S100x1, .f32⟩
  | .hbm, ⟨34, _⟩ => ⟨S100x4, .f32⟩
  | .hbm, ⟨35, _⟩ => ⟨S1x100, .f32⟩
  | .hbm, ⟨36, _⟩ => ⟨S100, .f32⟩
  | .hbm, ⟨37, _⟩ => ⟨S1x100, .i32⟩
  | .hbm, ⟨38, _⟩ => ⟨S100, .i32⟩
  | .local _ .vmem, ⟨0, _⟩ => ⟨S80x10752, .f32⟩
  | .local _ .vmem, ⟨1, _⟩ => ⟨S8x10752, .f32⟩
  | .local _ .vmem, ⟨2, _⟩ => ⟨S8x10752, .f32⟩
  | .local _ .vmem, ⟨3, _⟩ => ⟨S8x128, .f32⟩
  | .local _ .vmem, ⟨4, _⟩ => ⟨S8x128, .f32⟩
  | .local _ .vmem, ⟨5, _⟩ => ⟨S8x128, .i32⟩
  | .local _ .vmem, ⟨6, _⟩ => ⟨S80x10752, .f32⟩
  | .local _ .vmem, ⟨7, _⟩ => ⟨S8x10752, .f32⟩
  | .local _ .vmem, ⟨8, _⟩ => ⟨S80x128, .f32⟩
  | .local _ .vmem, ⟨9, _⟩ => ⟨S80x128, .f32⟩
  | .local _ .vmem, ⟨10, _⟩ => ⟨S80x128, .f32⟩
  | .local _ .vmem, ⟨11, _⟩ => ⟨S80x128, .f32⟩
  | .local _ .vmem, ⟨12, _⟩ => ⟨S80x128, .f32⟩
  | .local _ .vmem, ⟨13, _⟩ => ⟨S80x128, .f32⟩
  | _, _ => ⟨S1x52x52x255, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c84_i32 : BitVec 32 := 84#32
  let v2 : BitVec 32 := Scalar.addi c0_i32 c84_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32 : BitVec 32 := 128#32
  let v45 : BitVec 32 := Scalar.muli arg14 c128_i32
  v45
def k0_off1 (k0_t1 : Fin k0_t1_loop.trips) : Fin 2 → Nat :=
  let c0_36 : Index := 0#32
  let c0_i32 : BitVec 32 := 0#32
  let c1_i32 : BitVec 32 := 1#32
  let arg14 : BitVec 32 := Scf.iv c0_i32 c1_i32 k0_t1
  let c128_i32 : BitVec 32 := 128#32
  let v45 : BitVec 32 := Scalar.muli arg14 c128_i32
  let v46 : BitVec 32 := v45
  let v47 : Index := Scalar.indexCast v46
  ![0, v47.toNat]
def k0_off2 (k0_t1 : Fin k0_t1_loop.trips) : Fin 2 → Nat :=
  let c0_37 : Index := 0#32
  let c0_i32 : BitVec 32 := 0#32
  let c1_i32 : BitVec 32 := 1#32
  let arg14 : BitVec 32 := Scf.iv c0_i32 c1_i32 k0_t1
  let c128_i32 : BitVec 32 := 128#32
  let v45 : BitVec 32 := Scalar.muli arg14 c128_i32
  let v46 : BitVec 32 := v45
  let v50 : Index := Scalar.indexCast v46
  ![0, v50.toNat]
@[reducible] def k0_t2_loop : Scf.Loop 32 :=
  let c0_i32_14 : BitVec 32 := 0#32
  let c100_i32 : BitVec 32 := 100#32
  let v25 : BitVec 32 := Scalar.addi c0_i32_14 c100_i32
  let c1_i32_15 : BitVec 32 := 1#32
  ⟨c0_i32_14, v25, c1_i32_15⟩
@[reducible] def k0_t3_loop : Scf.Loop 32 :=
  let c0_i32_38 : BitVec 32 := 0#32
  let c84_i32_39 : BitVec 32 := 84#32
  let v47 : BitVec 32 := Scalar.addi c0_i32_38 c84_i32_39
  let c1_i32_40 : BitVec 32 := 1#32
  ⟨c0_i32_38, v47, c1_i32_40⟩
def k0_mult2 (k0_t3 : Fin k0_t3_loop.trips) : BitVec 32 :=
  let c0_i32_38 : BitVec 32 := 0#32
  let c1_i32_40 : BitVec 32 := 1#32
  let arg17 : BitVec 32 := Scf.iv c0_i32_38 c1_i32_40 k0_t3
  let c128_i32_98 : BitVec 32 := 128#32
  let v171 : BitVec 32 := Scalar.muli arg17 c128_i32_98
  v171
def k0_off3 (k0_t3 : Fin k0_t3_loop.trips) : Fin 2 → Nat :=
  let c0_99 : Index := 0#32
  let c0_i32_38 : BitVec 32 := 0#32
  let c1_i32_40 : BitVec 32 := 1#32
  let arg17 : BitVec 32 := Scf.iv c0_i32_38 c1_i32_40 k0_t3
  let c128_i32_98 : BitVec 32 := 128#32
  let v171 : BitVec 32 := Scalar.muli arg17 c128_i32_98
  let v172 : BitVec 32 := v171
  let v173 : Index := Scalar.indexCast v172
  ![0, v173.toNat]
@[reducible] def k0_t4_loop : Scf.Loop 32 :=
  let c0_i32_45 : BitVec 32 := 0#32
  let c84_i32_46 : BitVec 32 := 84#32
  let v69 : BitVec 32 := Scalar.addi c0_i32_45 c84_i32_46
  let c1_i32_47 : BitVec 32 := 1#32
  ⟨c0_i32_45, v69, c1_i32_47⟩
def k0_mult3 (k0_t4 : Fin k0_t4_loop.trips) : BitVec 32 :=
  let c0_i32_45 : BitVec 32 := 0#32
  let c1_i32_47 : BitVec 32 := 1#32
  let arg17 : BitVec 32 := Scf.iv c0_i32_45 c1_i32_47 k0_t4
  let c128_i32_98 : BitVec 32 := 128#32
  let v171 : BitVec 32 := Scalar.muli arg17 c128_i32_98
  v171
def k0_off4 (k0_t4 : Fin k0_t4_loop.trips) : Fin 2 → Nat :=
  let c0_99 : Index := 0#32
  let c0_i32_45 : BitVec 32 := 0#32
  let c1_i32_47 : BitVec 32 := 1#32
  let arg17 : BitVec 32 := Scf.iv c0_i32_45 c1_i32_47 k0_t4
  let c128_i32_98 : BitVec 32 := 128#32
  let v171 : BitVec 32 := Scalar.muli arg17 c128_i32_98
  let v172 : BitVec 32 := v171
  let v173 : Index := Scalar.indexCast v172
  ![0, v173.toNat]
@[reducible] def k0_t5_loop : Scf.Loop 32 :=
  let c0_i32_26 : BitVec 32 := 0#32
  let c100_i32_27 : BitVec 32 := 100#32
  let v40 : BitVec 32 := Scalar.addi c0_i32_26 c100_i32_27
  let c1_i32_28 : BitVec 32 := 1#32
  ⟨c0_i32_26, v40, c1_i32_28⟩
abbrev stage0_0 : Fin 1 → Memref sig .tc .vmem S80x10752 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x10752 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x10752 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x52x52x255 : Shape := ⟨4, ![1, 52, 52, 255]⟩
abbrev S1x26x26x255 : Shape := ⟨4, ![1, 26, 26, 255]⟩
abbrev S1x13x13x255 : Shape := ⟨4, ![1, 13, 13, 255]⟩
abbrev S3x2 : Shape := ⟨2, ![3, 2]⟩
abbrev S1x8112x85 : Shape := ⟨3, ![1, 8112, 85]⟩
abbrev S1x8112x2 : Shape := ⟨3, ![1, 8112, 2]⟩
abbrev S1x8112x1 : Shape := ⟨3, ![1, 8112, 1]⟩
abbrev S_ : Shape := ⟨0, ![]⟩
abbrev S1x8112x80 : Shape := ⟨3, ![1, 8112, 80]⟩
abbrev S52 : Shape := ⟨1, ![52]⟩
abbrev S52x52 : Shape := ⟨2, ![52, 52]⟩
abbrev S2704x1 : Shape := ⟨2, ![2704, 1]⟩
abbrev S2704x2 : Shape := ⟨2, ![2704, 2]⟩
abbrev S1x2704x1x2 : Shape := ⟨4, ![1, 2704, 1, 2]⟩
abbrev S1x2704x3x2 : Shape := ⟨4, ![1, 2704, 3, 2]⟩
abbrev S2704x6 : Shape := ⟨2, ![2704, 6]⟩
abbrev S1x3x1x2 : Shape := ⟨4, ![1, 3, 1, 2]⟩
abbrev S2704x3x1x2 : Shape := ⟨4, ![2704, 3, 1, 2]⟩
abbrev S8112x2 : Shape := ⟨2, ![8112, 2]⟩
abbrev S1x8112x4 : Shape := ⟨3, ![1, 8112, 4]⟩
abbrev S8112x4 : Shape := ⟨2, ![8112, 4]⟩
abbrev S8112x80 : Shape := ⟨2, ![8112, 80]⟩
abbrev S1x2028x85 : Shape := ⟨3, ![1, 2028, 85]⟩
abbrev S1x2028x2 : Shape := ⟨3, ![1, 2028, 2]⟩
abbrev S1x2028x1 : Shape := ⟨3, ![1, 2028, 1]⟩
abbrev S1x2028x80 : Shape := ⟨3, ![1, 2028, 80]⟩
abbrev S26 : Shape := ⟨1, ![26]⟩
abbrev S26x26 : Shape := ⟨2, ![26, 26]⟩
abbrev S676x1 : Shape := ⟨2, ![676, 1]⟩
abbrev S676x2 : Shape := ⟨2, ![676, 2]⟩
abbrev S1x676x1x2 : Shape := ⟨4, ![1, 676, 1, 2]⟩
abbrev S1x676x3x2 : Shape := ⟨4, ![1, 676, 3, 2]⟩
abbrev S676x6 : Shape := ⟨2, ![676, 6]⟩
abbrev S676x3x1x2 : Shape := ⟨4, ![676, 3, 1, 2]⟩
abbrev S2028x2 : Shape := ⟨2, ![2028, 2]⟩
abbrev S1x2028x4 : Shape := ⟨3, ![1, 2028, 4]⟩
abbrev S2028x4 : Shape := ⟨2, ![2028, 4]⟩
abbrev S2028x80 : Shape := ⟨2, ![2028, 80]⟩
abbrev S1x507x85 : Shape := ⟨3, ![1, 507, 85]⟩
abbrev S1x507x2 : Shape := ⟨3, ![1, 507, 2]⟩
abbrev S1x507x1 : Shape := ⟨3, ![1, 507, 1]⟩
abbrev S1x507x80 : Shape := ⟨3, ![1, 507, 80]⟩
abbrev S13 : Shape := ⟨1, ![13]⟩
abbrev S13x13 : Shape := ⟨2, ![13, 13]⟩
abbrev S169x1 : Shape := ⟨2, ![169, 1]⟩
abbrev S169x2 : Shape := ⟨2, ![169, 2]⟩
abbrev S1x169x1x2 : Shape := ⟨4, ![1, 169, 1, 2]⟩
abbrev S1x169x3x2 : Shape := ⟨4, ![1, 169, 3, 2]⟩
abbrev S169x6 : Shape := ⟨2, ![169, 6]⟩
abbrev S169x3x1x2 : Shape := ⟨4, ![169, 3, 1, 2]⟩
abbrev S507x2 : Shape := ⟨2, ![507, 2]⟩
abbrev S1x507x4 : Shape := ⟨3, ![1, 507, 4]⟩
abbrev S507x4 : Shape := ⟨2, ![507, 4]⟩
abbrev S507x80 : Shape := ⟨2, ![507, 80]⟩
abbrev S10647x4 : Shape := ⟨2, ![10647, 4]⟩
abbrev S10647x80 : Shape := ⟨2, ![10647, 80]⟩
abbrev S80x10647 : Shape := ⟨2, ![80, 10647]⟩
abbrev S80x100 : Shape := ⟨2, ![80, 100]⟩
abbrev S80x100x1 : Shape := ⟨3, ![80, 100, 1]⟩
abbrev S80x100x4 : Shape := ⟨3, ![80, 100, 4]⟩
abbrev S100 : Shape := ⟨1, ![100]⟩
abbrev S80x1x4 : Shape := ⟨3, ![80, 1, 4]⟩
abbrev S80x1 : Shape := ⟨2, ![80, 1]⟩
abbrev S80x1x1 : Shape := ⟨3, ![80, 1, 1]⟩
abbrev S1x100 : Shape := ⟨2, ![1, 100]⟩
abbrev S80 : Shape := ⟨1, ![80]⟩
abbrev S8000 : Shape := ⟨1, ![8000]⟩
abbrev S8000x4 : Shape := ⟨2, ![8000, 4]⟩
abbrev S100x1 : Shape := ⟨2, ![100, 1]⟩
abbrev S100x4 : Shape := ⟨2, ![100, 4]⟩

abbrev nBuf : Space → Nat
  | .hbm => 364
  | .vmem => 0
  | .smem => 0
  | _ => 0

abbrev hbmTy0_0 (i : Nat) : BufTy := match i % 128 with
  | 0 => ⟨S1x52x52x255, .f32⟩
  | 1 => ⟨S1x26x26x255, .f32⟩
  | 2 => ⟨S1x13x13x255, .f32⟩
  | 3 => ⟨S3x2, .f32⟩
  | 4 => ⟨S3x2, .f32⟩
  | 5 => ⟨S3x2, .f32⟩
  | 6 => ⟨S1x8112x85, .f32⟩
  | 7 => ⟨S1x8112x2, .f32⟩
  | 8 => ⟨S1x8112x2, .f32⟩
  | 9 => ⟨S1x8112x1, .f32⟩
  | 10 => ⟨S1x8112x1, .f32⟩
  | 11 => ⟨S1x8112x1, .f32⟩
  | 12 => ⟨S_, .f32⟩
  | 13 => ⟨S1x8112x1, .f32⟩
  | 14 => ⟨S1x8112x1, .f32⟩
  | 15 => ⟨S_, .f32⟩
  | 16 => ⟨S1x8112x1, .f32⟩
  | 17 => ⟨S1x8112x1, .f32⟩
  | 18 => ⟨S1x8112x80, .f32⟩
  | 19 => ⟨S1x8112x80, .f32⟩
  | 20 => ⟨S1x8112x80, .f32⟩
  | 21 => ⟨S_, .f32⟩
  | 22 => ⟨S1x8112x80, .f32⟩
  | 23 => ⟨S1x8112x80, .f32⟩
  | 24 => ⟨S_, .f32⟩
  | 25 => ⟨S1x8112x80, .f32⟩
  | 26 => ⟨S1x8112x80, .f32⟩
  | 27 => ⟨S52, .f32⟩
  | 28 => ⟨S52x52, .f32⟩
  | 29 => ⟨S52x52, .f32⟩
  | 30 => ⟨S2704x1, .f32⟩
  | 31 => ⟨S2704x1, .f32⟩
  | 32 => ⟨S2704x2, .f32⟩
  | 33 => ⟨S1x2704x1x2, .f32⟩
  | 34 => ⟨S1x2704x3x2, .f32⟩
  | 35 => ⟨S2704x6, .f32⟩
  | 36 => ⟨S1x8112x2, .f32⟩
  | 37 => ⟨S1x8112x2, .f32⟩
  | 38 => ⟨S1x8112x2, .f32⟩
  | 39 => ⟨S_, .f32⟩
  | 40 => ⟨S1x8112x2, .f32⟩
  | 41 => ⟨S1x8112x2, .f32⟩
  | 42 => ⟨S_, .f32⟩
  | 43 => ⟨S1x8112x2, .f32⟩
  | 44 => ⟨S1x8112x2, .f32⟩
  | 45 => ⟨S1x8112x2, .f32⟩
  | 46 => ⟨S1x3x1x2, .f32⟩
  | 47 => ⟨S2704x3x1x2, .f32⟩
  | 48 => ⟨S8112x2, .f32⟩
  | 49 => ⟨S1x8112x2, .f32⟩
  | 50 => ⟨S1x8112x2, .f32⟩
  | 51 => ⟨S1x8112x2, .f32⟩
  | 52 => ⟨S_, .f32⟩
  | 53 => ⟨S1x8112x2, .f32⟩
  | 54 => ⟨S1x8112x2, .f32⟩
  | 55 => ⟨S_, .f32⟩
  | 56 => ⟨S1x8112x2, .f32⟩
  | 57 => ⟨S1x8112x2, .f32⟩
  | 58 => ⟨S1x8112x2, .f32⟩
  | 59 => ⟨S_, .f32⟩
  | 60 => ⟨S1x8112x2, .f32⟩
  | 61 => ⟨S1x8112x2, .f32⟩
  | 62 => ⟨S1x8112x2, .f32⟩
  | 63 => ⟨S1x8112x4, .f32⟩
  | 64 => ⟨S8112x4, .f32⟩
  | 65 => ⟨S1x8112x80, .f32⟩
  | 66 => ⟨S1x8112x80, .f32⟩
  | 67 => ⟨S8112x80, .f32⟩
  | 68 => ⟨S1x2028x85, .f32⟩
  | 69 => ⟨S1x2028x2, .f32⟩
  | 70 => ⟨S1x2028x2, .f32⟩
  | 71 => ⟨S1x2028x1, .f32⟩
  | 72 => ⟨S1x2028x1, .f32⟩
  | 73 => ⟨S1x2028x1, .f32⟩
  | 74 => ⟨S_, .f32⟩
  | 75 => ⟨S1x2028x1, .f32⟩
  | 76 => ⟨S1x2028x1, .f32⟩
  | 77 => ⟨S_, .f32⟩
  | 78 => ⟨S1x2028x1, .f32⟩
  | 79 => ⟨S1x2028x1, .f32⟩
  | 80 => ⟨S1x2028x80, .f32⟩
  | 81 => ⟨S1x2028x80, .f32⟩
  | 82 => ⟨S1x2028x80, .f32⟩
  | 83 => ⟨S_, .f32⟩
  | 84 => ⟨S1x2028x80, .f32⟩
  | 85 => ⟨S1x2028x80, .f32⟩
  | 86 => ⟨S_, .f32⟩
  | 87 => ⟨S1x2028x80, .f32⟩
  | 88 => ⟨S1x2028x80, .f32⟩
  | 89 => ⟨S26, .f32⟩
  | 90 => ⟨S26x26, .f32⟩
  | 91 => ⟨S26x26, .f32⟩
  | 92 => ⟨S676x1, .f32⟩
  | 93 => ⟨S676x1, .f32⟩
  | 94 => ⟨S676x2, .f32⟩
  | 95 => ⟨S1x676x1x2, .f32⟩
  | 96 => ⟨S1x676x3x2, .f32⟩
  | 97 => ⟨S676x6, .f32⟩
  | 98 => ⟨S1x2028x2, .f32⟩
  | 99 => ⟨S1x2028x2, .f32⟩
  | 100 => ⟨S1x2028x2, .f32⟩
  | 101 => ⟨S_, .f32⟩
  | 102 => ⟨S1x2028x2, .f32⟩
  | 103 => ⟨S1x2028x2, .f32⟩
  | 104 => ⟨S_, .f32⟩
  | 105 => ⟨S1x2028x2, .f32⟩
  | 106 => ⟨S1x2028x2, .f32⟩
  | 107 => ⟨S1x2028x2, .f32⟩
  | 108 => ⟨S1x3x1x2, .f32⟩
  | 109 => ⟨S676x3x1x2, .f32⟩
  | 110 => ⟨S2028x2, .f32⟩
  | 111 => ⟨S1x2028x2, .f32⟩
  | 112 => ⟨S1x2028x2, .f32⟩
  | 113 => ⟨S1x2028x2, .f32⟩
  | 114 => ⟨S_, .f32⟩
  | 115 => ⟨S1x2028x2, .f32⟩
  | 116 => ⟨S1x2028x2, .f32⟩
  | 117 => ⟨S_, .f32⟩
  | 118 => ⟨S1x2028x2, .f32⟩
  | 119 => ⟨S1x2028x2, .f32⟩
  | 120 => ⟨S1x2028x2, .f32⟩
  | 121 => ⟨S_, .f32⟩
  | 122 => ⟨S1x2028x2, .f32⟩
  | 123 => ⟨S1x2028x2, .f32⟩
  | 124 => ⟨S1x2028x2, .f32⟩
  | 125 => ⟨S1x2028x4, .f32⟩
  | 126 => ⟨S2028x4, .f32⟩
  | 127 => ⟨S1x2028x80, .f32⟩
  | _ => ⟨S1x52x52x255, .f32⟩

abbrev hbmTy0_1 (i : Nat) : BufTy := match i % 128 with
  | 0 => ⟨S1x2028x80, .f32⟩
  | 1 => ⟨S2028x80, .f32⟩
  | 2 => ⟨S1x507x85, .f32⟩
  | 3 => ⟨S1x507x2, .f32⟩
  | 4 => ⟨S1x507x2, .f32⟩
  | 5 => ⟨S1x507x1, .f32⟩
  | 6 => ⟨S1x507x1, .f32⟩
  | 7 => ⟨S1x507x1, .f32⟩
  | 8 => ⟨S_, .f32⟩
  | 9 => ⟨S1x507x1, .f32⟩
  | 10 => ⟨S1x507x1, .f32⟩
  | 11 => ⟨S_, .f32⟩
  | 12 => ⟨S1x507x1, .f32⟩
  | 13 => ⟨S1x507x1, .f32⟩
  | 14 => ⟨S1x507x80, .f32⟩
  | 15 => ⟨S1x507x80, .f32⟩
  | 16 => ⟨S1x507x80, .f32⟩
  | 17 => ⟨S_, .f32⟩
  | 18 => ⟨S1x507x80, .f32⟩
  | 19 => ⟨S1x507x80, .f32⟩
  | 20 => ⟨S_, .f32⟩
  | 21 => ⟨S1x507x80, .f32⟩
  | 22 => ⟨S1x507x80, .f32⟩
  | 23 => ⟨S13, .f32⟩
  | 24 => ⟨S13x13, .f32⟩
  | 25 => ⟨S13x13, .f32⟩
  | 26 => ⟨S169x1, .f32⟩
  | 27 => ⟨S169x1, .f32⟩
  | 28 => ⟨S169x2, .f32⟩
  | 29 => ⟨S1x169x1x2, .f32⟩
  | 30 => ⟨S1x169x3x2, .f32⟩
  | 31 => ⟨S169x6, .f32⟩
  | 32 => ⟨S1x507x2, .f32⟩
  | 33 => ⟨S1x507x2, .f32⟩
  | 34 => ⟨S1x507x2, .f32⟩
  | 35 => ⟨S_, .f32⟩
  | 36 => ⟨S1x507x2, .f32⟩
  | 37 => ⟨S1x507x2, .f32⟩
  | 38 => ⟨S_, .f32⟩
  | 39 => ⟨S1x507x2, .f32⟩
  | 40 => ⟨S1x507x2, .f32⟩
  | 41 => ⟨S1x507x2, .f32⟩
  | 42 => ⟨S1x3x1x2, .f32⟩
  | 43 => ⟨S169x3x1x2, .f32⟩
  | 44 => ⟨S507x2, .f32⟩
  | 45 => ⟨S1x507x2, .f32⟩
  | 46 => ⟨S1x507x2, .f32⟩
  | 47 => ⟨S1x507x2, .f32⟩
  | 48 => ⟨S_, .f32⟩
  | 49 => ⟨S1x507x2, .f32⟩
  | 50 => ⟨S1x507x2, .f32⟩
  | 51 => ⟨S_, .f32⟩
  | 52 => ⟨S1x507x2, .f32⟩
  | 53 => ⟨S1x507x2, .f32⟩
  | 54 => ⟨S1x507x2, .f32⟩
  | 55 => ⟨S_, .f32⟩
  | 56 => ⟨S1x507x2, .f32⟩
  | 57 => ⟨S1x507x2, .f32⟩
  | 58 => ⟨S1x507x2, .f32⟩
  | 59 => ⟨S1x507x4, .f32⟩
  | 60 => ⟨S507x4, .f32⟩
  | 61 => ⟨S1x507x80, .f32⟩
  | 62 => ⟨S1x507x80, .f32⟩
  | 63 => ⟨S507x80, .f32⟩
  | 64 => ⟨S10647x4, .f32⟩
  | 65 => ⟨S10647x80, .f32⟩
  | 66 => ⟨S80x10647, .f32⟩
  | 67 => ⟨S80x100, .f32⟩
  | 68 => ⟨S80x100, .i32⟩
  | 69 => ⟨S_, .i32⟩
  | 70 => ⟨S80x100, .i32⟩
  | 71 => ⟨S80x100, .i1⟩
  | 72 => ⟨S_, .i32⟩
  | 73 => ⟨S80x100, .i32⟩
  | 74 => ⟨S80x100, .i32⟩
  | 75 => ⟨S80x100, .i32⟩
  | 76 => ⟨S80x100x1, .i32⟩
  | 77 => ⟨S80x100x4, .f32⟩
  | 78 => ⟨S80x100x1, .f32⟩
  | 79 => ⟨S80x100, .f32⟩
  | 80 => ⟨S80x100x1, .f32⟩
  | 81 => ⟨S80x100, .f32⟩
  | 82 => ⟨S80x100, .f32⟩
  | 83 => ⟨S80x100x1, .f32⟩
  | 84 => ⟨S80x100, .f32⟩
  | 85 => ⟨S80x100x1, .f32⟩
  | 86 => ⟨S80x100, .f32⟩
  | 87 => ⟨S80x100, .f32⟩
  | 88 => ⟨S80x100, .f32⟩
  | 89 => ⟨S100, .i32⟩
  | 90 => ⟨S_, .i1⟩
  | 91 => ⟨S80x100, .i1⟩
  | 92 => ⟨S_, .i1⟩
  | 93 => ⟨S80x100, .i1⟩
  | 94 => ⟨S_, .i32⟩
  | 95 => ⟨S_, .i32⟩
  | 96 => ⟨S80x100x4, .f32⟩
  | 97 => ⟨S80x100, .f32⟩
  | 98 => ⟨S80x100, .f32⟩
  | 99 => ⟨S100, .i32⟩
  | 100 => ⟨S_, .i32⟩
  | 101 => ⟨S_, .i32⟩
  | 102 => ⟨S80x100, .i1⟩
  | 103 => ⟨S80x100, .i1⟩
  | 104 => ⟨S_, .i32⟩
  | 105 => ⟨S_, .i1⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S80x1x4, .f32⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S80x1, .f32⟩
  | 125 => ⟨S_, .i32⟩
  | 126 => ⟨S_, .i1⟩
  | 127 => ⟨S_, .i32⟩
  | _ => ⟨S1x52x52x255, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S80x1, .f32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S80x1, .i1⟩
  | 13 => ⟨S80x1, .i1⟩
  | 14 => ⟨S_, .f32⟩
  | 15 => ⟨S80x1, .f32⟩
  | 16 => ⟨S80x1, .i1⟩
  | 17 => ⟨S80x1, .i1⟩
  | 18 => ⟨S_, .i32⟩
  | 19 => ⟨S100, .i32⟩
  | 20 => ⟨S100, .i1⟩
  | 21 => ⟨S80x100, .i1⟩
  | 22 => ⟨S80x100, .i1⟩
  | 23 => ⟨S80x100, .i1⟩
  | 24 => ⟨S80x1x1, .f32⟩
  | 25 => ⟨S80x1, .f32⟩
  | 26 => ⟨S80x100x1, .f32⟩
  | 27 => ⟨S80x100, .f32⟩
  | 28 => ⟨S80x100, .f32⟩
  | 29 => ⟨S80x100, .f32⟩
  | 30 => ⟨S80x1x1, .f32⟩
  | 31 => ⟨S80x1, .f32⟩
  | 32 => ⟨S80x100x1, .f32⟩
  | 33 => ⟨S80x100, .f32⟩
  | 34 => ⟨S80x100, .f32⟩
  | 35 => ⟨S80x100, .f32⟩
  | 36 => ⟨S80x1x1, .f32⟩
  | 37 => ⟨S80x1, .f32⟩
  | 38 => ⟨S80x100x1, .f32⟩
  | 39 => ⟨S80x100, .f32⟩
  | 40 => ⟨S80x100, .f32⟩
  | 41 => ⟨S80x100, .f32⟩
  | 42 => ⟨S80x1x1, .f32⟩
  | 43 => ⟨S80x1, .f32⟩
  | 44 => ⟨S80x100x1, .f32⟩
  | 45 => ⟨S80x100, .f32⟩
  | 46 => ⟨S80x100, .f32⟩
  | 47 => ⟨S80x100, .f32⟩
  | 48 => ⟨S80x100, .f32⟩
  | 49 => ⟨S_, .f32⟩
  | 50 => ⟨S80x100, .f32⟩
  | 51 => ⟨S80x100, .f32⟩
  | 52 => ⟨S80x100, .f32⟩
  | 53 => ⟨S_, .f32⟩
  | 54 => ⟨S80x100, .f32⟩
  | 55 => ⟨S80x100, .f32⟩
  | 56 => ⟨S80x100, .f32⟩
  | 57 => ⟨S80x100, .f32⟩
  | 58 => ⟨S80x100, .f32⟩
  | 59 => ⟨S80x100, .f32⟩
  | 60 => ⟨S_, .f32⟩
  | 61 => ⟨S80x100, .f32⟩
  | 62 => ⟨S80x100, .f32⟩
  | 63 => ⟨S80x100, .f32⟩
  | 64 => ⟨S_, .f32⟩
  | 65 => ⟨S80x100, .f32⟩
  | 66 => ⟨S80x100, .i1⟩
  | 67 => ⟨S_, .i32⟩
  | 68 => ⟨S100, .i32⟩
  | 69 => ⟨S100, .i1⟩
  | 70 => ⟨S1x100, .i1⟩
  | 71 => ⟨S80x100, .i1⟩
  | 72 => ⟨S80x100, .i1⟩
  | 73 => ⟨S80x100, .i1⟩
  | 74 => ⟨S80x100, .i1⟩
  | 75 => ⟨S80x100, .i1⟩
  | 76 => ⟨S_, .i32⟩
  | 77 => ⟨S_, .i32⟩
  | 78 => ⟨S_, .f32⟩
  | 79 => ⟨S_, .f32⟩
  | 80 => ⟨S80x100, .f32⟩
  | 81 => ⟨S80x100, .f32⟩
  | 82 => ⟨S80, .i32⟩
  | 83 => ⟨S80x1, .i32⟩
  | 84 => ⟨S80x100, .i32⟩
  | 85 => ⟨S8000, .f32⟩
  | 86 => ⟨S8000x4, .f32⟩
  | 87 => ⟨S8000, .i32⟩
  | 88 => ⟨S100, .f32⟩
  | 89 => ⟨S100, .i32⟩
  | 90 => ⟨S_, .i32⟩
  | 91 => ⟨S100, .i32⟩
  | 92 => ⟨S100, .i1⟩
  | 93 => ⟨S_, .i32⟩
  | 94 => ⟨S100, .i32⟩
  | 95 => ⟨S100, .i32⟩
  | 96 => ⟨S100, .i32⟩
  | 97 => ⟨S100x1, .i32⟩
  | 98 => ⟨S100x4, .f32⟩
  | 99 => ⟨S_, .i32⟩
  | 100 => ⟨S100, .i32⟩
  | 101 => ⟨S100, .i1⟩
  | 102 => ⟨S_, .i32⟩
  | 103 => ⟨S100, .i32⟩
  | 104 => ⟨S100, .i32⟩
  | 105 => ⟨S100, .i32⟩
  | 106 => ⟨S100x1, .i32⟩
  | 107 => ⟨S100, .i32⟩
  | _ => ⟨S1x52x52x255, .f32⟩

abbrev hbmTy (i : Nat) : BufTy := match i / 128 with
  | 0 => hbmTy0_0 i
  | 1 => hbmTy0_1 i
  | 2 => hbmTy0_2 i
  | _ => ⟨S1x52x52x255, .f32⟩

abbrev bufTy : (tb : Table) → Fin (tcTables nBuf tb) → BufTy
  | .hbm, ⟨i, _⟩ => hbmTy i
  | _, _ => ⟨S1x52x52x255, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_cst_9 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_10 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_15 : Ref sig .tc := ⟨.hbm, 101, rfl⟩
abbrev main_v82 : Ref sig .tc := ⟨.hbm, 102, rfl⟩
abbrev main_v83 : Ref sig .tc := ⟨.hbm, 103, rfl⟩
abbrev main_cst_16 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_17 : Ref sig .tc := ⟨.hbm, 114, rfl⟩
abbrev main_v93 : Ref sig .tc := ⟨.hbm, 115, rfl⟩
abbrev main_v94 : Ref sig .tc := ⟨.hbm, 116, rfl⟩
abbrev main_cst_18 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_19 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_20 : Ref sig .tc := ⟨.hbm, 136, rfl⟩
abbrev main_v112 : Ref sig .tc := ⟨.hbm, 137, rfl⟩
abbrev main_v113 : Ref sig .tc := ⟨.hbm, 138, rfl⟩
abbrev main_cst_21 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_cst_22 : Ref sig .tc := ⟨.hbm, 145, rfl⟩
abbrev main_v119 : Ref sig .tc := ⟨.hbm, 146, rfl⟩
abbrev main_v120 : Ref sig .tc := ⟨.hbm, 147, rfl⟩
abbrev main_cst_23 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_cst_24 : Ref sig .tc := ⟨.hbm, 163, rfl⟩
abbrev main_v135 : Ref sig .tc := ⟨.hbm, 164, rfl⟩
abbrev main_v136 : Ref sig .tc := ⟨.hbm, 165, rfl⟩
abbrev main_cst_25 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_cst_26 : Ref sig .tc := ⟨.hbm, 176, rfl⟩
abbrev main_v146 : Ref sig .tc := ⟨.hbm, 177, rfl⟩
abbrev main_v147 : Ref sig .tc := ⟨.hbm, 178, rfl⟩
abbrev main_cst_27 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_cst_28 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_values : Ref sig .tc := ⟨.hbm, 195, rfl⟩
abbrev main_indices : Ref sig .tc := ⟨.hbm, 196, rfl⟩
abbrev main_c : Ref sig .tc := ⟨.hbm, 197, rfl⟩
abbrev main_v162 : Ref sig .tc := ⟨.hbm, 198, rfl⟩
abbrev main_v163 : Ref sig .tc := ⟨.hbm, 199, rfl⟩
abbrev main_c_29 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_c_30 : Ref sig .tc := ⟨.hbm, 218, rfl⟩
abbrev main_v181 : Ref sig .tc := ⟨.hbm, 219, rfl⟩
abbrev main_c_31 : Ref sig .tc := ⟨.hbm, 220, rfl⟩
abbrev main_v182 : Ref sig .tc := ⟨.hbm, 221, rfl⟩
abbrev main_c_32 : Ref sig .tc := ⟨.hbm, 222, rfl⟩
abbrev main_c_33 : Ref sig .tc := ⟨.hbm, 223, rfl⟩
abbrev main_v183_0 : Ref sig .tc := ⟨.hbm, 224, rfl⟩
abbrev main_v183_1 : Ref sig .tc := ⟨.hbm, 225, rfl⟩
abbrev main_v183_2 : Ref sig .tc := ⟨.hbm, 226, rfl⟩
abbrev main_v183_3 : Ref sig .tc := ⟨.hbm, 227, rfl⟩
abbrev main_v183_4 : Ref sig .tc := ⟨.hbm, 228, rfl⟩
abbrev main_v183_5 : Ref sig .tc := ⟨.hbm, 229, rfl⟩
abbrev main_v183_6 : Ref sig .tc := ⟨.hbm, 230, rfl⟩
abbrev main_v183_7 : Ref sig .tc := ⟨.hbm, 231, rfl⟩
abbrev main_while0c_c_48 : Ref sig .tc := ⟨.hbm, 232, rfl⟩
abbrev main_while0c_v205 : Ref sig .tc := ⟨.hbm, 233, rfl⟩
abbrev main_while0b_c_48 : Ref sig .tc := ⟨.hbm, 234, rfl⟩
abbrev main_while0b_v205 : Ref sig .tc := ⟨.hbm, 235, rfl⟩
abbrev main_while0b_c_49 : Ref sig .tc := ⟨.hbm, 236, rfl⟩
abbrev main_while0b_v206 : Ref sig .tc := ⟨.hbm, 237, rfl⟩
abbrev main_while0b_v207 : Ref sig .tc := ⟨.hbm, 238, rfl⟩
abbrev main_while0b_c_50 : Ref sig .tc := ⟨.hbm, 239, rfl⟩
abbrev main_while0b_v208 : Ref sig .tc := ⟨.hbm, 240, rfl⟩
abbrev main_while0b_v209 : Ref sig .tc := ⟨.hbm, 241, rfl⟩
abbrev main_while0b_c_51 : Ref sig .tc := ⟨.hbm, 242, rfl⟩
abbrev main_while0b_c_52 : Ref sig .tc := ⟨.hbm, 243, rfl⟩
abbrev main_while0b_v210 : Ref sig .tc := ⟨.hbm, 244, rfl⟩
abbrev main_while0b_c_53 : Ref sig .tc := ⟨.hbm, 245, rfl⟩
abbrev main_while0b_v211 : Ref sig .tc := ⟨.hbm, 246, rfl⟩
abbrev main_while0b_v212 : Ref sig .tc := ⟨.hbm, 247, rfl⟩
abbrev main_while0b_c_54 : Ref sig .tc := ⟨.hbm, 248, rfl⟩
abbrev main_while0b_v213 : Ref sig .tc := ⟨.hbm, 249, rfl⟩
abbrev main_while0b_v214 : Ref sig .tc := ⟨.hbm, 250, rfl⟩
abbrev main_while0b_c_55 : Ref sig .tc := ⟨.hbm, 251, rfl⟩
abbrev main_while0b_v215 : Ref sig .tc := ⟨.hbm, 252, rfl⟩
abbrev main_while0b_c_56 : Ref sig .tc := ⟨.hbm, 253, rfl⟩
abbrev main_while0b_v216 : Ref sig .tc := ⟨.hbm, 254, rfl⟩
abbrev main_while0b_v217 : Ref sig .tc := ⟨.hbm, 255, rfl⟩
abbrev main_while0b_c_57 : Ref sig .tc := ⟨.hbm, 256, rfl⟩
abbrev main_while0b_v218 : Ref sig .tc := ⟨.hbm, 257, rfl⟩
abbrev main_while0b_v219 : Ref sig .tc := ⟨.hbm, 258, rfl⟩
abbrev main_while0b_c_58 : Ref sig .tc := ⟨.hbm, 259, rfl⟩
abbrev main_while0b_v220 : Ref sig .tc := ⟨.hbm, 260, rfl⟩
abbrev main_while0b_c_59 : Ref sig .tc := ⟨.hbm, 261, rfl⟩
abbrev main_while0b_v221 : Ref sig .tc := ⟨.hbm, 262, rfl⟩
abbrev main_while0b_v222 : Ref sig .tc := ⟨.hbm, 263, rfl⟩
abbrev main_while0b_c_60 : Ref sig .tc := ⟨.hbm, 264, rfl⟩
abbrev main_while0b_v223 : Ref sig .tc := ⟨.hbm, 265, rfl⟩
abbrev main_while0b_v224 : Ref sig .tc := ⟨.hbm, 266, rfl⟩
abbrev main_while0b_c_61 : Ref sig .tc := ⟨.hbm, 267, rfl⟩
abbrev main_while0b_v225 : Ref sig .tc := ⟨.hbm, 268, rfl⟩
abbrev main_while0b_v226 : Ref sig .tc := ⟨.hbm, 269, rfl⟩
abbrev main_while0b_cst_62 : Ref sig .tc := ⟨.hbm, 270, rfl⟩
abbrev main_while0b_v227 : Ref sig .tc := ⟨.hbm, 271, rfl⟩
abbrev main_while0b_v228 : Ref sig .tc := ⟨.hbm, 272, rfl⟩
abbrev main_while0b_v229 : Ref sig .tc := ⟨.hbm, 273, rfl⟩
abbrev main_while0b_v230 : Ref sig .tc := ⟨.hbm, 274, rfl⟩
abbrev main_while0b_v231 : Ref sig .tc := ⟨.hbm, 275, rfl⟩
abbrev main_while0b_v232 : Ref sig .tc := ⟨.hbm, 276, rfl⟩
abbrev main_while0b_call0_v0 : Ref sig .tc := ⟨.hbm, 277, rfl⟩
abbrev main_while0b_call0_v1 : Ref sig .tc := ⟨.hbm, 278, rfl⟩
abbrev main_while0b_v233 : Ref sig .tc := ⟨.hbm, 279, rfl⟩
abbrev main_while0b_v234 : Ref sig .tc := ⟨.hbm, 280, rfl⟩
abbrev main_while0b_v235 : Ref sig .tc := ⟨.hbm, 281, rfl⟩
abbrev main_while0b_v236 : Ref sig .tc := ⟨.hbm, 282, rfl⟩
abbrev main_while0b_v237 : Ref sig .tc := ⟨.hbm, 283, rfl⟩
abbrev main_while0b_v238 : Ref sig .tc := ⟨.hbm, 284, rfl⟩
abbrev main_while0b_v239 : Ref sig .tc := ⟨.hbm, 285, rfl⟩
abbrev main_while0b_v240 : Ref sig .tc := ⟨.hbm, 286, rfl⟩
abbrev main_while0b_v241 : Ref sig .tc := ⟨.hbm, 287, rfl⟩
abbrev main_while0b_v242 : Ref sig .tc := ⟨.hbm, 288, rfl⟩
abbrev main_while0b_v243 : Ref sig .tc := ⟨.hbm, 289, rfl⟩
abbrev main_while0b_v244 : Ref sig .tc := ⟨.hbm, 290, rfl⟩
abbrev main_while0b_v245 : Ref sig .tc := ⟨.hbm, 291, rfl⟩
abbrev main_while0b_v246 : Ref sig .tc := ⟨.hbm, 292, rfl⟩
abbrev main_while0b_v247 : Ref sig .tc := ⟨.hbm, 293, rfl⟩
abbrev main_while0b_v248 : Ref sig .tc := ⟨.hbm, 294, rfl⟩
abbrev main_while0b_v249 : Ref sig .tc := ⟨.hbm, 295, rfl⟩
abbrev main_while0b_v250 : Ref sig .tc := ⟨.hbm, 296, rfl⟩
abbrev main_while0b_v251 : Ref sig .tc := ⟨.hbm, 297, rfl⟩
abbrev main_while0b_v252 : Ref sig .tc := ⟨.hbm, 298, rfl⟩
abbrev main_while0b_v253 : Ref sig .tc := ⟨.hbm, 299, rfl⟩
abbrev main_while0b_v254 : Ref sig .tc := ⟨.hbm, 300, rfl⟩
abbrev main_while0b_v255 : Ref sig .tc := ⟨.hbm, 301, rfl⟩
abbrev main_while0b_v256 : Ref sig .tc := ⟨.hbm, 302, rfl⟩
abbrev main_while0b_v257 : Ref sig .tc := ⟨.hbm, 303, rfl⟩
abbrev main_while0b_v258 : Ref sig .tc := ⟨.hbm, 304, rfl⟩
abbrev main_while0b_cst_63 : Ref sig .tc := ⟨.hbm, 305, rfl⟩
abbrev main_while0b_v259 : Ref sig .tc := ⟨.hbm, 306, rfl⟩
abbrev main_while0b_v260 : Ref sig .tc := ⟨.hbm, 307, rfl⟩
abbrev main_while0b_v261 : Ref sig .tc := ⟨.hbm, 308, rfl⟩
abbrev main_while0b_cst_64 : Ref sig .tc := ⟨.hbm, 309, rfl⟩
abbrev main_while0b_v262 : Ref sig .tc := ⟨.hbm, 310, rfl⟩
abbrev main_while0b_v263 : Ref sig .tc := ⟨.hbm, 311, rfl⟩
abbrev main_while0b_v264 : Ref sig .tc := ⟨.hbm, 312, rfl⟩
abbrev main_while0b_v265 : Ref sig .tc := ⟨.hbm, 313, rfl⟩
abbrev main_while0b_v266 : Ref sig .tc := ⟨.hbm, 314, rfl⟩
abbrev main_while0b_v267 : Ref sig .tc := ⟨.hbm, 315, rfl⟩
abbrev main_while0b_cst_65 : Ref sig .tc := ⟨.hbm, 316, rfl⟩
abbrev main_while0b_v268 : Ref sig .tc := ⟨.hbm, 317, rfl⟩
abbrev main_while0b_v269 : Ref sig .tc := ⟨.hbm, 318, rfl⟩
abbrev main_while0b_v270 : Ref sig .tc := ⟨.hbm, 319, rfl⟩
abbrev main_while0b_cst_66 : Ref sig .tc := ⟨.hbm, 320, rfl⟩
abbrev main_while0b_v271 : Ref sig .tc := ⟨.hbm, 321, rfl⟩
abbrev main_while0b_v272 : Ref sig .tc := ⟨.hbm, 322, rfl⟩
abbrev main_while0b_v273 : Ref sig .tc := ⟨.hbm, 323, rfl⟩
abbrev main_while0b_v274 : Ref sig .tc := ⟨.hbm, 324, rfl⟩
abbrev main_while0b_v275 : Ref sig .tc := ⟨.hbm, 325, rfl⟩
abbrev main_while0b_v276 : Ref sig .tc := ⟨.hbm, 326, rfl⟩
abbrev main_while0b_v277 : Ref sig .tc := ⟨.hbm, 327, rfl⟩
abbrev main_while0b_v278 : Ref sig .tc := ⟨.hbm, 328, rfl⟩
abbrev main_while0b_v279 : Ref sig .tc := ⟨.hbm, 329, rfl⟩
abbrev main_while0b_v280 : Ref sig .tc := ⟨.hbm, 330, rfl⟩
abbrev main_while0b_v281 : Ref sig .tc := ⟨.hbm, 331, rfl⟩
abbrev main_while0b_c_67 : Ref sig .tc := ⟨.hbm, 332, rfl⟩
abbrev main_while0b_v282 : Ref sig .tc := ⟨.hbm, 333, rfl⟩
abbrev main_cst_34 : Ref sig .tc := ⟨.hbm, 334, rfl⟩
abbrev main_call1_v0 : Ref sig .tc := ⟨.hbm, 335, rfl⟩
abbrev main_call1_v1 : Ref sig .tc := ⟨.hbm, 336, rfl⟩
abbrev main_v184 : Ref sig .tc := ⟨.hbm, 337, rfl⟩
abbrev main_v185 : Ref sig .tc := ⟨.hbm, 338, rfl⟩
abbrev main_v186 : Ref sig .tc := ⟨.hbm, 339, rfl⟩
abbrev main_v187 : Ref sig .tc := ⟨.hbm, 340, rfl⟩
abbrev main_v188 : Ref sig .tc := ⟨.hbm, 341, rfl⟩
abbrev main_v189 : Ref sig .tc := ⟨.hbm, 342, rfl⟩
abbrev main_v190 : Ref sig .tc := ⟨.hbm, 343, rfl⟩
abbrev main_values_35 : Ref sig .tc := ⟨.hbm, 344, rfl⟩
abbrev main_indices_36 : Ref sig .tc := ⟨.hbm, 345, rfl⟩
abbrev main_c_37 : Ref sig .tc := ⟨.hbm, 346, rfl⟩
abbrev main_v191 : Ref sig .tc := ⟨.hbm, 347, rfl⟩
abbrev main_v192 : Ref sig .tc := ⟨.hbm, 348, rfl⟩
abbrev main_c_38 : Ref sig .tc := ⟨.hbm, 349, rfl⟩
abbrev main_v193 : Ref sig .tc := ⟨.hbm, 350, rfl⟩
abbrev main_v194 : Ref sig .tc := ⟨.hbm, 351, rfl⟩
abbrev main_v195 : Ref sig .tc := ⟨.hbm, 352, rfl⟩
abbrev main_v196 : Ref sig .tc := ⟨.hbm, 353, rfl⟩
abbrev main_v197 : Ref sig .tc := ⟨.hbm, 354, rfl⟩
abbrev main_c_39 : Ref sig .tc := ⟨.hbm, 355, rfl⟩
abbrev main_v198 : Ref sig .tc := ⟨.hbm, 356, rfl⟩
abbrev main_v199 : Ref sig .tc := ⟨.hbm, 357, rfl⟩
abbrev main_c_40 : Ref sig .tc := ⟨.hbm, 358, rfl⟩
abbrev main_v200 : Ref sig .tc := ⟨.hbm, 359, rfl⟩
abbrev main_v201 : Ref sig .tc := ⟨.hbm, 360, rfl⟩
abbrev main_v202 : Ref sig .tc := ⟨.hbm, 361, rfl⟩
abbrev main_v203 : Ref sig .tc := ⟨.hbm, 362, rfl⟩
abbrev main_v204 : Ref sig .tc := ⟨.hbm, 363, rfl⟩

abbrev nD : Nat := 1
abbrev τ : Topo := Topo.v7x

variable {F : FTy → Type} [FloatOps F]

abbrev main_while0_count : Scf.Loop 32 := ⟨0#32, 100#32, 1#32⟩
-- ==== Proof.KernelIdealModel.lean ====
/- What the loops of `KernelIdeal` compute, as functions of whole arrays: the decoded scores and boxes, one scan over
   the scores, one gathering of a box, one round of the extraction, and the merge. -/
module

public import proofs.«01_k».proof.Proof.Gen.KernelIdeal.Loops
public import Idealize.ShloMosaic.Lib.VecWindow

@[expose] public section

set_option maxRecDepth 8192
set_option maxHeartbeats 2000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.Proof.KernelIdeal

open Cert.KernelIdeal VecWindow

variable {F : FTy → Type} [FloatOps F]

abbrev FV (F : FTy → Type) : Type := FVec F S80x128 .f32
abbrev FS (F : FTy → Type) : Type := FVec F S80x10752 .f32
abbrev FB (F : FTy → Type) : Type := FVec F S8x10752 .f32
abbrev IV : Type := IVec S80x128 32
/-- The pair one scan carries, and one round carries. -/
abbrev Acc (F : FTy → Type) : Type := FV F × IV

theorem inbS {k : ℕ} (h : k < 84) : ∀ a, (![0, 128 * k] : Fin 2 → ℕ) a + (![80, 128] : Fin 2 → ℕ) a ≤ S80x10752.size a :=
  Fin.forall_fin_two.mpr ⟨by show 0 + 80 ≤ 80; omega, by show 128 * k + 128 ≤ 10752; omega⟩
theorem inbB {k : ℕ} (h : k < 84) : ∀ a, (![0, 128 * k] : Fin 2 → ℕ) a + (![8, 128] : Fin 2 → ℕ) a ≤ S8x10752.size a :=
  Fin.forall_fin_two.mpr ⟨by show 0 + 8 ≤ 8; omega, by show 128 * k + 128 ≤ 10752; omega⟩

theorem trips1 : k0_t1_loop.trips = 84 := by decide +kernel
theorem trips2 : k0_t2_loop.trips = 100 := by decide +kernel
theorem trips3 : k0_t3_loop.trips = 84 := by decide +kernel
theorem trips4 : k0_t4_loop.trips = 84 := by decide +kernel
theorem trips5 : k0_t5_loop.trips = 100 := by decide +kernel

/-- The `k`-th block of 128 lanes of a score array, of a box array. -/
def blkS (S : FS F) (k : ℕ) (h : k < 84) : FV F := window S ![0, 128 * k] ![80, 128] (inbS h)
def blkB (B : FB F) (k : ℕ) (h : k < 84) : FVec F S8x128 .f32 := window B ![0, 128 * k] ![8, 128] (inbB h)

/-- The scores the first loop stores in block `k`. -/
def scoreBlk (X0 : FS F) (X1 X2 : FB F) (k : ℕ) (h : k < 84) : FV F :=
  Gen.k0_pay10 (blkS X0 k h) (blkB X1 k h) (blkB X2 k h)
/-- The boxes the first loop stores in block `k`. -/
def boxBlk (X1 X2 : FB F) (k : ℕ) (h : k < 84) : FVec F S8x128 .f32 :=
  Gen.k0_pay52 (Gen.k0_pay11 (blkB X1 k h) (blkB X2 k h)) (Gen.k0_pay12 (blkB X1 k h) (blkB X2 k h)) (Gen.k0_pay13 (blkB X1 k h) (blkB X2 k h))
    (Gen.k0_pay14 (blkB X1 k h) (blkB X2 k h)) (Gen.k0_pay15 (blkB X1 k h) (blkB X2 k h)) (Scalar.ofBits .f32 0x40000000#32)

theorem blk_lt {a : ℕ} {n : ℕ} (h : a < 10752) (e : n = a / 128) : n < 84 := by omega

/-- The whole score array the first loop leaves. -/
def scoreAll (X0 : FS F) (X1 X2 : FB F) : FS F := fun y =>
  scoreBlk X0 X1 X2 ((y 1).val / 128) (blk_lt (y 1).isLt rfl) (fun a => match a with | 0 => y 0 | 1 => ⟨(y 1).val % 128, Nat.mod_lt _ (by decide)⟩)
/-- The whole box array the first loop leaves. -/
def boxAll (X1 X2 : FB F) : FB F := fun y =>
  boxBlk X1 X2 ((y 1).val / 128) (blk_lt (y 1).isLt rfl) (fun a => match a with | 0 => y 0 | 1 => ⟨(y 1).val % 128, Nat.mod_lt _ (by decide)⟩)

/-- One block of a scan: the running maximum and its block in every lane, and the scores with the last index marked. -/
def scanStep (v0 g : IV) (k : ℕ) (p : Acc F × FS F) : Acc F × FS F :=
  if h : k < 84 then
    ((Gen.k0_pay21 v0 g ⟨k, trips3 ▸ h⟩ p.1.1 (blkS p.2 k h), Gen.k0_pay22 v0 g ⟨k, trips3 ▸ h⟩ p.1.1 p.1.2 (blkS p.2 k h)),
      put p.2 ![0, 128 * k] ![80, 128] (Gen.k0_pay19 v0 g ⟨k, trips3 ▸ h⟩ (blkS p.2 k h)))
  else p

/-- The scan over the first `n` blocks. -/
def scan (v0 g : IV) (init : Acc F) (S : FS F) : ℕ → Acc F × FS F
  | 0 => (init, S)
  | n + 1 => scanStep v0 g n (scan v0 g init S n)

/-- One block of the gathering: every class adds the lane it looks for, if the lane is in this block. -/
def gathStep (v0 : IV) (vm : FV F) (gi : IV) (B : FB F) (k : ℕ) (p : FV F × FV F × FV F × FV F) : FV F × FV F × FV F × FV F :=
  if h : k < 84 then
    (Gen.k0_pay26 v0 1073741824#32 vm gi ⟨k, trips4 ▸ h⟩ p.1 (blkB B k h), Gen.k0_pay27 v0 1073741824#32 vm gi ⟨k, trips4 ▸ h⟩ p.2.1 (blkB B k h),
      Gen.k0_pay28 v0 1073741824#32 vm gi ⟨k, trips4 ▸ h⟩ p.2.2.1 (blkB B k h), Gen.k0_pay29 v0 1073741824#32 vm gi ⟨k, trips4 ▸ h⟩ p.2.2.2 (blkB B k h))
  else p

/-- The gathering over the first `n` blocks. -/
def gath (v0 : IV) (vm : FV F) (gi : IV) (B : FB F) : ℕ → FV F × FV F × FV F × FV F
  | 0 => (Gen.k0_pay54, Gen.k0_pay54, Gen.k0_pay54, Gen.k0_pay54)
  | n + 1 => gathStep v0 vm gi B n (gath v0 vm gi B n)

/-- What a round of the extraction starts from: the carried pair, the scores left and the table of the slots filled. -/
structure St (F : FTy → Type) where
  acc : Acc F
  S : FS F
  ts : FV F
  x1 : FV F
  y1 : FV F
  x2 : FV F
  y2 : FV F
  ar : FV F

/-- One round of the extraction. -/
def roundK (v0 : IV) (B : FB F) (k : ℕ) (s : St F) : St F :=
  let sc := scan v0 s.acc.2 (Gen.k0_pay16, Gen.k0_pay17) s.S 84
  let xs := gath v0 sc.1.1 sc.1.2 B 84
  let m := Gen.k0_pay23 sc.1.1
  let bx := Gen.k0_pay30 xs.1
  let b1 := Gen.k0_pay31 xs.2.1
  let b2 := Gen.k0_pay32 xs.2.2.1
  let b3 := Gen.k0_pay33 xs.2.2.2
  let area := Gen.k0_pay34 xs.1 xs.2.1 xs.2.2.1 xs.2.2.2
  let col := Gen.k0_pay36 v0 (Scf.iv 0#32 1#32 k)
  let ok := Gen.k0_pay37 s.acc.1 m b1 b2 b3 area s.x1 (Gen.k0_pay35 xs.1) s.y1 s.x2 s.y2 s.ar
  { acc := (Gen.k0_pay38 s.acc.1 col ok, Gen.k0_pay24 v0 1073741824#32 sc.1.1 sc.1.2),
     S := sc.2,
     ts := Gen.k0_pay39 m col s.ts,
     x1 := Gen.k0_pay40 bx col s.x1,
     y1 := Gen.k0_pay41 b1 col s.y1,
     x2 := Gen.k0_pay42 b2 col s.x2,
     y2 := Gen.k0_pay62 (Gen.k0_pay43 b3 col s.y2),
     ar := Gen.k0_pay63 area col s.ar }

/-- The first `n` rounds. -/
def rounds (v0 : IV) (B : FB F) (s : St F) : ℕ → St F
  | 0 => s
  | n + 1 => roundK v0 B n (rounds v0 B s n)

def lanes : IV := iota .tc S80x128 32 [1] Gen.iota_S80x128_d1_w32
def rows : IV := iota .tc S80x128 32 [0] Gen.iota_S80x128_d0_w32

/-- What the extraction starts from. -/
def startK (S : FS F) : St F :=
  { acc := (Gen.k0_pay60, Gen.k0_pay61), S := S, ts := Gen.k0_pay53, x1 := Gen.k0_pay55, y1 := Gen.k0_pay56, x2 := Gen.k0_pay57, y2 := Gen.k0_pay58, ar := Gen.k0_pay59 }

/-- What the merge carries: the scores left, and the three results so far. -/
abbrev Mg (F : FTy → Type) : Type := FV F × FVec F S8x128 .f32 × FVec F S8x128 .f32 × IVec S8x128 32

/-- One round of the merge. -/
def mergeStep (s : St F) (k : ℕ) (p : Mg F) : Mg F :=
  (Gen.k0_pay8 p.1 (Gen.k0_pay47 lanes rows 1073741824#32 p.1),
   Gen.k0_pay5 p.2.1 (Scf.iv 0#32 1#32 k) (Gen.k0_pay44 p.1),
   Gen.k0_pay7 p.2.2.1 (Scf.iv 0#32 1#32 k) (Gen.k0_pay48 lanes rows 1073741824#32 p.1) (Gen.k0_pay49 lanes rows 1073741824#32 p.1 s.x1)
     (Gen.k0_pay50 lanes rows 1073741824#32 p.1 s.y1) (Gen.k0_pay51 lanes rows 1073741824#32 p.1 s.x2) s.y2,
   Gen.k0_pay6 p.2.2.2 (Scf.iv 0#32 1#32 k) (extractAt ![0, 0, 0] (Gen.k0_pay46 rows 1073741824#32 p.1) Gen.inpos_S1x1x1_p0_0_0))

/-- The first `n` rounds of the merge. -/
def merge (s : St F) (init : Mg F) : ℕ → Mg F
  | 0 => init
  | n + 1 => mergeStep s n (merge s init n)

/-- The kernel's three results, from its three inputs. -/
def lastSt (X0 : FS F) (X1 X2 : FB F) : St F := rounds lanes (boxAll X1 X2) (startK (scoreAll X0 X1 X2)) 100
def mergeStart (s : St F) : Mg F := (Gen.k0_pay1 lanes s.acc.1 (Scalar.ofBits .f32 0x3F000000#32) s.ts, Gen.k0_pay2, Gen.k0_pay2, Gen.k0_pay3)
def outK (X0 : FS F) (X1 X2 : FB F) : Mg F := merge (lastSt X0 X1 X2) (mergeStart (lastSt X0 X1 X2)) 100

end Cert.Proof.KernelIdeal

end
-- ==== Proof.KernelIdealExtract.lean ====
/- One round of the extraction loop of `KernelIdeal`: what it leaves in the buffers it writes, and the loop's invariant. -/
module

public import proofs.«01_k».proof.Proof.KernelIdealModel

@[expose] public section

set_option maxRecDepth 8192
set_option maxHeartbeats 2000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.Proof.KernelIdeal

open Cert.KernelIdeal

variable {F : FTy → Type} [FloatOps F]

local notation "𝕄K" => MT nD τ sig Unit (Elt F) ℕ (UR sig nD τ) ℕ

/-- The buffers a round of the extraction touches. -/
abbrev Res (c : Dev nD) (arg6 : Memref sig .tc .vmem S80x10752 .f32) (arg7 : Memref sig .tc .vmem S8x10752 .f32) (arg8 : Memref sig .tc .vmem S80x128 .f32) (arg9 : Memref sig .tc .vmem S80x128 .f32) (arg10 : Memref sig .tc .vmem S80x128 .f32) (arg11 : Memref sig .tc .vmem S80x128 .f32) (arg12 : Memref sig .tc .vmem S80x128 .f32) (arg13 : Memref sig .tc .vmem S80x128 .f32) (X7 : BufTy.Contents (Elt F) arg7.view.ty) (f6 : BufTy.Contents (Elt F) arg6.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) : sProp 𝕄K :=
  iprop((arg7.view.loc (c : Thread nD τ) ↦[arg7.view.set]{fullShare} X7) ∗ (arg6.view.loc (c : Thread nD τ) ↦[arg6.view.set]{fullShare} f6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))

set_option maxHeartbeats 4000000 in
/-- One round of the extraction: what it carries on and the pieces it writes, found by running it. -/
@[irreducible] def trip (𝒱 : Variants) (c : Dev nD) (bd : Option 𝒱.V) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (v0 : IVec S80x128 32) (X7 : BufTy.Contents (Elt F) arg7.view.ty) (k : Fin k0_t2_loop.trips) :
    Σ' (R : (Acc F → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → Acc F)) (L6 : (Acc F → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S80x10752 .f32))) (L8 : (Acc F → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S80x128 .f32))) (L9 : (Acc F → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S80x128 .f32))) (L10 : (Acc F → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S80x128 .f32))) (L11 : (Acc F → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S80x128 .f32))) (L12 : (Acc F → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S80x128 .f32))) , { L13 : (Acc F → BufTy.Contents (Elt F) arg6.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S80x128 .f32)) // ∀ (E : Set ℕ) (acc : Acc F) (f6 : BufTy.Contents (Elt F) arg6.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty),
      Res (F := F) c arg6 arg7 arg8 arg9 arg10 arg11 arg12 arg13 X7 f6 f8 f9 f10 f11 f12 f13
      ⊢ wp frame (wpE (defs₀ (F := F)) 𝒱 (c : Thread nD τ) bd) E (Gen.k0_t2_body (F := F) arg0 harg0 arg1 harg1 arg2 harg2 arg3 harg3 arg4 harg4 arg5 harg5 arg6 harg6 arg7 harg7 arg8 harg8 arg9 harg9 arg10 harg10 arg11 harg11 arg12 harg12 arg13 harg13 v0 k acc)
          (fun yld => iprop(⌜yld = R acc f6 f8 f9 f10 f11 f12 f13⌝ ∗ Res (F := F) c arg6 arg7 arg8 arg9 arg10 arg11 arg12 arg13 X7 (arg6.view.writes (Elt F) f6 (L6 acc f6 f8 f9 f10 f11 f12 f13)) (arg8.view.writes (Elt F) f8 (L8 acc f6 f8 f9 f10 f11 f12 f13)) (arg9.view.writes (Elt F) f9 (L9 acc f6 f8 f9 f10 f11 f12 f13)) (arg10.view.writes (Elt F) f10 (L10 acc f6 f8 f9 f10 f11 f12 f13)) (arg11.view.writes (Elt F) f11 (L11 acc f6 f8 f9 f10 f11 f12 f13)) (arg12.view.writes (Elt F) f12 (L12 acc f6 f8 f9 f10 f11 f12 f13)) (arg13.view.writes (Elt F) f13 (L13 acc f6 f8 f9 f10 f11 f12 f13)))) } := by
  refine ⟨?_, ?_, ?_, ?_, ?_, ?_, ?_, ?_, fun E acc f6 f8 f9 f10 f11 f12 f13 => ?run⟩
  case run =>
    unfold Gen.k0_t2_body
    iintro ⟨HW_arg7, HW_arg6, HW_arg8, HW_arg9, HW_arg10, HW_arg11, HW_arg12, HW_arg13⟩
    sl_exec
    sl_step
    sl_close

end Cert.Proof.KernelIdeal

end
-- ==== Proof.KernelIdealRound.lean ====
/- The scan and the gathering inside one round of `KernelIdeal`'s extraction, and the round itself, read as functions of
   whole arrays. -/
module

public import proofs.«01_k».proof.Proof.KernelIdealExtract

@[expose] public section

set_option maxRecDepth 8192
set_option maxHeartbeats 2000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.Proof.KernelIdeal

open Cert.KernelIdeal VecWindow

variable {F : FTy → Type} [FloatOps F]

theorem scan_succ (v0 g : IV) (init : Acc F) (S : FS F) (k : ℕ) (h : k < 84) :
    scan v0 g init S (k + 1) = ((Gen.k0_pay21 v0 g ⟨k, trips3 ▸ h⟩ (scan v0 g init S k).1.1 (blkS (scan v0 g init S k).2 k h),
      Gen.k0_pay22 v0 g ⟨k, trips3 ▸ h⟩ (scan v0 g init S k).1.1 (scan v0 g init S k).1.2 (blkS (scan v0 g init S k).2 k h)),
      put (scan v0 g init S k).2 ![0, 128 * k] ![80, 128] (Gen.k0_pay19 v0 g ⟨k, trips3 ▸ h⟩ (blkS (scan v0 g init S k).2 k h))) := by
  show scanStep v0 g k (scan v0 g init S k) = _
  unfold scanStep
  rw [dif_pos h]

theorem gath_succ (v0 : IV) (vm : FV F) (gi : IV) (B : FB F) (k : ℕ) (h : k < 84) :
    gath v0 vm gi B (k + 1) = (Gen.k0_pay26 v0 1073741824#32 vm gi ⟨k, trips4 ▸ h⟩ (gath v0 vm gi B k).1 (blkB B k h),
      Gen.k0_pay27 v0 1073741824#32 vm gi ⟨k, trips4 ▸ h⟩ (gath v0 vm gi B k).2.1 (blkB B k h),
      Gen.k0_pay28 v0 1073741824#32 vm gi ⟨k, trips4 ▸ h⟩ (gath v0 vm gi B k).2.2.1 (blkB B k h),
      Gen.k0_pay29 v0 1073741824#32 vm gi ⟨k, trips4 ▸ h⟩ (gath v0 vm gi B k).2.2.2 (blkB B k h)) := by
  show gathStep v0 vm gi B k (gath v0 vm gi B k) = _
  unfold gathStep
  rw [dif_pos h]

/-- The scan's state before block `k`, as the scan of the array the buffer holds. -/
theorem st3_eq (𝒱 : Variants) (c : Dev nD) (bd : Option 𝒱.V) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (v0 : IV) (v7 : FV F) (w1 w2 w3 : BitVec 32) (k2 : Fin k0_t2_loop.trips) (g : IV) (G : BufTy.Contents (Elt F) arg6.view.ty) (init : Acc F) (k : ℕ) (hk : k ≤ 84) :
    (Gen.st_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 v7 w1 w2 w3 k2 g G init k).1 = (scan v0 g init (arg6.view.read (Elt F) G) k).1
    ∧ arg6.view.read (Elt F) (arg6.view.writes (Elt F) G (Gen.st_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 v7 w1 w2 w3 k2 g G init k).2) = (scan v0 g init (arg6.view.read (Elt F) G) k).2 := by
  induction k with
  | zero => exact ⟨rfl, rfl⟩
  | succ k ih =>
    have hk' : k < 84 := hk
    obtain ⟨ih1, ih2⟩ := ih (by omega)
    have e := Gen.st_k0_t3_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 v7 w1 w2 w3 k2 g G init ⟨k, trips3 ▸ hk'⟩
    simp only at e
    have hoff : k0_off3 ⟨k, trips3 ▸ hk'⟩ = ![0, 128 * k] := Gen.k0_off3_eq _
    have ew : ∀ f : BufTy.Contents (Elt F) arg6.view.ty, View.readAt (Elt F) arg6.view (Rect.unit (k0_off3 ⟨k, trips3 ▸ hk'⟩) ![80, 128] (Gen.k0_off3_inb _)).toLoadRect f
        = blkS (arg6.view.read (Elt F) f) k hk' := fun f => View.readAt_unit _ _ _ hoff _
    rw [scan_succ v0 g init _ k hk', ← ih1, ← ih2, ← ew, e]
    constructor
    · unfold Gen.tripR_k0_t3 Gen.trip_k0_t3
      rfl
    · dsimp only
      unfold Gen.tripL_k0_t3 Gen.trip_k0_t3
      exact View.read_writes_cons_put _ _ _ _ _ hoff

/-- The gathering's state before block `k`. -/
theorem st4_eq (𝒱 : Variants) (c : Dev nD) (bd : Option 𝒱.V) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (v0 : IV) (v7 : FV F) (w2 w3 : BitVec 32) (k2 : Fin k0_t2_loop.trips) (g : IV) (vm : FV F) (gi : IV) (X7 : BufTy.Contents (Elt F) arg7.view.ty) (k : ℕ) (hk : k ≤ 84) :
    Gen.st_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 v7 1073741824#32 w2 w3 k2 g vm gi X7 (Gen.k0_pay54, Gen.k0_pay54, Gen.k0_pay54, Gen.k0_pay54) k = gath v0 vm gi (arg7.view.read (Elt F) X7) k := by
  induction k with
  | zero => rfl
  | succ k ih =>
    have hk' : k < 84 := hk
    have e := Gen.st_k0_t4_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 v7 1073741824#32 w2 w3 k2 g vm gi X7 (Gen.k0_pay54, Gen.k0_pay54, Gen.k0_pay54, Gen.k0_pay54) ⟨k, trips4 ▸ hk'⟩
    have hoff : k0_off4 ⟨k, trips4 ▸ hk'⟩ = ![0, 128 * k] := Gen.k0_off4_eq _
    have ew : View.readAt (Elt F) arg7.view (Rect.unit (k0_off4 ⟨k, trips4 ▸ hk'⟩) ![8, 128] (Gen.k0_off4_inb _)).toLoadRect X7
        = blkB (arg7.view.read (Elt F) X7) k hk' := View.readAt_unit _ _ _ hoff _
    rw [gath_succ v0 vm gi _ k hk', ← ih (by omega), ← ew, e]
    unfold Gen.tripR_k0_t4 Gen.trip_k0_t4
    rfl

theorem rd80 (v : View sig .tc .vmem S80x128 .f32) (f : v.ty.Contents (Elt F)) (inb : ∀ a, (![0, 0] : Fin 2 → ℕ) a + S80x128.size a ≤ S80x128.size a) :
    View.readAt (Elt F) v (Rect.unit ![0, 0] S80x128.size inb).toLoadRect f = v.read (Elt F) f := View.readAt_full v f inb
theorem rd80' (v : View sig .tc .vmem S80x128 .f32) (f : v.ty.Contents (Elt F)) (inb : ∀ a, (![0, 0] : Fin 2 → ℕ) a + (![80, 128] : Fin 2 → ℕ) a ≤ S80x128.size a) :
    View.readAt (Elt F) v (Rect.unit ![0, 0] ![80, 128] inb).toLoadRect f = v.read (Elt F) f := View.readAt_full v f inb
theorem wr80 (v : View sig .tc .vmem S80x128 .f32) (f : v.ty.Contents (Elt F)) (inb : ∀ a, (![0, 0] : Fin 2 → ℕ) a + (![80, 128] : Fin 2 → ℕ) a ≤ S80x128.size a)
    (w : FV F) (L : List (View.Piece (Elt F) S80x128 .f32)) :
    v.read (Elt F) (v.writes (Elt F) f (⟨Rect.unit ![0, 0] ![80, 128] inb, w⟩ :: L)) = w := View.read_writes_full v f inb w L
theorem wr80' (v : View sig .tc .vmem S80x128 .f32) (f : v.ty.Contents (Elt F)) (inb : ∀ a, (![0, 0] : Fin 2 → ℕ) a + S80x128.size a ≤ S80x128.size a)
    (w : FV F) (L : List (View.Piece (Elt F) S80x128 .f32)) :
    v.read (Elt F) (v.writes (Elt F) f (⟨Rect.unit ![0, 0] S80x128.size inb, w⟩ :: L)) = w := View.read_writes_full v f inb w L

/-- What a round carries on. -/
theorem trip_acc (𝒱 : Variants) (c : Dev nD) (bd : Option 𝒱.V) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (v0 : IV) (X7 : BufTy.Contents (Elt F) arg7.view.ty) (k : Fin k0_t2_loop.trips) (acc : Acc F) (f6 : BufTy.Contents (Elt F) arg6.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    (trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 X7 k).1 acc f6 f8 f9 f10 f11 f12 f13 = (roundK v0 (arg7.view.read (Elt F) X7) k ⟨acc, arg6.view.read (Elt F) f6, arg8.view.read (Elt F) f8, arg9.view.read (Elt F) f9, arg10.view.read (Elt F) f10, arg11.view.read (Elt F) f11, arg12.view.read (Elt F) f12, arg13.view.read (Elt F) f13⟩).acc := by
  have h3 := st3_eq (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 Gen.k0_pay54 1073741824#32 0#32 1#32 k acc.2 f6 (Gen.k0_pay16, Gen.k0_pay17) 84 le_rfl
  have h4 := st4_eq (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 Gen.k0_pay54 0#32 1#32 k acc.2
    (scan v0 acc.2 (Gen.k0_pay16, Gen.k0_pay17) (arg6.view.read (Elt F) f6) 84).1.1 (scan v0 acc.2 (Gen.k0_pay16, Gen.k0_pay17) (arg6.view.read (Elt F) f6) 84).1.2 X7 84 le_rfl
  simp only [roundK, ← h4]
  try simp only [← h3.1, ← h3.2]
  unfold trip
  dsimp only
  try simp only [trip.sl.r, trip.sl.r_1, trip.sl.r_2, trip.sl.r_3, trip.sl.r_4, trip.sl.r_5, trip.sl.r_6, trip.sl.r_7, trip.sl.r_8, trip.sl.r_9, trip.sl.r_10,
    trip.sl.r_11, trip.sl.r_12, trip.sl.arg14, rd80, rd80', wr80, wr80', trips3, trips4]
  try rfl

/-- What a round leaves in buffer 6. -/
theorem trip_6 (𝒱 : Variants) (c : Dev nD) (bd : Option 𝒱.V) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (v0 : IV) (X7 : BufTy.Contents (Elt F) arg7.view.ty) (k : Fin k0_t2_loop.trips) (acc : Acc F) (f6 : BufTy.Contents (Elt F) arg6.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg6.view.read (Elt F) (arg6.view.writes (Elt F) f6 ((trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 X7 k).2.1 acc f6 f8 f9 f10 f11 f12 f13)) = (roundK v0 (arg7.view.read (Elt F) X7) k ⟨acc, arg6.view.read (Elt F) f6, arg8.view.read (Elt F) f8, arg9.view.read (Elt F) f9, arg10.view.read (Elt F) f10, arg11.view.read (Elt F) f11, arg12.view.read (Elt F) f12, arg13.view.read (Elt F) f13⟩).S := by
  have h3 := st3_eq (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 Gen.k0_pay54 1073741824#32 0#32 1#32 k acc.2 f6 (Gen.k0_pay16, Gen.k0_pay17) 84 le_rfl
  have h4 := st4_eq (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 Gen.k0_pay54 0#32 1#32 k acc.2
    (scan v0 acc.2 (Gen.k0_pay16, Gen.k0_pay17) (arg6.view.read (Elt F) f6) 84).1.1 (scan v0 acc.2 (Gen.k0_pay16, Gen.k0_pay17) (arg6.view.read (Elt F) f6) 84).1.2 X7 84 le_rfl
  simp only [roundK, ← h4]
  try simp only [← h3.1, ← h3.2]
  unfold trip
  dsimp only
  try simp only [trip.sl.r, trip.sl.r_1, trip.sl.r_2, trip.sl.r_3, trip.sl.r_4, trip.sl.r_5, trip.sl.r_6, trip.sl.r_7, trip.sl.r_8, trip.sl.r_9, trip.sl.r_10,
    trip.sl.r_11, trip.sl.r_12, trip.sl.arg14, rd80, rd80', wr80, wr80', trips3, trips4]
  try rfl

/-- What a round leaves in buffer 8. -/
theorem trip_8 (𝒱 : Variants) (c : Dev nD) (bd : Option 𝒱.V) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (v0 : IV) (X7 : BufTy.Contents (Elt F) arg7.view.ty) (k : Fin k0_t2_loop.trips) (acc : Acc F) (f6 : BufTy.Contents (Elt F) arg6.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg8.view.read (Elt F) (arg8.view.writes (Elt F) f8 ((trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 X7 k).2.2.1 acc f6 f8 f9 f10 f11 f12 f13)) = (roundK v0 (arg7.view.read (Elt F) X7) k ⟨acc, arg6.view.read (Elt F) f6, arg8.view.read (Elt F) f8, arg9.view.read (Elt F) f9, arg10.view.read (Elt F) f10, arg11.view.read (Elt F) f11, arg12.view.read (Elt F) f12, arg13.view.read (Elt F) f13⟩).ts := by
  have h3 := st3_eq (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 Gen.k0_pay54 1073741824#32 0#32 1#32 k acc.2 f6 (Gen.k0_pay16, Gen.k0_pay17) 84 le_rfl
  have h4 := st4_eq (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 Gen.k0_pay54 0#32 1#32 k acc.2
    (scan v0 acc.2 (Gen.k0_pay16, Gen.k0_pay17) (arg6.view.read (Elt F) f6) 84).1.1 (scan v0 acc.2 (Gen.k0_pay16, Gen.k0_pay17) (arg6.view.read (Elt F) f6) 84).1.2 X7 84 le_rfl
  simp only [roundK, ← h4]
  try simp only [← h3.1, ← h3.2]
  unfold trip
  dsimp only
  try simp only [trip.sl.r, trip.sl.r_1, trip.sl.r_2, trip.sl.r_3, trip.sl.r_4, trip.sl.r_5, trip.sl.r_6, trip.sl.r_7, trip.sl.r_8, trip.sl.r_9, trip.sl.r_10,
    trip.sl.r_11, trip.sl.r_12, trip.sl.arg14, rd80, rd80', wr80, wr80', trips3, trips4]
  try rfl

/-- What a round leaves in buffer 9. -/
theorem trip_9 (𝒱 : Variants) (c : Dev nD) (bd : Option 𝒱.V) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (v0 : IV) (X7 : BufTy.Contents (Elt F) arg7.view.ty) (k : Fin k0_t2_loop.trips) (acc : Acc F) (f6 : BufTy.Contents (Elt F) arg6.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg9.view.read (Elt F) (arg9.view.writes (Elt F) f9 ((trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 X7 k).2.2.2.1 acc f6 f8 f9 f10 f11 f12 f13)) = (roundK v0 (arg7.view.read (Elt F) X7) k ⟨acc, arg6.view.read (Elt F) f6, arg8.view.read (Elt F) f8, arg9.view.read (Elt F) f9, arg10.view.read (Elt F) f10, arg11.view.read (Elt F) f11, arg12.view.read (Elt F) f12, arg13.view.read (Elt F) f13⟩).x1 := by
  have h3 := st3_eq (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 Gen.k0_pay54 1073741824#32 0#32 1#32 k acc.2 f6 (Gen.k0_pay16, Gen.k0_pay17) 84 le_rfl
  have h4 := st4_eq (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 Gen.k0_pay54 0#32 1#32 k acc.2
    (scan v0 acc.2 (Gen.k0_pay16, Gen.k0_pay17) (arg6.view.read (Elt F) f6) 84).1.1 (scan v0 acc.2 (Gen.k0_pay16, Gen.k0_pay17) (arg6.view.read (Elt F) f6) 84).1.2 X7 84 le_rfl
  simp only [roundK, ← h4]
  try simp only [← h3.1, ← h3.2]
  unfold trip
  dsimp only
  try simp only [trip.sl.r, trip.sl.r_1, trip.sl.r_2, trip.sl.r_3, trip.sl.r_4, trip.sl.r_5, trip.sl.r_6, trip.sl.r_7, trip.sl.r_8, trip.sl.r_9, trip.sl.r_10,
    trip.sl.r_11, trip.sl.r_12, trip.sl.arg14, rd80, rd80', wr80, wr80', trips3, trips4]
  try rfl

/-- What a round leaves in buffer 10. -/
theorem trip_10 (𝒱 : Variants) (c : Dev nD) (bd : Option 𝒱.V) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (v0 : IV) (X7 : BufTy.Contents (Elt F) arg7.view.ty) (k : Fin k0_t2_loop.trips) (acc : Acc F) (f6 : BufTy.Contents (Elt F) arg6.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg10.view.read (Elt F) (arg10.view.writes (Elt F) f10 ((trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 X7 k).2.2.2.2.1 acc f6 f8 f9 f10 f11 f12 f13)) = (roundK v0 (arg7.view.read (Elt F) X7) k ⟨acc, arg6.view.read (Elt F) f6, arg8.view.read (Elt F) f8, arg9.view.read (Elt F) f9, arg10.view.read (Elt F) f10, arg11.view.read (Elt F) f11, arg12.view.read (Elt F) f12, arg13.view.read (Elt F) f13⟩).y1 := by
  have h3 := st3_eq (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 Gen.k0_pay54 1073741824#32 0#32 1#32 k acc.2 f6 (Gen.k0_pay16, Gen.k0_pay17) 84 le_rfl
  have h4 := st4_eq (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 Gen.k0_pay54 0#32 1#32 k acc.2
    (scan v0 acc.2 (Gen.k0_pay16, Gen.k0_pay17) (arg6.view.read (Elt F) f6) 84).1.1 (scan v0 acc.2 (Gen.k0_pay16, Gen.k0_pay17) (arg6.view.read (Elt F) f6) 84).1.2 X7 84 le_rfl
  simp only [roundK, ← h4]
  try simp only [← h3.1, ← h3.2]
  unfold trip
  dsimp only
  try simp only [trip.sl.r, trip.sl.r_1, trip.sl.r_2, trip.sl.r_3, trip.sl.r_4, trip.sl.r_5, trip.sl.r_6, trip.sl.r_7, trip.sl.r_8, trip.sl.r_9, trip.sl.r_10,
    trip.sl.r_11, trip.sl.r_12, trip.sl.arg14, rd80, rd80', wr80, wr80', trips3, trips4]
  try rfl

/-- What a round leaves in buffer 11. -/
theorem trip_11 (𝒱 : Variants) (c : Dev nD) (bd : Option 𝒱.V) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (v0 : IV) (X7 : BufTy.Contents (Elt F) arg7.view.ty) (k : Fin k0_t2_loop.trips) (acc : Acc F) (f6 : BufTy.Contents (Elt F) arg6.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg11.view.read (Elt F) (arg11.view.writes (Elt F) f11 ((trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 X7 k).2.2.2.2.2.1 acc f6 f8 f9 f10 f11 f12 f13)) = (roundK v0 (arg7.view.read (Elt F) X7) k ⟨acc, arg6.view.read (Elt F) f6, arg8.view.read (Elt F) f8, arg9.view.read (Elt F) f9, arg10.view.read (Elt F) f10, arg11.view.read (Elt F) f11, arg12.view.read (Elt F) f12, arg13.view.read (Elt F) f13⟩).x2 := by
  have h3 := st3_eq (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 Gen.k0_pay54 1073741824#32 0#32 1#32 k acc.2 f6 (Gen.k0_pay16, Gen.k0_pay17) 84 le_rfl
  have h4 := st4_eq (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 Gen.k0_pay54 0#32 1#32 k acc.2
    (scan v0 acc.2 (Gen.k0_pay16, Gen.k0_pay17) (arg6.view.read (Elt F) f6) 84).1.1 (scan v0 acc.2 (Gen.k0_pay16, Gen.k0_pay17) (arg6.view.read (Elt F) f6) 84).1.2 X7 84 le_rfl
  simp only [roundK, ← h4]
  try simp only [← h3.1, ← h3.2]
  unfold trip
  dsimp only
  try simp only [trip.sl.r, trip.sl.r_1, trip.sl.r_2, trip.sl.r_3, trip.sl.r_4, trip.sl.r_5, trip.sl.r_6, trip.sl.r_7, trip.sl.r_8, trip.sl.r_9, trip.sl.r_10,
    trip.sl.r_11, trip.sl.r_12, trip.sl.arg14, rd80, rd80', wr80, wr80', trips3, trips4]
  try rfl

/-- What a round leaves in buffer 12. -/
theorem trip_12 (𝒱 : Variants) (c : Dev nD) (bd : Option 𝒱.V) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (v0 : IV) (X7 : BufTy.Contents (Elt F) arg7.view.ty) (k : Fin k0_t2_loop.trips) (acc : Acc F) (f6 : BufTy.Contents (Elt F) arg6.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg12.view.read (Elt F) (arg12.view.writes (Elt F) f12 ((trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 X7 k).2.2.2.2.2.2.1 acc f6 f8 f9 f10 f11 f12 f13)) = (roundK v0 (arg7.view.read (Elt F) X7) k ⟨acc, arg6.view.read (Elt F) f6, arg8.view.read (Elt F) f8, arg9.view.read (Elt F) f9, arg10.view.read (Elt F) f10, arg11.view.read (Elt F) f11, arg12.view.read (Elt F) f12, arg13.view.read (Elt F) f13⟩).y2 := by
  have h3 := st3_eq (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 Gen.k0_pay54 1073741824#32 0#32 1#32 k acc.2 f6 (Gen.k0_pay16, Gen.k0_pay17) 84 le_rfl
  have h4 := st4_eq (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 Gen.k0_pay54 0#32 1#32 k acc.2
    (scan v0 acc.2 (Gen.k0_pay16, Gen.k0_pay17) (arg6.view.read (Elt F) f6) 84).1.1 (scan v0 acc.2 (Gen.k0_pay16, Gen.k0_pay17) (arg6.view.read (Elt F) f6) 84).1.2 X7 84 le_rfl
  simp only [roundK, ← h4]
  try simp only [← h3.1, ← h3.2]
  unfold trip
  dsimp only
  try simp only [trip.sl.r, trip.sl.r_1, trip.sl.r_2, trip.sl.r_3, trip.sl.r_4, trip.sl.r_5, trip.sl.r_6, trip.sl.r_7, trip.sl.r_8, trip.sl.r_9, trip.sl.r_10,
    trip.sl.r_11, trip.sl.r_12, trip.sl.arg14, rd80, rd80', wr80, wr80', trips3, trips4]
  try rfl

/-- What a round leaves in buffer 13. -/
theorem trip_13 (𝒱 : Variants) (c : Dev nD) (bd : Option 𝒱.V) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (v0 : IV) (X7 : BufTy.Contents (Elt F) arg7.view.ty) (k : Fin k0_t2_loop.trips) (acc : Acc F) (f6 : BufTy.Contents (Elt F) arg6.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    arg13.view.read (Elt F) (arg13.view.writes (Elt F) f13 ((trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 X7 k).2.2.2.2.2.2.2.1 acc f6 f8 f9 f10 f11 f12 f13)) = (roundK v0 (arg7.view.read (Elt F) X7) k ⟨acc, arg6.view.read (Elt F) f6, arg8.view.read (Elt F) f8, arg9.view.read (Elt F) f9, arg10.view.read (Elt F) f10, arg11.view.read (Elt F) f11, arg12.view.read (Elt F) f12, arg13.view.read (Elt F) f13⟩).ar := by
  have h3 := st3_eq (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 Gen.k0_pay54 1073741824#32 0#32 1#32 k acc.2 f6 (Gen.k0_pay16, Gen.k0_pay17) 84 le_rfl
  have h4 := st4_eq (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 Gen.k0_pay54 0#32 1#32 k acc.2
    (scan v0 acc.2 (Gen.k0_pay16, Gen.k0_pay17) (arg6.view.read (Elt F) f6) 84).1.1 (scan v0 acc.2 (Gen.k0_pay16, Gen.k0_pay17) (arg6.view.read (Elt F) f6) 84).1.2 X7 84 le_rfl
  simp only [roundK, ← h4]
  try simp only [← h3.1, ← h3.2]
  unfold trip
  dsimp only
  try simp only [trip.sl.r, trip.sl.r_1, trip.sl.r_2, trip.sl.r_3, trip.sl.r_4, trip.sl.r_5, trip.sl.r_6, trip.sl.r_7, trip.sl.r_8, trip.sl.r_9, trip.sl.r_10,
    trip.sl.r_11, trip.sl.r_12, trip.sl.arg14, rd80, rd80', wr80, wr80', trips3, trips4]
  try rfl

end Cert.Proof.KernelIdeal

end
-- ==== Proof.KernelIdealDecode.lean ====
/- What the decoding loop of `KernelIdeal` leaves in the score and box buffers, and what the merge loop yields. -/
module

public import proofs.«01_k».proof.Proof.KernelIdealModel
public import Idealize.ShloMosaic.Lib.WritesUnit

@[expose] public section

set_option maxRecDepth 8192
set_option maxHeartbeats 2000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.Proof.KernelIdeal

open Cert.KernelIdeal VecWindow

variable {F : FTy → Type} [FloatOps F]

/-- After `k` blocks the score buffer holds the decoded values in the first `k` blocks. -/
theorem score_upto (𝒱 : Variants) (c : Dev nD) (bd : Option 𝒱.V) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (X0 : BufTy.Contents (Elt F) arg0.view.ty) (X1 : BufTy.Contents (Elt F) arg1.view.ty) (X2 : BufTy.Contents (Elt F) arg2.view.ty) (G : BufTy.Contents (Elt F) arg6.view.ty) (k : ℕ) (hk : k ≤ 84) (y : S80x10752.Idx) :
    arg6.view.read (Elt F) (arg6.view.writes (Elt F) G (Gen.pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X0 X1 X2 k).1) y
      = if (y 1).val < 128 * k then scoreAll (arg0.view.read (Elt F) X0) (arg1.view.read (Elt F) X1) (arg2.view.read (Elt F) X2) y else arg6.view.read (Elt F) G y := by
  induction k with
  | zero => rw [if_neg (by omega)]; rfl
  | succ k ih =>
    have hk' : k < 84 := hk
    have e := Gen.pb_k0_t1_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X0 X1 X2 ⟨k, trips1 ▸ hk'⟩
    change (Gen.pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X0 X1 X2 (k + 1)) = _ at e
    have ho1 : k0_off1 ⟨k, trips1 ▸ hk'⟩ = ![0, 128 * k] := Gen.k0_off1_eq _
    have ho2 : k0_off2 ⟨k, trips1 ▸ hk'⟩ = ![0, 128 * k] := Gen.k0_off2_eq _
    have e0 : View.readAt (Elt F) arg0.view (Rect.unit (k0_off1 ⟨k, trips1 ▸ hk'⟩) ![80, 128] (Gen.k0_off1_inb _)).toLoadRect X0
        = blkS (arg0.view.read (Elt F) X0) k hk' := View.readAt_unit _ _ _ ho1 _
    have e1 : View.readAt (Elt F) arg1.view (Rect.unit (k0_off2 ⟨k, trips1 ▸ hk'⟩) ![8, 128] (Gen.k0_off2_inb _)).toLoadRect X1
        = blkB (arg1.view.read (Elt F) X1) k hk' := View.readAt_unit _ _ _ ho2 _
    have e2 : View.readAt (Elt F) arg2.view (Rect.unit (k0_off2 ⟨k, trips1 ▸ hk'⟩) ![8, 128] (Gen.k0_off2_inb _)).toLoadRect X2
        = blkB (arg2.view.read (Elt F) X2) k hk' := View.readAt_unit _ _ _ ho2 _
    have eL : (Gen.pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X0 X1 X2 (k + 1)).1
        = ⟨Rect.unit (k0_off1 ⟨k, trips1 ▸ hk'⟩) ![80, 128] (Gen.k0_off1_inb _), scoreBlk (arg0.view.read (Elt F) X0) (arg1.view.read (Elt F) X1) (arg2.view.read (Elt F) X2) k hk'⟩ :: (Gen.pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X0 X1 X2 k).1 := by
      unfold scoreBlk
      rw [e, ← e0, ← e1, ← e2]
      unfold Gen.tripL_k0_t1 Gen.trip_k0_t1
      rfl
    rw [eL, View.read_writes_cons_put _ _ _ _ _ ho1]
    unfold put
    by_cases hm : 128 * k ≤ (y 1).val ∧ (y 1).val < 128 * k + 128
    · have hall : ∀ a, (![0, 128 * k] : Fin 2 → ℕ) a ≤ (y a).val ∧ (y a).val < (![0, 128 * k] : Fin 2 → ℕ) a + (![80, 128] : Fin 2 → ℕ) a :=
        Fin.forall_fin_two.mpr ⟨⟨Nat.zero_le _, by show (y 0).val < 0 + 80; have : (y 0).val < 80 := (y 0).isLt; omega⟩, hm⟩
      rw [dif_pos hall, if_pos (by omega)]
      obtain rfl : k = (y 1).val / 128 := by omega
      unfold scoreAll
      refine congrArg _ (funext (Fin.forall_fin_two.mpr ⟨Fin.ext ?_, Fin.ext ?_⟩))
      · show (y 0).val - 0 = (y 0).val; omega
      · show (y 1).val - 128 * ((y 1).val / 128) = (y 1).val % 128; omega
    · have hall : ¬ ∀ a, (![0, 128 * k] : Fin 2 → ℕ) a ≤ (y a).val ∧ (y a).val < (![0, 128 * k] : Fin 2 → ℕ) a + (![80, 128] : Fin 2 → ℕ) a :=
        fun h => hm (h 1)
      rw [dif_neg hall, ih (by omega)]
      by_cases hlt : (y 1).val < 128 * k
      · rw [if_pos hlt, if_pos (by omega)]
      · rw [if_neg hlt, if_neg (by omega)]

theorem score_all (𝒱 : Variants) (c : Dev nD) (bd : Option 𝒱.V) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (X0 : BufTy.Contents (Elt F) arg0.view.ty) (X1 : BufTy.Contents (Elt F) arg1.view.ty) (X2 : BufTy.Contents (Elt F) arg2.view.ty) (G : BufTy.Contents (Elt F) arg6.view.ty) :
    arg6.view.read (Elt F) (arg6.view.writes (Elt F) G (Gen.pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X0 X1 X2 84).1) = scoreAll (arg0.view.read (Elt F) X0) (arg1.view.read (Elt F) X1) (arg2.view.read (Elt F) X2) := by
  funext y
  rw [score_upto 𝒱 c bd arg0 harg0 arg1 harg1 arg2 harg2 arg3 harg3 arg4 harg4 arg5 harg5 arg6 harg6 arg7 harg7 arg8 harg8 arg9 harg9 arg10 harg10 arg11 harg11 arg12 harg12 arg13 harg13 X0 X1 X2 G 84 le_rfl y, if_pos]
  have : (y 1).val < 10752 := (y 1).isLt
  omega

/-- After `k` blocks the box buffer holds the decoded values in the first `k` blocks. -/
theorem box_upto (𝒱 : Variants) (c : Dev nD) (bd : Option 𝒱.V) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (X0 : BufTy.Contents (Elt F) arg0.view.ty) (X1 : BufTy.Contents (Elt F) arg1.view.ty) (X2 : BufTy.Contents (Elt F) arg2.view.ty) (G : BufTy.Contents (Elt F) arg7.view.ty) (k : ℕ) (hk : k ≤ 84) (y : S8x10752.Idx) :
    arg7.view.read (Elt F) (arg7.view.writes (Elt F) G (Gen.pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X0 X1 X2 k).2) y
      = if (y 1).val < 128 * k then boxAll (arg1.view.read (Elt F) X1) (arg2.view.read (Elt F) X2) y else arg7.view.read (Elt F) G y := by
  induction k with
  | zero => rw [if_neg (by omega)]; rfl
  | succ k ih =>
    have hk' : k < 84 := hk
    have e := Gen.pb_k0_t1_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X0 X1 X2 ⟨k, trips1 ▸ hk'⟩
    change (Gen.pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X0 X1 X2 (k + 1)) = _ at e
    have ho1 : k0_off1 ⟨k, trips1 ▸ hk'⟩ = ![0, 128 * k] := Gen.k0_off1_eq _
    have ho2 : k0_off2 ⟨k, trips1 ▸ hk'⟩ = ![0, 128 * k] := Gen.k0_off2_eq _
    have e0 : View.readAt (Elt F) arg0.view (Rect.unit (k0_off1 ⟨k, trips1 ▸ hk'⟩) ![80, 128] (Gen.k0_off1_inb _)).toLoadRect X0
        = blkS (arg0.view.read (Elt F) X0) k hk' := View.readAt_unit _ _ _ ho1 _
    have e1 : View.readAt (Elt F) arg1.view (Rect.unit (k0_off2 ⟨k, trips1 ▸ hk'⟩) ![8, 128] (Gen.k0_off2_inb _)).toLoadRect X1
        = blkB (arg1.view.read (Elt F) X1) k hk' := View.readAt_unit _ _ _ ho2 _
    have e2 : View.readAt (Elt F) arg2.view (Rect.unit (k0_off2 ⟨k, trips1 ▸ hk'⟩) ![8, 128] (Gen.k0_off2_inb _)).toLoadRect X2
        = blkB (arg2.view.read (Elt F) X2) k hk' := View.readAt_unit _ _ _ ho2 _
    have eL : (Gen.pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X0 X1 X2 (k + 1)).2
        = ⟨Rect.unit (k0_off2 ⟨k, trips1 ▸ hk'⟩) ![8, 128] (Gen.k0_off2_inb _), boxBlk (arg1.view.read (Elt F) X1) (arg2.view.read (Elt F) X2) k hk'⟩ :: (Gen.pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X0 X1 X2 k).2 := by
      unfold boxBlk
      rw [e, ← e1, ← e2]
      unfold Gen.tripL_k0_t1 Gen.trip_k0_t1
      rfl
    rw [eL, View.read_writes_cons_put _ _ _ _ _ ho2]
    unfold put
    by_cases hm : 128 * k ≤ (y 1).val ∧ (y 1).val < 128 * k + 128
    · have hall : ∀ a, (![0, 128 * k] : Fin 2 → ℕ) a ≤ (y a).val ∧ (y a).val < (![0, 128 * k] : Fin 2 → ℕ) a + (![8, 128] : Fin 2 → ℕ) a :=
        Fin.forall_fin_two.mpr ⟨⟨Nat.zero_le _, by show (y 0).val < 0 + 8; have : (y 0).val < 8 := (y 0).isLt; omega⟩, hm⟩
      rw [dif_pos hall, if_pos (by omega)]
      obtain rfl : k = (y 1).val / 128 := by omega
      unfold boxAll
      refine congrArg _ (funext (Fin.forall_fin_two.mpr ⟨Fin.ext ?_, Fin.ext ?_⟩))
      · show (y 0).val - 0 = (y 0).val; omega
      · show (y 1).val - 128 * ((y 1).val / 128) = (y 1).val % 128; omega
    · have hall : ¬ ∀ a, (![0, 128 * k] : Fin 2 → ℕ) a ≤ (y a).val ∧ (y a).val < (![0, 128 * k] : Fin 2 → ℕ) a + (![8, 128] : Fin 2 → ℕ) a :=
        fun h => hm (h 1)
      rw [dif_neg hall, ih (by omega)]
      by_cases hlt : (y 1).val < 128 * k
      · rw [if_pos hlt, if_pos (by omega)]
      · rw [if_neg hlt, if_neg (by omega)]

theorem box_all (𝒱 : Variants) (c : Dev nD) (bd : Option 𝒱.V) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (X0 : BufTy.Contents (Elt F) arg0.view.ty) (X1 : BufTy.Contents (Elt F) arg1.view.ty) (X2 : BufTy.Contents (Elt F) arg2.view.ty) (G : BufTy.Contents (Elt F) arg7.view.ty) :
    arg7.view.read (Elt F) (arg7.view.writes (Elt F) G (Gen.pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 X0 X1 X2 84).2) = boxAll (arg1.view.read (Elt F) X1) (arg2.view.read (Elt F) X2) := by
  funext y
  rw [box_upto 𝒱 c bd arg0 harg0 arg1 harg1 arg2 harg2 arg3 harg3 arg4 harg4 arg5 harg5 arg6 harg6 arg7 harg7 arg8 harg8 arg9 harg9 arg10 harg10 arg11 harg11 arg12 harg12 arg13 harg13 X0 X1 X2 G 84 le_rfl y, if_pos]
  have : (y 1).val < 10752 := (y 1).isLt
  omega

/-- The merge's state before round `k`. -/
theorem st5_eq (𝒱 : Variants) (c : Dev nD) (bd : Option 𝒱.V) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (X9 : BufTy.Contents (Elt F) arg9.view.ty) (X10 : BufTy.Contents (Elt F) arg10.view.ty) (X11 : BufTy.Contents (Elt F) arg11.view.ty) (X12 : BufTy.Contents (Elt F) arg12.view.ty) (s : St F)
    (h9 : View.read (Elt F) arg9.view X9 = s.x1) (h10 : View.read (Elt F) arg10.view X10 = s.y1) (h11 : View.read (Elt F) arg11.view X11 = s.x2) (h12 : View.read (Elt F) arg12.view X12 = s.y2)
    (init : Mg F) (k : ℕ) (hk : k ≤ 100) :
    Gen.st_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 lanes rows X9 X10 X11 X12 init k = merge s init k := by
  induction k with
  | zero => rfl
  | succ k ih =>
    have hk' : k < 100 := hk
    have e := Gen.st_k0_t5_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 lanes rows X9 X10 X11 X12 init ⟨k, trips5 ▸ hk'⟩
    have rd : ∀ (v : View sig .tc .vmem S80x128 .f32) (f : v.ty.Contents (Elt F)),
        View.readAt (Elt F) v (Rect.unit ![0, 0] S80x128.size Gen.inb_S80x128_S80x128_0_0).toLoadRect f = v.read (Elt F) f := fun v f => View.readAt_full v f _
    show _ = mergeStep s k (merge s init k)
    rw [← ih (by omega), e]
    unfold mergeStep
    rw [← h9, ← h10, ← h11, ← h12, ← rd, ← rd, ← rd, ← rd]
    unfold Gen.tripR_k0_t5 Gen.trip_k0_t5
    rfl

end Cert.Proof.KernelIdeal

end
-- ==== Proof.KernelIdealBody.lean ====
/- The extraction loop of `KernelIdeal` by its invariant, and the whole body run once. -/
module

public import proofs.«01_k».proof.Proof.KernelIdealRound
public import proofs.«01_k».proof.Proof.KernelIdealDecode

@[expose] public section

set_option maxRecDepth 8192
set_option maxHeartbeats 2000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.Proof.KernelIdeal

open Cert.KernelIdeal VecWindow

variable {F : FTy → Type} [FloatOps F]

local notation "𝕄K" => MT nD τ sig Unit (Elt F) ℕ (UR sig nD τ) ℕ

/-- What the buffers hold before round `k` of the extraction: the state after `k` rounds of the model. -/
abbrev inv2 (c : Dev nD) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (v0 : IV) (X7 : BufTy.Contents (Elt F) arg7.view.ty) (G6 : BufTy.Contents (Elt F) arg6.view.ty) (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (init : Acc F) (k : ℕ) (acc : Acc F) : sProp 𝕄K :=
  iprop((arg7.view.loc (c : Thread nD τ) ↦[arg7.view.set]{fullShare} X7) ∗ (∃ f, (arg6.view.loc (c : Thread nD τ) ↦[arg6.view.set]{fullShare} f) ∗ ⌜arg6.view.read (Elt F) f = (rounds v0 (arg7.view.read (Elt F) X7) ⟨init, arg6.view.read (Elt F) G6, arg8.view.read (Elt F) G8, arg9.view.read (Elt F) G9, arg10.view.read (Elt F) G10, arg11.view.read (Elt F) G11, arg12.view.read (Elt F) G12, arg13.view.read (Elt F) G13⟩ k).S⌝) ∗ (∃ f, (arg8.view.loc (c : Thread nD τ) ↦[arg8.view.set]{fullShare} f) ∗ ⌜arg8.view.read (Elt F) f = (rounds v0 (arg7.view.read (Elt F) X7) ⟨init, arg6.view.read (Elt F) G6, arg8.view.read (Elt F) G8, arg9.view.read (Elt F) G9, arg10.view.read (Elt F) G10, arg11.view.read (Elt F) G11, arg12.view.read (Elt F) G12, arg13.view.read (Elt F) G13⟩ k).ts⌝) ∗ (∃ f, (arg9.view.loc (c : Thread nD τ) ↦[arg9.view.set]{fullShare} f) ∗ ⌜arg9.view.read (Elt F) f = (rounds v0 (arg7.view.read (Elt F) X7) ⟨init, arg6.view.read (Elt F) G6, arg8.view.read (Elt F) G8, arg9.view.read (Elt F) G9, arg10.view.read (Elt F) G10, arg11.view.read (Elt F) G11, arg12.view.read (Elt F) G12, arg13.view.read (Elt F) G13⟩ k).x1⌝) ∗ (∃ f, (arg10.view.loc (c : Thread nD τ) ↦[arg10.view.set]{fullShare} f) ∗ ⌜arg10.view.read (Elt F) f = (rounds v0 (arg7.view.read (Elt F) X7) ⟨init, arg6.view.read (Elt F) G6, arg8.view.read (Elt F) G8, arg9.view.read (Elt F) G9, arg10.view.read (Elt F) G10, arg11.view.read (Elt F) G11, arg12.view.read (Elt F) G12, arg13.view.read (Elt F) G13⟩ k).y1⌝) ∗ (∃ f, (arg11.view.loc (c : Thread nD τ) ↦[arg11.view.set]{fullShare} f) ∗ ⌜arg11.view.read (Elt F) f = (rounds v0 (arg7.view.read (Elt F) X7) ⟨init, arg6.view.read (Elt F) G6, arg8.view.read (Elt F) G8, arg9.view.read (Elt F) G9, arg10.view.read (Elt F) G10, arg11.view.read (Elt F) G11, arg12.view.read (Elt F) G12, arg13.view.read (Elt F) G13⟩ k).x2⌝) ∗ (∃ f, (arg12.view.loc (c : Thread nD τ) ↦[arg12.view.set]{fullShare} f) ∗ ⌜arg12.view.read (Elt F) f = (rounds v0 (arg7.view.read (Elt F) X7) ⟨init, arg6.view.read (Elt F) G6, arg8.view.read (Elt F) G8, arg9.view.read (Elt F) G9, arg10.view.read (Elt F) G10, arg11.view.read (Elt F) G11, arg12.view.read (Elt F) G12, arg13.view.read (Elt F) G13⟩ k).y2⌝) ∗ (∃ f, (arg13.view.loc (c : Thread nD τ) ↦[arg13.view.set]{fullShare} f) ∗ ⌜arg13.view.read (Elt F) f = (rounds v0 (arg7.view.read (Elt F) X7) ⟨init, arg6.view.read (Elt F) G6, arg8.view.read (Elt F) G8, arg9.view.read (Elt F) G9, arg10.view.read (Elt F) G10, arg11.view.read (Elt F) G11, arg12.view.read (Elt F) G12, arg13.view.read (Elt F) G13⟩ k).ar⌝) ∗ ⌜acc = (rounds v0 (arg7.view.read (Elt F) X7) ⟨init, arg6.view.read (Elt F) G6, arg8.view.read (Elt F) G8, arg9.view.read (Elt F) G9, arg10.view.read (Elt F) G10, arg11.view.read (Elt F) G11, arg12.view.read (Elt F) G12, arg13.view.read (Elt F) G13⟩ k).acc⌝)

set_option warn.classDefReducibility false in
/-- The extraction loop by its invariant. -/
@[sl_loop] def loopInv2 (𝒱 : Variants) (c : Dev nD) (bd : Option 𝒱.V) (E : Set ℕ) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (v0 : IV) (X7 : BufTy.Contents (Elt F) arg7.view.ty) (G6 : BufTy.Contents (Elt F) arg6.view.ty) (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (init : Acc F) :
    Gen.LoopInvTy_k0_t2 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 v0 init where
  inv := inv2 (F := F) c arg0 harg0 arg1 harg1 arg2 harg2 arg3 harg3 arg4 harg4 arg5 harg5 arg6 harg6 arg7 harg7 arg8 harg8 arg9 harg9 arg10 harg10 arg11 harg11 arg12 harg12 arg13 harg13 v0 X7 G6 G8 G9 G10 G11 G12 G13 init
  step k acc := by
    iintro ⟨H7, ⟨%f6, H6, %h6⟩, ⟨%f8, H8, %h8⟩, ⟨%f9, H9, %h9⟩, ⟨%f10, H10, %h10⟩, ⟨%f11, H11, %h11⟩, ⟨%f12, H12, %h12⟩, ⟨%f13, H13, %h13⟩, %hacc⟩
    iapply (wp_wand_r Idealize.ShloMosaic.frame (wpE (defs₀ (F := F)) 𝒱 (c : Thread nD τ) bd) E)
    isplitl [H7 H6 H8 H9 H10 H11 H12 H13]
    · iapply ((trip (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v0 X7 k).2.2.2.2.2.2.2.2 E acc f6 f8 f9 f10 f11 f12 f13)
      isplitl [H7]; · iexact H7
      isplitl [H6]; · iexact H6
      isplitl [H8]; · iexact H8
      isplitl [H9]; · iexact H9
      isplitl [H10]; · iexact H10
      isplitl [H11]; · iexact H11
      isplitl [H12]; · iexact H12
      iexact H13
    · iintro %yld ⟨%hres, H7, H6, H8, H9, H10, H11, H12, H13⟩
      have hst : (⟨acc, arg6.view.read (Elt F) f6, arg8.view.read (Elt F) f8, arg9.view.read (Elt F) f9, arg10.view.read (Elt F) f10, arg11.view.read (Elt F) f11, arg12.view.read (Elt F) f12, arg13.view.read (Elt F) f13⟩ : St F) = (rounds v0 (arg7.view.read (Elt F) X7) ⟨init, arg6.view.read (Elt F) G6, arg8.view.read (Elt F) G8, arg9.view.read (Elt F) G9, arg10.view.read (Elt F) G10, arg11.view.read (Elt F) G11, arg12.view.read (Elt F) G12, arg13.view.read (Elt F) G13⟩ k.val) := by
        rw [hacc, h6, h8, h9, h10, h11, h12, h13]
      have hn : (rounds v0 (arg7.view.read (Elt F) X7) ⟨init, arg6.view.read (Elt F) G6, arg8.view.read (Elt F) G8, arg9.view.read (Elt F) G9, arg10.view.read (Elt F) G10, arg11.view.read (Elt F) G11, arg12.view.read (Elt F) G12, arg13.view.read (Elt F) G13⟩ (k.val + 1)) = roundK v0 (arg7.view.read (Elt F) X7) k.val ⟨acc, arg6.view.read (Elt F) f6, arg8.view.read (Elt F) f8, arg9.view.read (Elt F) f9, arg10.view.read (Elt F) f10, arg11.view.read (Elt F) f11, arg12.view.read (Elt F) f12, arg13.view.read (Elt F) f13⟩ := by
        rw [hst]; rfl
      unfold inv2
      isplitl [H7]; · iexact H7
      isplitl [H6]
      · iexists _; isplitl [H6]; · iexact H6
        ipureintro; rw [hn]; exact trip_6 𝒱 c bd arg0 harg0 arg1 harg1 arg2 harg2 arg3 harg3 arg4 harg4 arg5 harg5 arg6 harg6 arg7 harg7 arg8 harg8 arg9 harg9 arg10 harg10 arg11 harg11 arg12 harg12 arg13 harg13 v0 X7 k acc f6 f8 f9 f10 f11 f12 f13
      isplitl [H8]
      · iexists _; isplitl [H8]; · iexact H8
        ipureintro; rw [hn]; exact trip_8 𝒱 c bd arg0 harg0 arg1 harg1 arg2 harg2 arg3 harg3 arg4 harg4 arg5 harg5 arg6 harg6 arg7 harg7 arg8 harg8 arg9 harg9 arg10 harg10 arg11 harg11 arg12 harg12 arg13 harg13 v0 X7 k acc f6 f8 f9 f10 f11 f12 f13
      isplitl [H9]
      · iexists _; isplitl [H9]; · iexact H9
        ipureintro; rw [hn]; exact trip_9 𝒱 c bd arg0 harg0 arg1 harg1 arg2 harg2 arg3 harg3 arg4 harg4 arg5 harg5 arg6 harg6 arg7 harg7 arg8 harg8 arg9 harg9 arg10 harg10 arg11 harg11 arg12 harg12 arg13 harg13 v0 X7 k acc f6 f8 f9 f10 f11 f12 f13
      isplitl [H10]
      · iexists _; isplitl [H10]; · iexact H10
        ipureintro; rw [hn]; exact trip_10 𝒱 c bd arg0 harg0 arg1 harg1 arg2 harg2 arg3 harg3 arg4 harg4 arg5 harg5 arg6 harg6 arg7 harg7 arg8 harg8 arg9 harg9 arg10 harg10 arg11 harg11 arg12 harg12 arg13 harg13 v0 X7 k acc f6 f8 f9 f10 f11 f12 f13
      isplitl [H11]
      · iexists _; isplitl [H11]; · iexact H11
        ipureintro; rw [hn]; exact trip_11 𝒱 c bd arg0 harg0 arg1 harg1 arg2 harg2 arg3 harg3 arg4 harg4 arg5 harg5 arg6 harg6 arg7 harg7 arg8 harg8 arg9 harg9 arg10 harg10 arg11 harg11 arg12 harg12 arg13 harg13 v0 X7 k acc f6 f8 f9 f10 f11 f12 f13
      isplitl [H12]
      · iexists _; isplitl [H12]; · iexact H12
        ipureintro; rw [hn]; exact trip_12 𝒱 c bd arg0 harg0 arg1 harg1 arg2 harg2 arg3 harg3 arg4 harg4 arg5 harg5 arg6 harg6 arg7 harg7 arg8 harg8 arg9 harg9 arg10 harg10 arg11 harg11 arg12 harg12 arg13 harg13 v0 X7 k acc f6 f8 f9 f10 f11 f12 f13
      isplitl [H13]
      · iexists _; isplitl [H13]; · iexact H13
        ipureintro; rw [hn]; exact trip_13 𝒱 c bd arg0 harg0 arg1 harg1 arg2 harg2 arg3 harg3 arg4 harg4 arg5 harg5 arg6 harg6 arg7 harg7 arg8 harg8 arg9 harg9 arg10 harg10 arg11 harg11 arg12 harg12 arg13 harg13 v0 X7 k acc f6 f8 f9 f10 f11 f12 f13
      ipureintro; rw [hn, hres]; exact trip_acc 𝒱 c bd arg0 harg0 arg1 harg1 arg2 harg2 arg3 harg3 arg4 harg4 arg5 harg5 arg6 harg6 arg7 harg7 arg8 harg8 arg9 harg9 arg10 harg10 arg11 harg11 arg12 harg12 arg13 harg13 v0 X7 k acc f6 f8 f9 f10 f11 f12 f13

/-- The state after the extraction, at the contents the body leaves before it. -/
theorem last_eq (c : Dev nD) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (f0 : BufTy.Contents (Elt F) arg0.view.ty) (f1 : BufTy.Contents (Elt F) arg1.view.ty) (f2 : BufTy.Contents (Elt F) arg2.view.ty) (f6 : BufTy.Contents (Elt F) arg6.view.ty) (f7 : BufTy.Contents (Elt F) arg7.view.ty) :
    rounds lanes (arg7.view.read (Elt F) (arg7.view.writes (Elt F) f7 (Gen.pb_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 f0 f1 f2 k0_t1_loop.trips).2))
      ⟨(Gen.k0_pay60, Gen.k0_pay61), arg6.view.read (Elt F) (arg6.view.writes (Elt F) f6 (Gen.pb_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 f0 f1 f2 k0_t1_loop.trips).1),
        arg8.view.read (Elt F) (arg8.view.writes (Elt F) arg8.view.junk [⟨Rect.unit ![0, 0] S80x128.size Gen.inb_S80x128_S80x128_0_0, Gen.k0_pay53⟩]), arg9.view.read (Elt F) (arg9.view.writes (Elt F) arg9.view.junk [⟨Rect.unit ![0, 0] S80x128.size Gen.inb_S80x128_S80x128_0_0, Gen.k0_pay55⟩]), arg10.view.read (Elt F) (arg10.view.writes (Elt F) arg10.view.junk [⟨Rect.unit ![0, 0] S80x128.size Gen.inb_S80x128_S80x128_0_0, Gen.k0_pay56⟩]), arg11.view.read (Elt F) (arg11.view.writes (Elt F) arg11.view.junk [⟨Rect.unit ![0, 0] S80x128.size Gen.inb_S80x128_S80x128_0_0, Gen.k0_pay57⟩]), arg12.view.read (Elt F) (arg12.view.writes (Elt F) arg12.view.junk [⟨Rect.unit ![0, 0] S80x128.size Gen.inb_S80x128_S80x128_0_0, Gen.k0_pay58⟩]), arg13.view.read (Elt F) (arg13.view.writes (Elt F) arg13.view.junk [⟨Rect.unit ![0, 0] S80x128.size Gen.inb_S80x128_S80x128_0_0, Gen.k0_pay59⟩])⟩ k0_t2_loop.trips
      = (lastSt (arg0.view.read (Elt F) f0) (arg1.view.read (Elt F) f1) (arg2.view.read (Elt F) f2)) := by
  rw [trips1, trips2, box_all Variants.none c none arg0 harg0 arg1 harg1 arg2 harg2 arg3 harg3 arg4 harg4 arg5 harg5 arg6 harg6 arg7 harg7 arg8 harg8 arg9 harg9 arg10 harg10 arg11 harg11 arg12 harg12 arg13 harg13 f0 f1 f2 f7, score_all Variants.none c none arg0 harg0 arg1 harg1 arg2 harg2 arg3 harg3 arg4 harg4 arg5 harg5 arg6 harg6 arg7 harg7 arg8 harg8 arg9 harg9 arg10 harg10 arg11 harg11 arg12 harg12 arg13 harg13 f0 f1 f2 f6, wr80', wr80', wr80', wr80', wr80', wr80']
  rfl

/-- The buffers of the whole body. -/
abbrev ResAll (c : Dev nD) (arg0 : Memref sig .tc .vmem S80x10752 .f32) (arg1 : Memref sig .tc .vmem S8x10752 .f32) (arg2 : Memref sig .tc .vmem S8x10752 .f32) (arg3 : Memref sig .tc .vmem S8x128 .f32) (arg4 : Memref sig .tc .vmem S8x128 .f32) (arg5 : Memref sig .tc .vmem S8x128 .i32) (arg6 : Memref sig .tc .vmem S80x10752 .f32) (arg7 : Memref sig .tc .vmem S8x10752 .f32) (arg8 : Memref sig .tc .vmem S80x128 .f32) (arg9 : Memref sig .tc .vmem S80x128 .f32) (arg10 : Memref sig .tc .vmem S80x128 .f32) (arg11 : Memref sig .tc .vmem S80x128 .f32) (arg12 : Memref sig .tc .vmem S80x128 .f32) (arg13 : Memref sig .tc .vmem S80x128 .f32) (f0 : BufTy.Contents (Elt F) arg0.view.ty) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) : sProp 𝕄K :=
  iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))

/-- The whole body run once: it leaves its inputs and the model's three results in the outputs, whatever the outputs and the
    scratch buffers held before. -/
theorem bodyRun (c : Dev nD) (E : Set ℕ) (arg0 : Memref sig .tc .vmem S80x10752 .f32) (harg0 : arg0.IsWhole) (arg1 : Memref sig .tc .vmem S8x10752 .f32) (harg1 : arg1.IsWhole) (arg2 : Memref sig .tc .vmem S8x10752 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128 .i32) (harg5 : arg5.IsWhole) (arg6 : Memref sig .tc .vmem S80x10752 .f32) (harg6 : arg6.IsWhole) (arg7 : Memref sig .tc .vmem S8x10752 .f32) (harg7 : arg7.IsWhole) (arg8 : Memref sig .tc .vmem S80x128 .f32) (harg8 : arg8.IsWhole) (arg9 : Memref sig .tc .vmem S80x128 .f32) (harg9 : arg9.IsWhole) (arg10 : Memref sig .tc .vmem S80x128 .f32) (harg10 : arg10.IsWhole) (arg11 : Memref sig .tc .vmem S80x128 .f32) (harg11 : arg11.IsWhole) (arg12 : Memref sig .tc .vmem S80x128 .f32) (harg12 : arg12.IsWhole) (arg13 : Memref sig .tc .vmem S80x128 .f32) (harg13 : arg13.IsWhole) (f0 : BufTy.Contents (Elt F) arg0.view.ty) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    ResAll (F := F) c arg0 arg1 arg2 arg3 arg4 arg5 arg6 arg7 arg8 arg9 arg10 arg11 arg12 arg13 f0 f1 f2 f3 f4 f5 f6 f7 f8 f9 f10 f11 f12 f13
      ⊢ wp frame (wpE (defs₀ (F := F)) Variants.none (c : Thread nD τ) none) E (cc0__body (F := F) arg0 harg0 arg1 harg1 arg2 harg2 arg3 harg3 arg4 harg4 arg5 harg5 arg6 harg6 arg7 harg7 arg8 harg8 arg9 harg9 arg10 harg10 arg11 harg11 arg12 harg12 arg13 harg13)
          (fun _ => iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (∃ f, (arg3.view.loc (c : Thread nD τ) ↦[arg3.view.set]{fullShare} f) ∗ ⌜arg3.view.read (Elt F) f = (outK (arg0.view.read (Elt F) f0) (arg1.view.read (Elt F) f1) (arg2.view.read (Elt F) f2)).2.1⌝) ∗ (∃ f, (arg4.view.loc (c : Thread nD τ) ↦[arg4.view.set]{fullShare} f) ∗ ⌜arg4.view.read (Elt F) f = (outK (arg0.view.read (Elt F) f0) (arg1.view.read (Elt F) f1) (arg2.view.read (Elt F) f2)).2.2.1⌝) ∗ (∃ f, (arg5.view.loc (c : Thread nD τ) ↦[arg5.view.set]{fullShare} f) ∗ ⌜arg5.view.read (Elt F) f = (outK (arg0.view.read (Elt F) f0) (arg1.view.read (Elt F) f1) (arg2.view.read (Elt F) f2)).2.2.2⌝) ∗ (∃ f, (arg6.view.loc (c : Thread nD τ) ↦[arg6.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)))) := by
  rw [Gen.cc0__body_eq_skeleton]
  unfold Gen.cc0__body_skel
  iintro ⟨H0, H1, H2, H3, H4, H5, H6, H7, H8, H9, H10, H11, H12, H13⟩
  sl_exec
  sl_step
  have hl := last_eq (F := F) c arg0 harg0 arg1 harg1 arg2 harg2 arg3 harg3 arg4 harg4 arg5 harg5 arg6 harg6 arg7 harg7 arg8 harg8 arg9 harg9 arg10 harg10 arg11 harg11 arg12 harg12 arg13 harg13 f0 f1 f2 f6 f7
  have h8 : View.read (Elt F) arg8.view fL3 = (lastSt (arg0.view.read (Elt F) f0) (arg1.view.read (Elt F) f1) (arg2.view.read (Elt F) f2)).ts := by rw [← hl]; assumption
  have h9 : View.read (Elt F) arg9.view fL4 = (lastSt (arg0.view.read (Elt F) f0) (arg1.view.read (Elt F) f1) (arg2.view.read (Elt F) f2)).x1 := by rw [← hl]; assumption
  have h10 : View.read (Elt F) arg10.view fL5 = (lastSt (arg0.view.read (Elt F) f0) (arg1.view.read (Elt F) f1) (arg2.view.read (Elt F) f2)).y1 := by rw [← hl]; assumption
  have h11 : View.read (Elt F) arg11.view fL6 = (lastSt (arg0.view.read (Elt F) f0) (arg1.view.read (Elt F) f1) (arg2.view.read (Elt F) f2)).x2 := by rw [← hl]; assumption
  have h12 : View.read (Elt F) arg12.view fL7 = (lastSt (arg0.view.read (Elt F) f0) (arg1.view.read (Elt F) f1) (arg2.view.read (Elt F) f2)).y2 := by rw [← hl]; assumption
  have hm : Gen.st_k0_t5 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 lanes rows fL4 fL5 fL6 fL7
      (Gen.k0_pay1 lanes (lastSt (arg0.view.read (Elt F) f0) (arg1.view.read (Elt F) f1) (arg2.view.read (Elt F) f2)).acc.1 (Scalar.ofBits .f32 0x3F000000#32) (View.readAt (Elt F) arg8.view (Rect.unit ![0, 0] S80x128.size Gen.inb_S80x128_S80x128_0_0).toLoadRect fL3),
        Gen.k0_pay2, Gen.k0_pay2, Gen.k0_pay3) k0_t5_loop.trips = (outK (arg0.view.read (Elt F) f0) (arg1.view.read (Elt F) f1) (arg2.view.read (Elt F) f2)) := by
    rw [rd80, h8, trips5]
    exact st5_eq Variants.none c none arg0 harg0 arg1 harg1 arg2 harg2 arg3 harg3 arg4 harg4 arg5 harg5 arg6 harg6 arg7 harg7 arg8 harg8 arg9 harg9 arg10 harg10 arg11 harg11 arg12 harg12 arg13 harg13 fL4 fL5 fL6 fL7 (lastSt (arg0.view.read (Elt F) f0) (arg1.view.read (Elt F) f1) (arg2.view.read (Elt F) f2)) h9 h10 h11 h12 (mergeStart (lastSt (arg0.view.read (Elt F) f0) (arg1.view.read (Elt F) f1) (arg2.view.read (Elt F) f2))) 100 le_rfl
  rw [← hl] at hm
  isplitl [H0]; · iexact H0
  isplitl [H1]; · iexact H1
  isplitl [H2]; · iexact H2
  isplitl [H3]
  · iexists _; isplitl [H3]; · iexact H3
    ipureintro; rw [← hm]; exact View.read_writes_full _ _ _ _ _
  isplitl [H4]
  · iexists _; isplitl [H4]; · iexact H4
    ipureintro; rw [← hm]; exact View.read_writes_full _ _ _ _ _
  isplitl [H5]
  · iexists _; isplitl [H5]; · iexact H5
    ipureintro; rw [← hm]; exact View.read_writes_full _ _ _ _ _
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iexists _; iexact H13

end Cert.Proof.KernelIdeal

end
-- ==== Proof.KernelIdealRun.lean ====
/- The launch of `KernelIdeal`: the one point's proof data, the body obligation, and the run. -/
module

public import proofs.«01_k».proof.Proof.KernelIdealBody
public import proofs.«01_k».proof.Proof.Gen.KernelIdeal.Frame

@[expose] public section

set_option maxRecDepth 8192
set_option maxHeartbeats 2000000

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat BodyObligation BodyObligationLoose)

namespace Cert.Proof.KernelIdeal

open Cert.KernelIdeal Cert.KernelIdeal.Gen

variable {F : FTy → Type} [FloatOps F]
variable (m : (ℓ : Loc nD τ sig) → Buf (Elt F) ℓ) (ρ : Dev nD → PrngReg)

local notation "𝕄K" => MT nD τ sig Unit (Elt F) ℕ (UR sig nD τ) ℕ

/-- The three inputs of the kernel at a core, and the three results there. -/
def in0 (c : Dev nD) : FS F := iblk m c 0 t0_0
def in1 (c : Dev nD) : FB F := iblk m c 1 t0_0
def in2 (c : Dev nD) : FB F := iblk m c 2 t0_0
def res (c : Dev nD) : Mg F := outK (in0 m c) (in1 m c) (in2 m c)

/-- The body run at the buffers the launch gives it. -/
theorem bodyWhole (c : Dev nD) (E : Set ℕ) (f0 : Buf (Elt F) ((c : Thread nD τ).loc cc0_stg0_0)) (f1 : Buf (Elt F) ((c : Thread nD τ).loc cc0_stg1_0)) (f2 : Buf (Elt F) ((c : Thread nD τ).loc cc0_stg2_0)) (f3 : Buf (Elt F) ((c : Thread nD τ).loc cc0_stg3_0)) (f4 : Buf (Elt F) ((c : Thread nD τ).loc cc0_stg4_0)) (f5 : Buf (Elt F) ((c : Thread nD τ).loc cc0_stg5_0)) (f6 : Buf (Elt F) ((c : Thread nD τ).loc cc0_scratch0)) (f7 : Buf (Elt F) ((c : Thread nD τ).loc cc0_scratch1)) (f8 : Buf (Elt F) ((c : Thread nD τ).loc cc0_scratch2)) (f9 : Buf (Elt F) ((c : Thread nD τ).loc cc0_scratch3)) (f10 : Buf (Elt F) ((c : Thread nD τ).loc cc0_scratch4)) (f11 : Buf (Elt F) ((c : Thread nD τ).loc cc0_scratch5)) (f12 : Buf (Elt F) ((c : Thread nD τ).loc cc0_scratch6)) (f13 : Buf (Elt F) ((c : Thread nD τ).loc cc0_scratch7)) :
    (iprop((((c : Thread nD τ).loc cc0_stg0_0) ↦{fullShare} f0) ∗ (((c : Thread nD τ).loc cc0_stg1_0) ↦{fullShare} f1) ∗ (((c : Thread nD τ).loc cc0_stg2_0) ↦{fullShare} f2) ∗ (((c : Thread nD τ).loc cc0_stg3_0) ↦{fullShare} f3) ∗ (((c : Thread nD τ).loc cc0_stg4_0) ↦{fullShare} f4) ∗ (((c : Thread nD τ).loc cc0_stg5_0) ↦{fullShare} f5) ∗ (((c : Thread nD τ).loc cc0_scratch0) ↦{fullShare} f6) ∗ (((c : Thread nD τ).loc cc0_scratch1) ↦{fullShare} f7) ∗ (((c : Thread nD τ).loc cc0_scratch2) ↦{fullShare} f8) ∗ (((c : Thread nD τ).loc cc0_scratch3) ↦{fullShare} f9) ∗ (((c : Thread nD τ).loc cc0_scratch4) ↦{fullShare} f10) ∗ (((c : Thread nD τ).loc cc0_scratch5) ↦{fullShare} f11) ∗ (((c : Thread nD τ).loc cc0_scratch6) ↦{fullShare} f12) ∗ (((c : Thread nD τ).loc cc0_scratch7) ↦{fullShare} f13)) : sProp 𝕄K)
      ⊢ wp Idealize.ShloMosaic.frame (wpE (defs₀ (F := F)) Variants.none (c : Thread nD τ) none) E (cc0__body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _))
          (fun _ => iprop((((c : Thread nD τ).loc cc0_stg0_0) ↦{fullShare} f0) ∗ (((c : Thread nD τ).loc cc0_stg1_0) ↦{fullShare} f1) ∗ (((c : Thread nD τ).loc cc0_stg2_0) ↦{fullShare} f2) ∗ (∃ f, (((c : Thread nD τ).loc cc0_stg3_0) ↦{fullShare} f) ∗ ⌜f = (outK f0 f1 f2).2.1⌝) ∗ (∃ f, (((c : Thread nD τ).loc cc0_stg4_0) ↦{fullShare} f) ∗ ⌜f = (outK f0 f1 f2).2.2.1⌝) ∗ (∃ f, (((c : Thread nD τ).loc cc0_stg5_0) ↦{fullShare} f) ∗ ⌜f = (outK f0 f1 f2).2.2.2⌝) ∗ (∃ f, (((c : Thread nD τ).loc cc0_scratch0) ↦{fullShare} f)) ∗ (∃ f, (((c : Thread nD τ).loc cc0_scratch1) ↦{fullShare} f)) ∗ (∃ f, (((c : Thread nD τ).loc cc0_scratch2) ↦{fullShare} f)) ∗ (∃ f, (((c : Thread nD τ).loc cc0_scratch3) ↦{fullShare} f)) ∗ (∃ f, (((c : Thread nD τ).loc cc0_scratch4) ↦{fullShare} f)) ∗ (∃ f, (((c : Thread nD τ).loc cc0_scratch5) ↦{fullShare} f)) ∗ (∃ f, (((c : Thread nD τ).loc cc0_scratch6) ↦{fullShare} f)) ∗ (∃ f, (((c : Thread nD τ).loc cc0_scratch7) ↦{fullShare} f)))) := by
  have h := bodyRun (F := F) c E (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) f0 f1 f2 f3 f4 f5 f6 f7 f8 f9 f10 f11 f12 f13
  simp only [ResAll, Memref.IsWhole.set_eq_univ (Memref.isWhole_whole _)] at h
  exact h

/-- The proof data of the one point: every input's block stays, every output's block is the model's result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (res m c).2.1
    | ⟨4, _⟩ => (res m c).2.2.1
    | ⟨5, _⟩ => (res m c).2.2.2
  Φ _ := Pipeline.ΦA spec0 c
  q _ := fullShare
  owed _ := 0

theorem dats_A (c : Dev nD) (w : Fin cfg0.W) : (dats m 0 c).A w = V m c (Pipeline.arrRef spec0 w) := by
  dsimp only [dats]

theorem before0 (c : Dev nD) (d) : (dats m 0 c).before 0 t0_0 d = in0 m c :=
  before0_0_of m (dats m 0 c) (dats_A m c 0) (fun t => by dsimp only [dats]) t0_0 d
theorem before1 (c : Dev nD) (d) : (dats m 0 c).before 1 t0_0 d = in1 m c :=
  before0_1_of m (dats m 0 c) (dats_A m c 1) (fun t => by dsimp only [dats]) t0_0 d
theorem before2 (c : Dev nD) (d) : (dats m 0 c).before 2 t0_0 d = in2 m c :=
  before0_2_of m (dats m 0 c) (dats_A m c 2) (fun t => by dsimp only [dats]) t0_0 d

/-- The body obligation: the buffers taken apart, the body run, and put together again. -/
theorem body_ob (c : Dev nD) : BodyObligation (dats m 0 c) (defs₀ (F := F)) Variants.none () Set.univ := fun t => by
  obtain rfl := fin_N0 t
  rw [bigSep_W0, bigSep_W0]
  simp only [owns_whole_eq]
  rw [show (dats m 0 c).Φ t0_0.castSucc = Pipeline.ΦA spec0 c from rfl, show (dats m 0 c).Φ t0_0.succ = Pipeline.ΦA spec0 c from rfl]
  unfold Pipeline.ΦA Dat.owesAt Pipeline.owesWithin
  rw [scopedRest0_eq]
  rw [show (dats m 0 c).owed t0_0.castSucc = 0 from rfl, show (dats m 0 c).owed t0_0.succ = 0 from rfl]
  iintro ⟨⟨⟨⟨%f6, H6⟩, ⟨%f7, H7⟩, ⟨%f8, H8⟩, ⟨%f9, H9⟩, ⟨%f10, H10⟩, ⟨%f11, H11⟩, ⟨%f12, H12⟩, ⟨%f13, H13⟩⟩, HP⟩, ⟨%W, %hW, HO⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  rw [before0] at e0
  rw [before1] at e1
  rw [before2] at e2
  iapply (wp_wand_r Idealize.ShloMosaic.frame (wpE (defs₀ (F := F)) Variants.none (c : Thread nD τ) none) Set.univ)
  isplitl [H0 H1 H2 H3 H4 H5 H6 H7 H8 H9 H10 H11 H12 H13]
  · iapply (bodyWhole (F := F) c Set.univ f0 f1 f2 f3 f4 f5 f6 f7 f8 f9 f10 f11 f12 f13)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iintro %_ ⟨H0, H1, H2, ⟨%g3, H3, %h3⟩, ⟨%g4, H4, %h4⟩, ⟨%g5, H5, %h5⟩, ⟨%g6, H6⟩, ⟨%g7, H7⟩, ⟨%g8, H8⟩, ⟨%g9, H9⟩, ⟨%g10, H10⟩, ⟨%g11, H11⟩, ⟨%g12, H12⟩, ⟨%g13, H13⟩⟩
    isplitl [HP H6 H7 H8 H9 H10 H11 H12 H13]
    · isplitl [H6 H7 H8 H9 H10 H11 H12 H13]
      · isplitl [H6]; · iexists _; iexact H6
        isplitl [H7]; · iexists _; iexact H7
        isplitl [H8]; · iexists _; iexact H8
        isplitl [H9]; · iexists _; iexact H9
        isplitl [H10]; · iexists _; iexact H10
        isplitl [H11]; · iexists _; iexact H11
        isplitl [H12]; · iexists _; iexact H12
        iexists _; iexact H13
      iexact HP
    isplitl [HO]
    · iexists W; isplitr; · ipureintro; exact fun _ _ => Or.inl trivial
      iexact HO
    isplitl [H0]; · iexists f0; isplitr; · ipureintro; rw [e0]; dsimp only [dats]; rfl
                    iexact H0
    isplitl [H1]; · iexists f1; isplitr; · ipureintro; rw [e1]; dsimp only [dats]; rfl
                    iexact H1
    isplitl [H2]; · iexists f2; isplitr; · ipureintro; rw [e2]; dsimp only [dats]; rfl
                    iexact H2
    isplitl [H3]; · iexists g3; isplitr; · ipureintro; rw [e0, e1, e2] at h3; dsimp only [dats]; exact h3
                    iexact H3
    isplitl [H4]; · iexists g4; isplitr; · ipureintro; rw [e0, e1, e2] at h4; dsimp only [dats]; exact h4
                    iexact H4
    iexists g5; isplitr; · ipureintro; rw [e0, e1, e2] at h5; dsimp only [dats]; exact h5
    iexact H5

/-- THE RUN: every array ends at what the proof data say, every other buffer at what the host operations leave, every
    semaphore counter at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) 0 launch0 defs₀ Variants.none m ρ main (fun c => (body_ob m c).loose)
    (fun c => (dats m 0 c).share_full fun _ => rfl) (fun _ _ => rfl) (V0 m) [hostOps1] sfx_sub sfx_fresh sfx_keeps (hmain m Variants.none)
    (dats_A m) (fun _ _ => rfl) _ (fun _ h => h)

end Cert.Proof.KernelIdeal

end
-- ==== Proof.ReferenceIdealRun.lean ====
/- The reference's run: its host operations and its counted loop leave the arguments alone, and the program has no semaphore. -/
module

public import proofs.«01_k».proof.Proof.Gen.ReferenceIdeal.Run

@[expose] public section

set_option maxRecDepth 16384

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The program has no semaphore, so two counter states are equal. -/
theorem sems_eq {α : Type} (f g : GSem nD τ sig → α) : f = g := by
  funext s
  rcases s with ⟨_, s | s⟩ <;> exact s.elim0

/-- A buffer none of the loop's operations writes is at the loop's `k`-th trip what it was at its entry. -/
theorem keep_loop (r : Ref sig .tc) (hc : r ∉ condOps_W) (h0 : r ∉ while0Ops0_W) (h1 : r ∉ while0Ops0_1_W) (h2 : r ∉ while0Ops0_2_W)
    (k : ℕ) (c : Dev nD) : atK m k c (Proc.devRef .tc r) = entryContents preI m c (Proc.devRef .tc r) := by
  induction k with
  | zero => rfl
  | succ k ih =>
    rw [atK, atTrip_succ, afterL_cons, afterL_cons, afterL_cons, afterL_nil,
      after_of_writes_sub _ _ while0Ops0_2_writes h2, after_of_writes_sub _ _ while0Ops0_1_writes h1,
      after_of_writes_sub _ _ while0Ops0_writes h0, after_of_writes_sub _ _ condOps_writes hc]
    exact ih

/-- What the first stretch after the loop writes. -/
abbrev hostOps0_1_W : List (Ref sig .tc) := [main_cst_34]
theorem hostOps0_1_writes : (hostOps0_1 : List (HloOp τ sig (Elt F))).Forall fun op => op.writes ⊆ (hostOps0_1_W.map (Proc.devRef (τ := τ) .tc)).toFinset :=
  StableHlo.forall_writes_sub_of_map rfl

/-- What the second stretch after the loop writes, in order. -/
abbrev hostOps0_2_W : List (Ref sig .tc) := [main_call1_v0, main_call1_v1, main_v184]
theorem hostOps0_2_writes : (hostOps0_2 : List (HloOp τ sig (Elt F))).Forall fun op => op.writes ⊆ (hostOps0_2_W.map (Proc.devRef (τ := τ) .tc)).toFinset :=
  StableHlo.forall_writes_sub_of_map rfl
/-- What the third stretch after the loop writes, in order. -/
abbrev hostOps0_3_W : List (Ref sig .tc) := [main_v185, main_v186, main_v187, main_v188, main_v189, main_v190, main_values_35, main_indices_36, main_c_37, main_v191, main_v192, main_c_38, main_v193, main_v194, main_v195, main_v196, main_v197, main_c_39, main_v198, main_v199, main_c_40, main_v200, main_v201, main_v202, main_v203, main_v204]
theorem hostOps0_3_writes : (hostOps0_3 : List (HloOp τ sig (Elt F))).Forall fun op => op.writes ⊆ (hostOps0_3_W.map (Proc.devRef (τ := τ) .tc)).toFinset :=
  StableHlo.forall_writes_sub_of_map rfl

/-- A buffer no operation writes ends as it was launched. -/
theorem keep_all (r : Ref sig .tc) (hp : r ∉ hostOps0_W) (hc : r ∉ condOps_W) (h0 : r ∉ while0Ops0_W) (h1 : r ∉ while0Ops0_1_W) (h2 : r ∉ while0Ops0_2_W)
    (g1 : r ∉ hostOps0_1_W) (g2 : r ∉ hostOps0_2_W) (g3 : r ∉ hostOps0_3_W) (c : Dev nD) :
    finalContents condOps preI bodyI postI 100 m c (Proc.devRef .tc r) = m ((c.tc : Thread nD τ).loc r) := by
  rw [finalContents, afterL_cons, afterL_cons, afterL_cons, afterL_nil,
    after_of_writes_sub _ _ hostOps0_3_writes g3, after_of_writes_sub _ _ hostOps0_2_writes g2,
    after_of_writes_sub _ _ hostOps0_1_writes g1, after_of_writes_sub _ _ condOps_writes hc]
  refine (keep_loop m r hc h0 h1 h2 100 c).trans ?_
  rw [entryContents, afterL_cons, afterL_nil, after_of_writes_sub _ _ hostOps0_writes hp]

/-- No operation writes the first argument. -/
theorem arg0_kept (c : Dev nD) : finalContents condOps preI bodyI postI 100 m c (Proc.devRef .tc main_arg0) = m ((c.tc : Thread nD τ).loc main_arg0) :=
  keep_all m main_arg0 (by decide +kernel) (by decide +kernel) (by decide +kernel) (by decide +kernel) (by decide +kernel) (by decide +kernel) (by decide +kernel) (by decide +kernel) c
/-- No operation writes the second argument. -/
theorem arg1_kept (c : Dev nD) : finalContents condOps preI bodyI postI 100 m c (Proc.devRef .tc main_arg1) = m ((c.tc : Thread nD τ).loc main_arg1) :=
  keep_all m main_arg1 (by decide +kernel) (by decide +kernel) (by decide +kernel) (by decide +kernel) (by decide +kernel) (by decide +kernel) (by decide +kernel) (by decide +kernel) c
/-- No operation writes the third argument. -/
theorem arg2_kept (c : Dev nD) : finalContents condOps preI bodyI postI 100 m c (Proc.devRef .tc main_arg2) = m ((c.tc : Thread nD τ).loc main_arg2) :=
  keep_all m main_arg2 (by decide +kernel) (by decide +kernel) (by decide +kernel) (by decide +kernel) (by decide +kernel) (by decide +kernel) (by decide +kernel) (by decide +kernel) c

/-- The run ends with the arguments as launched and every counter at zero. -/
theorem frame : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run _ _ _).mono (fun r h => ⟨fun c => ⟨(h c main_arg0 rfl).trans (arg0_kept m c), (h c main_arg1 rfl).trans (arg1_kept m c),
    (h c main_arg2 rfl).trans (arg2_kept m c)⟩, sems_eq _ _⟩) (run_fold m ρ)

end Cert.Proof.ReferenceIdeal

end
-- ==== Proof.Fold.lean ====
/- Folds of a maximum and of a signed minimum over a finite type, when the place that attains them is known; and how
   the constants compare. -/
module

public import Idealize.ShloMosaic.Lib.Pointwise

@[expose] public section

noncomputable section

open Idealize.ShloMosaic

namespace Cert.Proof

variable {ι : Type} [Fintype ι]

/-- The fold of the maximum is the value no other exceeds. -/
theorem fold_max_eq (f : ι → EReal) (b : EReal) (i : ι) (hb : b ≤ f i) (h : ∀ j, f j ≤ f i) : Finset.univ.fold max b f = f i := by
  apply le_antisymm
  · exact Finset.fold_max_le _ |>.mpr ⟨hb, fun j _ => h j⟩
  · exact Finset.le_fold_max _ |>.mpr (Or.inr ⟨i, Finset.mem_univ _, le_rfl⟩)

theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

/-- The fold of the signed minimum is the word no other is below. -/
theorem fold_minsi_eq (f : ι → BitVec 32) (b : BitVec 32) (i : ι) (hb : (f i).toInt ≤ b.toInt) (h : ∀ j, (f i).toInt ≤ (f j).toInt) :
    Finset.univ.fold IntOp.minsi b f = f i := by
  apply BitVec.eq_of_toInt_eq
  rw [← Finset.fold_hom (op' := min) (m := BitVec.toInt) toInt_minsi]
  apply le_antisymm
  · exact Finset.fold_min_le _ |>.mpr (Or.inr ⟨i, Finset.mem_univ _, le_rfl⟩)
  · exact Finset.le_fold_min _ |>.mpr ⟨hb, fun j _ => h j⟩

/-- A small natural number as a word, read back with a sign. -/
theorem toInt_ofNat {n : ℕ} (h : n < 2147483648) : (BitVec.ofNat 32 n).toInt = n := by
  rw [BitVec.toInt_ofNat']; rw [Int.bmod_def]; omega

theorem ofNat_inj {a b : ℕ} (ha : a < 4294967296) (hb : b < 4294967296) : BitVec.ofNat 32 a = BitVec.ofNat 32 b ↔ a = b := by
  constructor
  · intro h
    have := congrArg BitVec.toNat h
    simpa [Nat.mod_eq_of_lt ha, Nat.mod_eq_of_lt hb] using this
  · rintro rfl; rfl

/-- Which lane of which block a word names. -/
theorem sub_eq_lane (g : BitVec 32) (k l : ℕ) : g - BitVec.ofNat 32 k * 128#32 = BitVec.ofNat 32 l ↔ g = BitVec.ofNat 32 (128 * k + l) := by
  have e : BitVec.ofNat 32 (128 * k + l) = BitVec.ofNat 32 l + BitVec.ofNat 32 k * 128#32 := by
    apply BitVec.eq_of_toNat_eq; simp [Nat.add_mod, Nat.mul_mod]; ring_nf
  rw [e]
  constructor
  · intro h; rw [← h, BitVec.sub_add_cancel]
  · intro h; rw [h, BitVec.add_sub_cancel]

theorem iv_eq (k : ℕ) : Scf.iv 0#32 1#32 k = BitVec.ofNat 32 k := by
  induction k with
  | zero => rfl
  | succ k ih => rw [Scf.iv_succ, ih]; exact (BitVec.ofNat_add ..).symm

theorem ofBool_eq_one (b : Bool) : (BitVec.ofBool b = 1#1) = (b = true) := by cases b <;> simp
theorem andi_eq_one (a b : BitVec 1) : (IntOp.andi a b = 1#1) = (a = 1#1 ∧ b = 1#1) := by
  revert a b; decide
theorem cmpi_eq_one (a b : BitVec 32) : (IntOp.cmpi .eq a b = 1#1) = (a = b) := by
  unfold IntOp.cmpi; simp [ofBool_eq_one]
theorem scalar_select {α : Type} (c : BitVec 1) (a b : α) : Scalar.select c a b = if c = 1#1 then a else b := by
  unfold Scalar.select; rcases (show c = 0#1 ∨ c = 1#1 by revert c; decide) with rfl | rfl <;> rfl

theorem cNeg2 : Ideal.ofBits .f32 0xC0000000#32 = ((-2 : ℝ) : EReal) := by
  simp [Ideal.ofBits, Ideal.ieee, -EReal.coe_mul, -EReal.coe_neg]; norm_num
theorem cNeg1 : Ideal.ofBits .f32 0xBF800000#32 = ((-1 : ℝ) : EReal) := by
  simp [Ideal.ofBits, Ideal.ieee, -EReal.coe_mul, -EReal.coe_neg]; norm_num
theorem cNeg3 : Ideal.ofBits .f32 0xC0400000#32 = ((-3 : ℝ) : EReal) := by
  simp [Ideal.ofBits, Ideal.ieee, -EReal.coe_mul, -EReal.coe_neg]; norm_num
theorem cNeg5 : Ideal.ofBits .f32 0xC0A00000#32 = ((-5 : ℝ) : EReal) := by
  simp [Ideal.ofBits, Ideal.ieee, -EReal.coe_mul, -EReal.coe_neg]; norm_num
theorem cHalf : Ideal.ofBits .f32 0x3F000000#32 = ((1 / 2 : ℝ) : EReal) := by
  simp [Ideal.ofBits, Ideal.ieee, -EReal.coe_mul, -EReal.coe_neg]; norm_num
theorem cOne : Ideal.ofBits .f32 0x3F800000#32 = ((1 : ℝ) : EReal) := by
  simp [Ideal.ofBits, Ideal.ieee, -EReal.coe_mul, -EReal.coe_neg]; norm_num
theorem cLow : Ideal.ofBits .f32 0xF149F2CA#32 < ((-100 : ℝ) : EReal) := by
  simp [Ideal.ofBits, Ideal.ieee, -EReal.coe_mul, -EReal.coe_neg]; norm_num
theorem cBot : Ideal.ofBits .f32 0xFF800000#32 = ⊥ := by
  simp [Ideal.ofBits, Ideal.ieee]

end Cert.Proof

end
-- ==== Proof.KernelIdealReads.lean ====
/- What the loop bodies' values are at an index, over the extended reals: the scan, the gathering, the round's update. -/
module

public import proofs.«01_k».proof.Proof.KernelIdealModel
public import proofs.«01_k».proof.Proof.Fold

@[expose] public section

set_option maxRecDepth 8192
noncomputable section

open Idealize.ShloMosaic Idealize.ShloMosaic.TcCoe

namespace Cert.Proof.KernelIdeal

open Cert.KernelIdeal VecWindow

/-- Block `k` of the scores at an index. -/
theorem blkS_apply (S : FS Ideal) (k : ℕ) (h : k < 84) (r : Fin 80) (l : Fin 128) : blkS S k h (ix2 r l) = S (ix2 r ⟨128 * k + l.val, by omega⟩) := by
  unfold blkS window
  refine congrArg S (funext fun a => Fin.ext ?_)
  match a with
  | 0 => show 0 + 1 * r.val = r.val; omega
  | 1 => show 128 * k + 1 * l.val = 128 * k + l.val; omega

theorem blkB_apply (B : FB Ideal) (k : ℕ) (h : k < 84) (j : Fin 8) (l : Fin 128) : blkB B k h (ix2 j l) = B (ix2 j ⟨128 * k + l.val, by omega⟩) := by
  unfold blkB window
  refine congrArg B (funext fun a => Fin.ext ?_)
  match a with
  | 0 => show 0 + 1 * j.val = j.val; omega
  | 1 => show 128 * k + 1 * l.val = 128 * k + l.val; omega

/-- The scores after block `k` is written, at an index in the block and at one outside it. -/
theorem putS_in (S : FS Ideal) (k : ℕ) (w : FV Ideal) (r : Fin 80) (y : Fin 10752) (l : Fin 128) (e : y.val = 128 * k + l.val) :
    (put S ![0, 128 * k] ![80, 128] w : FS Ideal) (ix2 r y) = w (ix2 r l) := by
  unfold put
  rw [dif_pos (by
    intro a
    match a with
    | 0 => show 0 ≤ r.val ∧ r.val < 0 + 80; omega
    | 1 => show 128 * k ≤ y.val ∧ y.val < 128 * k + 128; omega)]
  refine congrArg w (funext fun a => Fin.ext ?_)
  match a with
  | 0 => show r.val - 0 = r.val; omega
  | 1 => show y.val - 128 * k = l.val; omega

theorem putS_out (S : FS Ideal) (k : ℕ) (w : FV Ideal) (r : Fin 80) (y : Fin 10752) (e : y.val < 128 * k ∨ 128 * k + 128 ≤ y.val) :
    (put S ![0, 128 * k] ![80, 128] w : FS Ideal) (ix2 r y) = S (ix2 r y) := by
  unfold put
  refine dif_neg fun h => ?_
  have h1 : 128 * k ≤ y.val ∧ y.val < 128 * k + 128 := h 1
  omega

section reads

variable (g a : IV) (k : Fin k0_t3_loop.trips) (k4 : Fin k0_t4_loop.trips) (v w : FV Ideal) (m : FVec Ideal S80x1 .f32) (c c' : IVec S80x128 1)
  (r : Fin 80) (l : Fin 128) (b : FVec Ideal S8x128 .f32)

/-- A block of scores with the place the class took last round struck out. -/
theorem pay18_apply : Gen.k0_pay18 (F := Ideal) lanes g k v (ix2 r l) =
    if g (ix2 r l) = BitVec.ofNat 32 (128 * k.val + l.val) then Ideal.ofBits .f32 0xC0000000#32 else v (ix2 r l) := by
  pointwise [Gen.k0_pay18, lanes]
  simp only [scalar_select, cmpi_eq_one, iv_eq, IntOp.subi, Scalar.muli, IntOp.muli, sub_eq_lane]

theorem pay19_eq : Gen.k0_pay19 (F := Ideal) lanes g k v = Gen.k0_pay18 (F := Ideal) lanes g k v := by
  unfold Gen.k0_pay19; rw [shapeCast_self]

theorem pay20_apply : (Gen.k0_pay20 (F := Ideal) lanes g k w v (ix2 r l) = 1#1) = (w (ix2 r l) < Gen.k0_pay18 (F := Ideal) lanes g k v (ix2 r l)) := by
  pointwise [Gen.k0_pay20]
  simp [ofBool_eq_one]

theorem pay21_apply : Gen.k0_pay21 (F := Ideal) lanes g k w v (ix2 r l) =
    if w (ix2 r l) < Gen.k0_pay18 (F := Ideal) lanes g k v (ix2 r l) then Gen.k0_pay18 (F := Ideal) lanes g k v (ix2 r l) else w (ix2 r l) := by
  show Scalar.select (Gen.k0_pay20 (F := Ideal) lanes g k w v (ix2 r l)) _ _ = _
  simp only [scalar_select, pay20_apply]

theorem pay22_apply : Gen.k0_pay22 (F := Ideal) lanes g k w a v (ix2 r l) =
    if w (ix2 r l) < Gen.k0_pay18 (F := Ideal) lanes g k v (ix2 r l) then BitVec.ofNat 32 k.val else a (ix2 r l) := by
  show Scalar.select (Gen.k0_pay20 (F := Ideal) lanes g k w v (ix2 r l)) (Scf.iv 0#32 1#32 k.val) _ = _
  simp only [scalar_select, pay20_apply, iv_eq]

/-- A class's best score. -/
theorem pay23_apply : Gen.k0_pay23 (F := Ideal) v (ix2 r 0) = Finset.univ.fold max (Ideal.ofBits .f32 0xFF800000#32) (fun l : Fin 128 => v (ix2 r l)) := by
  pointwise [Gen.k0_pay23]

theorem pay24_apply (M : EReal) (hM : Gen.k0_pay23 (F := Ideal) v (ix2 r 0) = M) (K : BitVec 32)
    (hK : Finset.univ.fold IntOp.minsi 2147483647#32 (fun x : Fin 128 => if v (ix2 r x) = M then a (ix2 r x) else 1073741824#32) = K) :
    Gen.k0_pay24 (F := Ideal) lanes 1073741824#32 v a (ix2 r l) = K * 128#32 +
      Finset.univ.fold IntOp.minsi 2147483647#32 (fun x : Fin 128 => if v (ix2 r x) = M ∧ a (ix2 r x) = K then BitVec.ofNat 32 x.val else 1073741824#32) := by
  subst hM
  subst hK
  rw [pay23_apply]
  pointwise [Gen.k0_pay24, Gen.k0_pay23, lanes]
  simp only [scalar_select, cmpi_eq_one, andi_eq_one, ofBool_eq_one, decide_eq_true_eq, IntOp.addi, IntOp.muli]

theorem pay25_apply : (Gen.k0_pay25 (F := Ideal) lanes 1073741824#32 v a k4 (ix2 r l) = 1#1) =
    (Gen.k0_pay24 (F := Ideal) lanes 1073741824#32 v a (ix2 r l) = BitVec.ofNat 32 (128 * k4.val + l.val)) := by
  unfold Gen.k0_pay25
  generalize Gen.k0_pay24 (F := Ideal) lanes 1073741824#32 v a = q
  pointwise [lanes]
  simp only [cmpi_eq_one, iv_eq, IntOp.subi, Scalar.muli, IntOp.muli, sub_eq_lane]

theorem pay30_apply : Gen.k0_pay30 (F := Ideal) v (ix2 r 0) = ∑ x : Fin 128, v (ix2 r x) := by
  pointwise [Gen.k0_pay30]
theorem pay31_apply : Gen.k0_pay31 (F := Ideal) v (ix2 r 0) = ∑ x : Fin 128, v (ix2 r x) := by
  pointwise [Gen.k0_pay31]
theorem pay32_apply : Gen.k0_pay32 (F := Ideal) v (ix2 r 0) = ∑ x : Fin 128, v (ix2 r x) := by
  pointwise [Gen.k0_pay32]
theorem pay33_apply : Gen.k0_pay33 (F := Ideal) v (ix2 r 0) = ∑ x : Fin 128, v (ix2 r x) := by
  pointwise [Gen.k0_pay33]
theorem pay34_apply (x0 x1 x2 x3 : FV Ideal) : Gen.k0_pay34 (F := Ideal) x0 x1 x2 x3 (ix2 r 0) =
    (Gen.k0_pay32 (F := Ideal) x2 (ix2 r 0) - Gen.k0_pay30 (F := Ideal) x0 (ix2 r 0)) * (Gen.k0_pay33 (F := Ideal) x3 (ix2 r 0) - Gen.k0_pay31 (F := Ideal) x1 (ix2 r 0)) := by
  rfl
theorem pay35_apply : Gen.k0_pay35 (F := Ideal) v (ix2 r l) = Gen.k0_pay30 (F := Ideal) v (ix2 r 0) := by
  pointwise [Gen.k0_pay35]

theorem pay36_apply (n : ℕ) (hn : n < 4294967296) : (Gen.k0_pay36 lanes (Scf.iv 0#32 1#32 n) (ix2 r l) = 1#1) = (l.val = n) := by
  pointwise [Gen.k0_pay36, lanes]
  rw [cmpi_eq_one, iv_eq, ofNat_inj (by omega) hn]

theorem pay38_apply : Gen.k0_pay38 (F := Ideal) v c c' (ix2 r l) = if c (ix2 r l) = 1#1 ∧ c' (ix2 r l) = 1#1 then Ideal.ofBits .f32 0x3F800000#32 else v (ix2 r l) := by
  show Scalar.select (IntOp.andi (c (ix2 r l)) (c' (ix2 r l))) (Ideal.ofBits .f32 0x3F800000#32) _ = _
  simp only [scalar_select, andi_eq_one]

theorem pay39_apply : Gen.k0_pay39 (F := Ideal) m c v (ix2 r l) = if c (ix2 r l) = 1#1 then m (ix2 r 0) else v (ix2 r l) := by
  pointwise [Gen.k0_pay39]
  rw [scalar_select]
theorem pay40_apply : Gen.k0_pay40 (F := Ideal) m c v (ix2 r l) = if c (ix2 r l) = 1#1 then m (ix2 r 0) else v (ix2 r l) := by
  pointwise [Gen.k0_pay40]
  rw [scalar_select]
theorem pay41_apply : Gen.k0_pay41 (F := Ideal) m c v (ix2 r l) = if c (ix2 r l) = 1#1 then m (ix2 r 0) else v (ix2 r l) := by
  pointwise [Gen.k0_pay41]
  rw [scalar_select]
theorem pay42_apply : Gen.k0_pay42 (F := Ideal) m c v (ix2 r l) = if c (ix2 r l) = 1#1 then m (ix2 r 0) else v (ix2 r l) := by
  pointwise [Gen.k0_pay42]
  rw [scalar_select]
theorem pay43_apply : Gen.k0_pay43 (F := Ideal) m c v (ix2 r l) = if c (ix2 r l) = 1#1 then m (ix2 r 0) else v (ix2 r l) := by
  pointwise [Gen.k0_pay43]
  rw [scalar_select]
theorem pay63_apply : Gen.k0_pay63 (F := Ideal) m c v (ix2 r l) = if c (ix2 r l) = 1#1 then m (ix2 r 0) else v (ix2 r l) := by
  pointwise [Gen.k0_pay63]
  rw [scalar_select]
theorem pay62_eq : Gen.k0_pay62 (F := Ideal) v = v := by
  unfold Gen.k0_pay62; rw [shapeCast_self]

theorem pay26_apply : Gen.k0_pay26 (F := Ideal) lanes 1073741824#32 v a k4 w b (ix2 r l) =
    if Gen.k0_pay24 (F := Ideal) lanes 1073741824#32 v a (ix2 r l) = BitVec.ofNat 32 (128 * k4.val + l.val) then b (ix2 0 l) else w (ix2 r l) := by
  simp only [← pay25_apply, ← scalar_select]
  unfold Gen.k0_pay26
  generalize Gen.k0_pay25 (F := Ideal) lanes 1073741824#32 v a k4 = q
  pointwise []
theorem pay27_apply : Gen.k0_pay27 (F := Ideal) lanes 1073741824#32 v a k4 w b (ix2 r l) =
    if Gen.k0_pay24 (F := Ideal) lanes 1073741824#32 v a (ix2 r l) = BitVec.ofNat 32 (128 * k4.val + l.val) then b (ix2 1 l) else w (ix2 r l) := by
  simp only [← pay25_apply, ← scalar_select]
  unfold Gen.k0_pay27
  generalize Gen.k0_pay25 (F := Ideal) lanes 1073741824#32 v a k4 = q
  pointwise []
theorem pay28_apply : Gen.k0_pay28 (F := Ideal) lanes 1073741824#32 v a k4 w b (ix2 r l) =
    if Gen.k0_pay24 (F := Ideal) lanes 1073741824#32 v a (ix2 r l) = BitVec.ofNat 32 (128 * k4.val + l.val) then b (ix2 2 l) else w (ix2 r l) := by
  simp only [← pay25_apply, ← scalar_select]
  unfold Gen.k0_pay28
  generalize Gen.k0_pay25 (F := Ideal) lanes 1073741824#32 v a k4 = q
  pointwise []
theorem pay29_apply : Gen.k0_pay29 (F := Ideal) lanes 1073741824#32 v a k4 w b (ix2 r l) =
    if Gen.k0_pay24 (F := Ideal) lanes 1073741824#32 v a (ix2 r l) = BitVec.ofNat 32 (128 * k4.val + l.val) then b (ix2 3 l) else w (ix2 r l) := by
  simp only [← pay25_apply, ← scalar_select]
  unfold Gen.k0_pay29
  generalize Gen.k0_pay25 (F := Ideal) lanes 1073741824#32 v a k4 = q
  pointwise []

end reads

end Cert.Proof.KernelIdeal

end
-- ==== Proof.KernelIdealScan.lean ====
/- One scan over a class's scores finds the lowest place of the greatest score, and strikes out the place taken before. -/
module

public import proofs.«01_k».proof.Proof.KernelIdealReads

@[expose] public section

set_option maxRecDepth 8192
noncomputable section

open Idealize.ShloMosaic Idealize.ShloMosaic.TcCoe

namespace Cert.Proof.KernelIdeal

open Cert.KernelIdeal VecWindow

/-- What one lane holds after `n` blocks: the greatest score seen in it, and the first block that has it. -/
def LaneMax (low : EReal) (f : ℕ → EReal) (l n : ℕ) (v : EReal) (i : BitVec 32) : Prop :=
  (n = 0 ∧ v = low) ∨ ∃ k0 < n, v = f (128 * k0 + l) ∧ i = BitVec.ofNat 32 k0 ∧ (∀ k < n, f (128 * k + l) ≤ v) ∧ ∀ k < k0, f (128 * k + l) < v

theorem LaneMax.step {low : EReal} {f : ℕ → EReal} {l n : ℕ} {v : EReal} {i : BitVec 32} (h : LaneMax low f l n v i) (hl : low < f (128 * n + l)) :
    LaneMax low f l (n + 1) (if v < f (128 * n + l) then f (128 * n + l) else v) (if v < f (128 * n + l) then BitVec.ofNat 32 n else i) := by
  rcases h with ⟨rfl, rfl⟩ | ⟨k0, hk, hv, hi, hle, hlt⟩
  · refine Or.inr ⟨0, by omega, by rw [if_pos hl], by rw [if_pos hl], ?_, fun k hk => absurd hk (by omega)⟩
    intro k hk; obtain rfl : k = 0 := by omega
    rw [if_pos hl]
  · by_cases c : v < f (128 * n + l)
    · rw [if_pos c, if_pos c]
      refine Or.inr ⟨n, by omega, rfl, rfl, ?_, ?_⟩
      · intro k hk
        by_cases e : k = n
        · rw [e]
        · exact (hle k (by omega)).trans c.le
      · intro k hk; exact (hle k hk).trans_lt c
    · rw [if_neg c, if_neg c]
      refine Or.inr ⟨k0, by omega, hv, hi, ?_, hlt⟩
      intro k hk
      by_cases e : k = n
      · rw [e]; exact not_lt.mp c
      · exact hle k (by omega)

/-- The scores of a class with one place struck out, at every natural number. -/
def stk (G : BitVec 32) (S : Fin 10752 → EReal) (y : ℕ) : EReal :=
  if h : y < 10752 then (if G = BitVec.ofNat 32 y then Ideal.ofBits .f32 0xC0000000#32 else S ⟨y, h⟩) else Ideal.ofBits .f32 0xC0000000#32

/-- The row of a class. -/
abbrev row (S : FS Ideal) (r : Fin 80) : Fin 10752 → EReal := fun y => S (ix2 r y)

theorem scan_inv (g : IV) (G : Fin 80 → BitVec 32) (hg : ∀ r l, g (ix2 r l) = G r) (S : FS Ideal)
    (hlow : ∀ r y, Ideal.ofBits .f32 0xF149F2CA#32 < stk (G r) (row S r) y) : ∀ n ≤ 84,
    (∀ r (y : Fin 10752), (scan lanes g (Gen.k0_pay16, Gen.k0_pay17) S n).2 (ix2 r y) = if y.val < 128 * n then stk (G r) (row S r) y.val else S (ix2 r y)) ∧
    ∀ r (l : Fin 128), LaneMax (Ideal.ofBits .f32 0xF149F2CA#32) (stk (G r) (row S r)) l.val n
      ((scan lanes g (Gen.k0_pay16, Gen.k0_pay17) S n).1.1 (ix2 r l)) ((scan lanes g (Gen.k0_pay16, Gen.k0_pay17) S n).1.2 (ix2 r l)) := by
  intro n
  induction n with
  | zero =>
    intro _
    refine ⟨fun r y => by rw [if_neg (by omega)]; rfl, fun r l => Or.inl ⟨rfl, ?_⟩⟩
    show Gen.k0_pay16 (F := Ideal) (ix2 r l) = _
    pointwise [Gen.k0_pay16]
  | succ n ih =>
    intro hn
    obtain ⟨hS, hA⟩ := ih (by omega)
    have h84 : n < 84 := by omega
    have hblk : ∀ r (l : Fin 128), Gen.k0_pay18 (F := Ideal) lanes g ⟨n, trips3 ▸ h84⟩ (blkS (scan lanes g (Gen.k0_pay16, Gen.k0_pay17) S n).2 n h84) (ix2 r l)
        = stk (G r) (row S r) (128 * n + l.val) := by
      intro r l
      have e := hS r ⟨128 * n + l.val, by omega⟩
      rw [if_neg (show ¬ (128 * n + l.val < 128 * n) by omega)] at e
      rw [pay18_apply, hg, blkS_apply, e]
      unfold stk
      rw [dif_pos (by omega)]
    have hstep : scan lanes g (Gen.k0_pay16, Gen.k0_pay17) S (n + 1) = scanStep lanes g n (scan lanes g (Gen.k0_pay16, Gen.k0_pay17) S n) := rfl
    rw [hstep]
    unfold scanStep
    rw [dif_pos h84]
    refine ⟨fun r y => ?_, fun r l => ?_⟩
    · by_cases hy : y.val < 128 * n
      · show (put _ ![0, 128 * n] ![80, 128] _ : FS Ideal) (ix2 r y) = _
        rw [putS_out _ _ _ _ _ (Or.inl hy), hS, if_pos hy, if_pos (by omega)]
      · by_cases hy' : y.val < 128 * n + 128
        · show (put _ ![0, 128 * n] ![80, 128] _ : FS Ideal) (ix2 r y) = _
          rw [putS_in _ n _ r y ⟨y.val - 128 * n, by omega⟩ (by show y.val = 128 * n + (y.val - 128 * n); omega), pay19_eq, hblk, if_pos (by omega)]
          exact congrArg _ (by show 128 * n + (y.val - 128 * n) = y.val; omega)
        · show (put _ ![0, 128 * n] ![80, 128] _ : FS Ideal) (ix2 r y) = _
          rw [putS_out _ _ _ _ _ (Or.inr (by omega)), hS, if_neg hy, if_neg (by omega)]
    · have := (hA r l).step (hlow r (128 * n + l.val))
      show LaneMax _ _ _ _ (Gen.k0_pay21 (F := Ideal) lanes g ⟨n, trips3 ▸ h84⟩ _ _ (ix2 r l)) (Gen.k0_pay22 (F := Ideal) lanes g ⟨n, trips3 ▸ h84⟩ _ _ _ (ix2 r l))
      rw [pay21_apply, pay22_apply, hblk]
      exact this

/-- The lowest place of the greatest of the first `N` values. -/
def IsArgMax (N : ℕ) (f : ℕ → EReal) (p : ℕ) : Prop := p < N ∧ (∀ y < N, f y ≤ f p) ∧ ∀ y < p, f y < f p

theorem exists_argMax (N : ℕ) (hN : 0 < N) (f : ℕ → EReal) : ∃ p, IsArgMax N f p := by
  classical
  have hex : ∃ p, p < N ∧ ∀ y < N, f y ≤ f p := by
    obtain ⟨p, hp, h⟩ := Finset.exists_max_image (Finset.range N) f ⟨0, Finset.mem_range.mpr hN⟩
    exact ⟨p, Finset.mem_range.mp hp, fun y hy => h y (Finset.mem_range.mpr hy)⟩
  refine ⟨Nat.find hex, (Nat.find_spec hex).1, (Nat.find_spec hex).2, fun y hy => ?_⟩
  by_contra hc
  exact Nat.find_min hex hy ⟨hy.trans (Nat.find_spec hex).1, fun z hz => ((Nat.find_spec hex).2 z hz).trans (not_lt.mp hc)⟩

/-- The pick: the greatest score, and the lowest place that has it. -/
theorem pick (v : FV Ideal) (a : IV) (r : Fin 80) (low : EReal) (f : ℕ → EReal) (h : ∀ l : Fin 128, LaneMax low f l.val 84 (v (ix2 r l)) (a (ix2 r l)))
    (p : ℕ) (hp : IsArgMax 10752 f p) :
    Gen.k0_pay23 (F := Ideal) v (ix2 r 0) = f p ∧ ∀ l, Gen.k0_pay24 (F := Ideal) lanes 1073741824#32 v a (ix2 r l) = BitVec.ofNat 32 p := by
  obtain ⟨hlt, hmax, hfirst⟩ := hp
  have hl : ∀ l : Fin 128, ∃ k0 < 84, v (ix2 r l) = f (128 * k0 + l.val) ∧ a (ix2 r l) = BitVec.ofNat 32 k0 ∧ (∀ k < 84, f (128 * k + l.val) ≤ v (ix2 r l)) ∧
      ∀ k < k0, f (128 * k + l.val) < v (ix2 r l) := fun l => (h l).resolve_left (by omega)
  have hle : ∀ l : Fin 128, v (ix2 r l) ≤ f p := by
    intro l
    obtain ⟨k0, hk, hv, -⟩ := hl l
    rw [hv]; exact hmax _ (by omega)
  have hlo : ∀ (l : Fin 128) (k0 : ℕ), k0 < 84 → v (ix2 r l) = f (128 * k0 + l.val) → v (ix2 r l) = f p → p ≤ 128 * k0 + l.val := by
    intro l k0 hk hv he
    by_contra hc
    have := hfirst (128 * k0 + l.val) (by omega)
    rw [← hv, he] at this
    exact lt_irrefl _ this
  let l0 : Fin 128 := ⟨p % 128, Nat.mod_lt _ (by decide)⟩
  have e0 : 128 * (p / 128) + l0.val = p := Nat.div_add_mod p 128
  have hv0 : v (ix2 r l0) = f p := by
    refine le_antisymm (hle l0) ?_
    obtain ⟨k0, hk, hv, ha, hge, -⟩ := hl l0
    have := hge (p / 128) (by omega)
    rwa [e0] at this
  have ha0 : a (ix2 r l0) = BitVec.ofNat 32 (p / 128) := by
    obtain ⟨k0, hk, hv, ha, hge, hst⟩ := hl l0
    have h1 := hlo l0 k0 hk hv hv0
    have h2 : ¬ p / 128 < k0 := fun hc => by
      have := hst (p / 128) hc
      rw [e0, hv0] at this
      exact lt_irrefl _ this
    have : l0.val = p % 128 := rfl
    rw [ha]; congr 1; omega
  have hM : Gen.k0_pay23 (F := Ideal) v (ix2 r 0) = f p := by
    rw [pay23_apply, cBot, ← hv0]
    exact fold_max_eq _ _ l0 bot_le fun l => by rw [hv0]; exact hle l
  refine ⟨hM, fun l => ?_⟩
  have hbig : (1073741824#32).toInt = 1073741824 := by decide
  have hbig' : (2147483647#32).toInt = 2147483647 := by decide
  have hK : Finset.univ.fold IntOp.minsi 2147483647#32 (fun x : Fin 128 => if v (ix2 r x) = f p then a (ix2 r x) else 1073741824#32) = BitVec.ofNat 32 (p / 128) := by
    rw [fold_minsi_eq _ _ l0]
    · rw [if_pos hv0, ha0]
    · rw [if_pos hv0, ha0, toInt_ofNat (by omega), hbig']; omega
    · intro x
      rw [if_pos hv0, ha0, toInt_ofNat (by omega)]
      by_cases hx : v (ix2 r x) = f p
      · obtain ⟨k0, hk, hv, ha, -⟩ := hl x
        have := hlo x k0 hk hv hx
        rw [if_pos hx, ha, toInt_ofNat (by omega)]; omega
      · rw [if_neg hx, hbig]; omega
  rw [pay24_apply a v r l _ hM _ hK, fold_minsi_eq _ _ l0]
  · rw [if_pos ⟨hv0, ha0⟩]
    apply BitVec.eq_of_toNat_eq
    have : l0.val = p % 128 := rfl
    simp only [BitVec.toNat_add, BitVec.toNat_mul, BitVec.toNat_ofNat]
    omega
  · rw [if_pos ⟨hv0, ha0⟩, toInt_ofNat (by omega), hbig']; omega
  · intro x
    rw [if_pos ⟨hv0, ha0⟩, toInt_ofNat (by omega)]
    by_cases hx : v (ix2 r x) = f p ∧ a (ix2 r x) = BitVec.ofNat 32 (p / 128)
    · obtain ⟨k0, hk, hv, ha, -⟩ := hl x
      have h1 := hlo x k0 hk hv hx.1
      have h2 := (ofNat_inj (by omega) (by omega)).mp (ha.symm.trans hx.2)
      have : l0.val = p % 128 := rfl
      rw [if_pos hx, toInt_ofNat (by omega)]; omega
    · rw [if_neg hx, hbig]; omega

/-- The gathering leaves the picked place's entry of each of the four rows as that row's sum. -/
theorem gath_inv (v : FV Ideal) (a : IV) (B : FB Ideal) (P : Fin 80 → Fin 10752)
    (hp : ∀ r l, Gen.k0_pay24 (F := Ideal) lanes 1073741824#32 v a (ix2 r l) = BitVec.ofNat 32 (P r).val) : ∀ n ≤ 84, ∀ r (l : Fin 128),
    (gath lanes v a B n).1 (ix2 r l) = (if (P r).val % 128 = l.val ∧ (P r).val / 128 < n then B (ix2 0 (P r)) else 0) ∧
    (gath lanes v a B n).2.1 (ix2 r l) = (if (P r).val % 128 = l.val ∧ (P r).val / 128 < n then B (ix2 1 (P r)) else 0) ∧
    (gath lanes v a B n).2.2.1 (ix2 r l) = (if (P r).val % 128 = l.val ∧ (P r).val / 128 < n then B (ix2 2 (P r)) else 0) ∧
    (gath lanes v a B n).2.2.2 (ix2 r l) = (if (P r).val % 128 = l.val ∧ (P r).val / 128 < n then B (ix2 3 (P r)) else 0) := by
  intro n
  induction n with
  | zero =>
    intro _ r l
    have h0 : Gen.k0_pay54 (F := Ideal) (ix2 r l) = 0 := by pointwise [Gen.k0_pay54]
    refine ⟨?_, ?_, ?_, ?_⟩ <;> (rw [if_neg (by omega)]; exact h0)
  | succ n ih =>
    intro hn r l
    obtain ⟨e0, e1, e2, e3⟩ := ih (by omega) r l
    have h84 : n < 84 := by omega
    have hstep : gath lanes v a B (n + 1) = gathStep lanes v a B n (gath lanes v a B n) := rfl
    rw [hstep]
    unfold gathStep
    rw [dif_pos h84]
    have hlt := (P r).isLt
    have hc : (BitVec.ofNat 32 (P r).val = BitVec.ofNat 32 (128 * n + l.val)) ↔ ((P r).val = 128 * n + l.val) := ofNat_inj (by omega) (by omega)
    have fin : ∀ (j : Fin 8) (x : EReal), x = (if (P r).val % 128 = l.val ∧ (P r).val / 128 < n then B (ix2 j (P r)) else 0) →
        (if BitVec.ofNat 32 (P r).val = BitVec.ofNat 32 (128 * n + l.val) then blkB B n h84 (ix2 j l) else x) =
        (if (P r).val % 128 = l.val ∧ (P r).val / 128 < n + 1 then B (ix2 j (P r)) else 0) := by
      intro j x hx
      by_cases c : (P r).val = 128 * n + l.val
      · rw [if_pos (hc.mpr c), if_pos (by omega), blkB_apply]
        exact congrArg (fun z => B (ix2 j z)) (Fin.ext c.symm)
      · rw [if_neg (fun h => c (hc.mp h)), hx]
        by_cases d : (P r).val % 128 = l.val ∧ (P r).val / 128 < n
        · rw [if_pos d, if_pos (by omega)]
        · rw [if_neg d, if_neg (by omega)]
    refine ⟨?_, ?_, ?_, ?_⟩
    · dsimp only; rw [pay26_apply, hp]; exact fin 0 _ e0
    · dsimp only; rw [pay27_apply, hp]; exact fin 1 _ e1
    · dsimp only; rw [pay28_apply, hp]; exact fin 2 _ e2
    · dsimp only; rw [pay29_apply, hp]; exact fin 3 _ e3

theorem sum_lane (p : Fin 10752) (x : EReal) (f : Fin 128 → EReal) (hf : ∀ l : Fin 128, f l = if p.val % 128 = l.val ∧ p.val / 128 < 84 then x else 0) :
    ∑ l, f l = x := by
  have hlt := p.isLt
  rw [Finset.sum_eq_single (⟨p.val % 128, Nat.mod_lt _ (by decide)⟩ : Fin 128)]
  · rw [hf, if_pos ⟨rfl, by omega⟩]
  · intro l _ hne
    rw [hf, if_neg]
    rintro ⟨h, -⟩
    exact hne (Fin.ext h.symm)
  · intro h; exact absurd (Finset.mem_univ _) h

/-- The four sums. -/
theorem gath_sums (v : FV Ideal) (a : IV) (B : FB Ideal) (P : Fin 80 → Fin 10752)
    (hp : ∀ r l, Gen.k0_pay24 (F := Ideal) lanes 1073741824#32 v a (ix2 r l) = BitVec.ofNat 32 (P r).val) (r : Fin 80) :
    Gen.k0_pay30 (F := Ideal) (gath lanes v a B 84).1 (ix2 r 0) = B (ix2 0 (P r)) ∧ Gen.k0_pay31 (F := Ideal) (gath lanes v a B 84).2.1 (ix2 r 0) = B (ix2 1 (P r)) ∧
    Gen.k0_pay32 (F := Ideal) (gath lanes v a B 84).2.2.1 (ix2 r 0) = B (ix2 2 (P r)) ∧ Gen.k0_pay33 (F := Ideal) (gath lanes v a B 84).2.2.2 (ix2 r 0) = B (ix2 3 (P r)) := by
  have h := fun l => gath_inv v a B P hp 84 le_rfl r l
  rw [pay30_apply, pay31_apply, pay32_apply, pay33_apply]
  exact ⟨sum_lane _ _ _ fun l => (h l).1, sum_lane _ _ _ fun l => (h l).2.1, sum_lane _ _ _ fun l => (h l).2.2.1, sum_lane _ _ _ fun l => (h l).2.2.2⟩

end Cert.Proof.KernelIdeal

end
-- ==== Proof.Top.lean ====
/- Top lists, greedy suppression and what the three results are, as plain functions: what both programs are shown to compute. -/
module

public import Idealize.ShloMosaic.Lib.SortFacts
public import Idealize.ShloMosaic.PureOps.Ideal

@[expose] public section

noncomputable section

namespace Cert.Proof.Top

open Idealize.ShloMosaic

variable {N : ℕ}

/-- Position `i` sorts before position `j`: its value is greater, or the values are equal and `i` is the lower position. -/
def Before (x : Fin N → EReal) (i j : Fin N) : Prop := x j < x i ∨ (x i = x j ∧ i < j)

theorem Before.asymm {x : Fin N → EReal} {i j : Fin N} (h : Before x i j) : ¬ Before x j i := by
  rcases h with h | ⟨h, hl⟩
  · rintro (h' | ⟨h', -⟩)
    · exact lt_asymm h h'
    · exact (ne_of_lt h) h'
  · rintro (h' | ⟨-, h'⟩)
    · exact (ne_of_lt h') h
    · exact lt_asymm hl h'

/-- `p` lists the first `K` positions in that order: each is new, and sorts before every position not listed so far. -/
def IsTop (x : Fin N → EReal) (K : ℕ) (p : ℕ → Fin N) : Prop :=
  ∀ t < K, (∀ s < t, p s ≠ p t) ∧ ∀ j, (∀ s < t, p s ≠ j) → j ≠ p t → Before x (p t) j

/-- The list is unique. -/
theorem IsTop.unique {x : Fin N → EReal} {K : ℕ} {p q : ℕ → Fin N} (hp : IsTop x K p) (hq : IsTop x K q) : ∀ t < K, p t = q t := by
  intro t
  induction t using Nat.strong_induction_on with
  | _ t ih =>
    intro ht
    by_contra hne
    have e : ∀ s < t, p s = q s := fun s hs => ih s hs (hs.trans ht)
    have h1 := (hp t ht).2 (q t) (fun s hs => by rw [e s hs]; exact (hq t ht).1 s hs) (Ne.symm hne)
    have h2 := (hq t ht).2 (p t) (fun s hs => by rw [← e s hs]; exact (hp t ht).1 s hs) hne
    exact h1.asymm h2

/-! ## A stable sort lists them -/

/-- Inserting a position below all those of a list keeps the order. -/
theorem pairwise_insert (x : Fin N → EReal) (a : Fin N) (l : List (Fin N)) (ha : ∀ b ∈ l, a < b) (hl : l.Pairwise (Before x)) :
    (insertBefore (fun i j => decide (x j < x i)) a l).Pairwise (Before x) := by
  induction l with
  | nil => simp [insertBefore]
  | cons b l ih =>
    obtain ⟨hb, hl'⟩ := List.pairwise_cons.mp hl
    unfold insertBefore
    split
    · next h =>
      refine List.pairwise_cons.mpr ⟨fun y hy => ?_, ih (fun y hy => ha y (List.mem_cons_of_mem _ hy)) hl'⟩
      rcases List.mem_cons.mp ((perm_insertBefore _ a l).mem_iff.mp hy) with rfl | hy'
      · exact Or.inl (by simpa using h)
      · exact hb y hy'
    · next h =>
      have hab : x b ≤ x a := by simpa using h
      refine List.pairwise_cons.mpr ⟨fun y hy => ?_, hl⟩
      have hle : x y ≤ x a := by
        rcases List.mem_cons.mp hy with rfl | hy'
        · exact hab
        · rcases hb y hy' with h1 | ⟨h1, -⟩
          · exact h1.le.trans hab
          · exact h1 ▸ hab
      rcases lt_or_eq_of_le hle with h1 | h1
      · exact Or.inl h1
      · exact Or.inr ⟨h1.symm, ha y hy⟩

theorem pairwise_sort (x : Fin N → EReal) (l : List (Fin N)) (hl : l.Pairwise (· < ·)) :
    (stableSort (fun i j => decide (x j < x i)) l).Pairwise (Before x) := by
  induction l with
  | nil => simp [stableSort]
  | cons a l ih =>
    obtain ⟨ha, hl'⟩ := List.pairwise_cons.mp hl
    unfold stableSort
    exact pairwise_insert x a _ (fun b hb => ha b ((perm_stableSort _ l).mem_iff.mp hb)) (ih hl')

/-- The position a stable greater-first sort puts at `t`. -/
def sortAt (x : Fin N) (f : Fin N → EReal) : Fin N := sortedFrom (fun i j => decide (f j < f i)) x

/-- The first positions a stable greater-first sort lists are the top list. -/
theorem isTop_sort (x : Fin N → EReal) (K : ℕ) (hK : K ≤ N) (p : ℕ → Fin N)
    (hp : ∀ t (ht : t < K), p t = sortAt ⟨t, ht.trans_le hK⟩ x) : IsTop x K p := by
  set L := stableSort (fun i j => decide (x j < x i)) (List.finRange N) with hL
  have hlen : L.length = N := by rw [hL, length_stableSort, List.length_finRange]
  have hpw : L.Pairwise (Before x) := pairwise_sort x _ (List.pairwise_lt_finRange N)
  have hperm : L.Perm (List.finRange N) := perm_stableSort _ _
  have hnd : L.Nodup := hperm.nodup_iff.mpr (List.nodup_finRange N)
  have hget : ∀ t (ht : t < K), p t = L[t]'(by omega) := fun t ht => hp t ht
  intro t ht
  refine ⟨fun s hs => ?_, fun j hj hne => ?_⟩
  · rw [hget t ht, hget s (hs.trans ht)]
    exact fun e => hs.ne ((List.Nodup.getElem_inj_iff hnd).mp e)
  · obtain ⟨n, hn, e⟩ := List.getElem_of_mem (hperm.mem_iff.mpr (List.mem_finRange j))
    rcases lt_trichotomy n t with h | h | h
    · exact absurd (by rw [hget n (h.trans ht)]; exact e) (hj n h)
    · subst h; exact absurd (by rw [hget n ht]; exact e.symm) hne
    · have := (List.pairwise_iff_getElem.mp hpw) t n (by omega) hn h
      rw [hget t ht, ← e]; exact this

/-! ## Greedy suppression -/

/-- `ok` are the entries greedy suppression keeps: score `s` above the threshold, and no earlier kept one overlaps. -/
def IsKeep (s : ℕ → EReal) (ov : ℕ → ℕ → Prop) (thr : EReal) (ok : ℕ → Prop) : Prop :=
  ∀ t < 100, ok t ↔ thr < s t ∧ ∀ u < t, ok u → ¬ ov u t

theorem IsKeep.unique {s s' : ℕ → EReal} {ov ov' : ℕ → ℕ → Prop} {thr : EReal} {ok ok' : ℕ → Prop} (h : IsKeep s ov thr ok) (h' : IsKeep s' ov' thr ok')
    (hs : ∀ t < 100, s t = s' t) (ho : ∀ t < 100, ∀ u < t, (ov u t ↔ ov' u t)) : ∀ t < 100, (ok t ↔ ok' t) := by
  intro t
  induction t using Nat.strong_induction_on with
  | _ t ih =>
    intro ht
    rw [h t ht, h' t ht, hs t ht]
    refine and_congr_right fun _ => forall_congr' fun u => forall_congr' fun hu => ?_
    rw [ih u hu (hu.trans ht), ho t ht u hu]

/-! ## The boxes' overlap, and the results -/

/-- A box: its two corners. -/
abbrev Box : Type := Fin 4 → EReal

/-- A box's area. -/
def area (b : Box) : EReal := (b 2 - b 0) * (b 3 - b 1)
/-- Two boxes' intersection. -/
def inter (a b : Box) : EReal := max (min (a 2) (b 2) - max (a 0) (b 0)) 0 * max (min (a 3) (b 3) - max (a 1) (b 1)) 0
/-- Two boxes' intersection over their union (the union kept off zero by the small constant). -/
def iou (a b : Box) : EReal := Ideal.div (inter a b) (area a + area b - inter a b + Ideal.ofBits .f32 0x3089705F#32)

/-- The threshold on the scores, and on the overlap. -/
def thrS : EReal := Ideal.ofBits .f32 0x3E99999A#32
def thrO : EReal := Ideal.ofBits .f32 0x3F000000#32

variable (sc : Fin 80 → Fin 10647 → EReal) (bx : Fin 10647 → Box)

/-- Overlap of the `u`-th and the `t`-th of a class's list. -/
def ov (p : ℕ → Fin 10647) (u t : ℕ) : Prop := thrO < iou (bx (p u)) (bx (p t))

open Classical in
/-- The scores suppression leaves: a kept one's own, −1 for the others; class after class, 100 each. -/
def left (p : Fin 80 → ℕ → Fin 10647) (ok : Fin 80 → ℕ → Prop) (f : Fin 8000) : EReal :=
  if ok ⟨f.val / 100, by omega⟩ (f.val % 100) then sc ⟨f.val / 100, by omega⟩ (p ⟨f.val / 100, by omega⟩ (f.val % 100))
  else Ideal.ofBits .f32 0xBF800000#32

/-- What the three results are: every class's 100 best positions, those suppression keeps, and the 100 best of all that is left. -/
def Out (OB : Fin 100 → Box) (OS : Fin 100 → EReal) (OC : Fin 100 → BitVec 32) : Prop :=
  ∃ (p : Fin 80 → ℕ → Fin 10647) (ok : Fin 80 → ℕ → Prop) (q : ℕ → Fin 8000),
    (∀ c, IsTop (sc c) 100 (p c)) ∧ (∀ c, IsKeep (fun t => sc c (p c t)) (ov bx (p c)) thrS (ok c)) ∧ IsTop (left sc p ok) 100 q
    ∧ ∀ t : Fin 100, OB t = bx (p ⟨(q t).val / 100, by omega⟩ ((q t).val % 100)) ∧ OS t = left sc p ok (q t)
      ∧ OC t = BitVec.ofNat 32 ((q t).val / 100)

/-- The results are determined. -/
theorem Out.unique {OB OB' : Fin 100 → Box} {OS OS' : Fin 100 → EReal} {OC OC' : Fin 100 → BitVec 32}
    (h : Out sc bx OB OS OC) (h' : Out sc bx OB' OS' OC') : OB = OB' ∧ OS = OS' ∧ OC = OC' := by
  obtain ⟨p, ok, q, hp, hk, hq, hr⟩ := h
  obtain ⟨p', ok', q', hp', hk', hq', hr'⟩ := h'
  have ep : ∀ c, ∀ t < 100, p c t = p' c t := fun c => (hp c).unique (hp' c)
  have ek : ∀ c, ∀ t < 100, (ok c t ↔ ok' c t) := fun c => (hk c).unique (hk' c) (fun t ht => by show sc c (p c t) = _; rw [ep c t ht])
    (fun t ht u hu => by unfold ov; rw [ep c t ht, ep c u (hu.trans ht)])
  have el : left sc p ok = left sc p' ok' := by
    funext f
    have hf : f.val % 100 < 100 := Nat.mod_lt _ (by decide)
    unfold left
    rw [ep _ _ hf]
    by_cases h : ok ⟨f.val / 100, by omega⟩ (f.val % 100)
    · rw [if_pos h, if_pos ((ek _ _ hf).mp h)]
    · rw [if_neg h, if_neg fun h' => h ((ek _ _ hf).mpr h')]
  have eq : ∀ t < 100, q t = q' t := hq.unique (el ▸ hq')
  refine ⟨funext fun t => ?_, funext fun t => ?_, funext fun t => ?_⟩
  · have hf : (q' t).val % 100 < 100 := Nat.mod_lt _ (by decide)
    rw [(hr t).1, (hr' t).1, ← ep _ _ hf]
    exact congrArg (fun f : Fin 8000 => bx (p ⟨f.val / 100, by omega⟩ (f.val % 100))) (eq t t.isLt)
  · rw [(hr t).2.1, (hr' t).2.1, eq t t.isLt, el]
  · rw [(hr t).2.2, (hr' t).2.2, eq t t.isLt]

end Cert.Proof.Top

end
-- ==== Proof.KernelIdealRounds.lean ====
/- The rounds of the extraction: each fills one slot of every class with its next best place, the box there, and
   whether that place is kept. -/
module

public import proofs.«01_k».proof.Proof.KernelIdealScan
public import proofs.«01_k».proof.Proof.Top

@[expose] public section

set_option maxRecDepth 8192
noncomputable section

open Idealize.ShloMosaic Idealize.ShloMosaic.TcCoe

namespace Cert.Proof.KernelIdeal

open Cert.KernelIdeal VecWindow

theorem pay37_apply (v x0 x1 x2 x3 x4 x5 : FV Ideal) (m m1 m2 m3 m4 : FVec Ideal S80x1 .f32) (r : Fin 80) (l : Fin 128) (nb : Top.Box) (ob : Fin 128 → Top.Box)
    (hn0 : ∀ x, x1 (ix2 r x) = nb 0) (hn1 : m1 (ix2 r 0) = nb 1) (hn2 : m2 (ix2 r 0) = nb 2) (hn3 : m3 (ix2 r 0) = nb 3) (hn : m4 (ix2 r 0) = Top.area nb)
    (h0 : ∀ x, x0 (ix2 r x) = ob x 0) (h1 : ∀ x, x2 (ix2 r x) = ob x 1) (h2 : ∀ x, x3 (ix2 r x) = ob x 2) (h3 : ∀ x, x4 (ix2 r x) = ob x 3)
    (h : ∀ x, x5 (ix2 r x) = Top.area (ob x)) :
    Gen.k0_pay37 (F := Ideal) v m m1 m2 m3 m4 x0 x1 x2 x3 x4 x5 (ix2 r l) = 1#1 ↔
      Top.thrS < m (ix2 r 0) ∧ ∀ x : Fin 128, Top.thrO < v (ix2 r x) → ¬ Top.thrO < Top.iou (ob x) nb := by
  have hiou : ∀ x, Ideal.div (max (min (nb 2) (ob x 2) - max (nb 0) (ob x 0)) 0 * max (min (nb 3) (ob x 3) - max (nb 1) (ob x 1)) 0)
      (Top.area nb + Top.area (ob x) - max (min (nb 2) (ob x 2) - max (nb 0) (ob x 0)) 0 * max (min (nb 3) (ob x 3) - max (nb 1) (ob x 1)) 0
        + Ideal.ofBits .f32 0x3089705F#32) = Top.iou (ob x) nb := by
    intro x
    unfold Top.iou Top.inter
    rw [min_comm (nb 2), max_comm (nb 0), min_comm (nb 3), max_comm (nb 1), add_comm (Top.area nb)]
  pointwise [Gen.k0_pay37]
  simp only [hn0, hn1, hn2, hn3, hn, h0, h1, h2, h3, h, hiou]
  simp only [andi_eq_one, ofBool_eq_one, decide_eq_true_eq, scalar_select]
  rw [and_comm]
  refine and_congr Iff.rfl ?_
  show _ < Top.thrO ↔ _
  rw [Finset.fold_max_lt]
  have hpos : (0 : EReal) < Top.thrO := by
    unfold Top.thrO; rw [cHalf]; exact_mod_cast (by norm_num : (0 : ℝ) < 1 / 2)
  have hone : Top.thrO ≤ (1 : EReal) := by
    unfold Top.thrO; rw [cHalf]; exact_mod_cast (by norm_num : (1 / 2 : ℝ) ≤ 1)
  constructor
  · rintro ⟨-, hx⟩ x hv ho
    have := hx x (Finset.mem_univ _)
    rw [if_pos ⟨decide_eq_true hv, ho⟩] at this
    exact absurd this (not_lt.mpr hone)
  · intro hx
    refine ⟨by rw [cBot]; exact bot_lt_iff_ne_bot.mpr (ne_bot_of_gt hpos), fun x _ => ?_⟩
    rw [if_neg (fun c => hx x (of_decide_eq_true c.1) c.2)]
    exact hpos

section rounds

variable (B : FB Ideal) (S0 : FS Ideal)

/-- The state after `t` rounds. -/
abbrev rs (t : ℕ) : St Ideal := rounds lanes B (startK S0) t
/-- The place class `r` takes in round `t`. -/
def P (r : Fin 80) (t : ℕ) : Fin 10752 := ⟨((rs B S0 (t + 1)).acc.2 (ix2 r 0)).toNat % 10752, Nat.mod_lt _ (by decide)⟩
/-- Whether class `r` keeps what it takes in round `t`. -/
def Ok (r : Fin 80) (t : ℕ) : Prop := ∃ h : t < 128, Top.thrO < (rs B S0 (t + 1)).acc.1 (ix2 r ⟨t, h⟩)
/-- The box at a place. -/
def boxAt (y : Fin 10752) : Top.Box := ![B (ix2 0 y), B (ix2 1 y), B (ix2 2 y), B (ix2 3 y)]

open Classical in
/-- The scores of class `r` left after `t` rounds, at every natural number. -/
def leftS (r : Fin 80) (t : ℕ) (y : ℕ) : EReal :=
  if h : y < 10752 then (if ∃ s < t, (P B S0 r s).val = y then Ideal.ofBits .f32 0xC0000000#32 else S0 (ix2 r ⟨y, h⟩)) else Ideal.ofBits .f32 0xC0000000#32

open Classical in
/-- What holds after `t` rounds. -/
structure Inv (t : ℕ) : Prop where
  g : ∀ r l, (rs B S0 t).acc.2 (ix2 r l) = if t = 0 then 3221225472#32 else BitVec.ofNat 32 (P B S0 r (t - 1)).val
  S : ∀ r (y : Fin 10752), (rs B S0 t).S (ix2 r y) = leftS B S0 r (t - 1) y.val
  ts : ∀ r (l : Fin 128), (rs B S0 t).ts (ix2 r l) = if l.val < t then S0 (ix2 r (P B S0 r l.val)) else Ideal.ofBits .f32 0xC0400000#32
  x1 : ∀ r (l : Fin 128), (rs B S0 t).x1 (ix2 r l) = if l.val < t then B (ix2 0 (P B S0 r l.val)) else 0
  y1 : ∀ r (l : Fin 128), (rs B S0 t).y1 (ix2 r l) = if l.val < t then B (ix2 1 (P B S0 r l.val)) else 0
  x2 : ∀ r (l : Fin 128), (rs B S0 t).x2 (ix2 r l) = if l.val < t then B (ix2 2 (P B S0 r l.val)) else 0
  y2 : ∀ r (l : Fin 128), (rs B S0 t).y2 (ix2 r l) = if l.val < t then B (ix2 3 (P B S0 r l.val)) else 0
  ar : ∀ r (l : Fin 128), (rs B S0 t).ar (ix2 r l) = if l.val < t then Top.area (boxAt B (P B S0 r l.val)) else 0
  keep : ∀ r (l : Fin 128), (rs B S0 t).acc.1 (ix2 r l) = if l.val < t ∧ Ok B S0 r l.val then 1 else 0
  top : ∀ r, ∀ s < t, IsArgMax 10752 (leftS B S0 r s) (P B S0 r s).val
  ok : ∀ r, ∀ s < t, Ok B S0 r s ↔ Top.thrS < S0 (ix2 r (P B S0 r s)) ∧
    ∀ u < s, Ok B S0 r u → ¬ Top.thrO < Top.iou (boxAt B (P B S0 r u)) (boxAt B (P B S0 r s))

theorem inv_zero : Inv B S0 0 where
  g r l := rfl
  S r y := by
    unfold leftS
    rw [dif_pos y.isLt, if_neg (by rintro ⟨s, hs, -⟩; omega)]; rfl
  ts r l := by
    rw [if_neg (by omega)]
    show Gen.k0_pay53 (F := Ideal) (ix2 r l) = _
    pointwise [Gen.k0_pay53]
  x1 r l := by
    rw [if_neg (by omega)]
    show Gen.k0_pay55 (F := Ideal) (ix2 r l) = _
    pointwise [Gen.k0_pay55, Gen.k0_pay54]
  y1 r l := by
    rw [if_neg (by omega)]
    show Gen.k0_pay56 (F := Ideal) (ix2 r l) = _
    pointwise [Gen.k0_pay56, Gen.k0_pay54]
  x2 r l := by
    rw [if_neg (by omega)]
    show Gen.k0_pay57 (F := Ideal) (ix2 r l) = _
    pointwise [Gen.k0_pay57, Gen.k0_pay54]
  y2 r l := by
    rw [if_neg (by omega)]
    show Gen.k0_pay58 (F := Ideal) (ix2 r l) = _
    pointwise [Gen.k0_pay58, Gen.k0_pay54]
  ar r l := by
    rw [if_neg (by omega)]
    show Gen.k0_pay59 (F := Ideal) (ix2 r l) = _
    pointwise [Gen.k0_pay59, Gen.k0_pay54]
  keep r l := by
    rw [if_neg (by omega)]
    show Gen.k0_pay60 (F := Ideal) (ix2 r l) = _
    pointwise [Gen.k0_pay60]
  top r s hs := absurd hs (by omega)
  ok r s hs := absurd hs (by omega)

/-- The scores: those of the first 10647 places lie between zero and one, the others are the mark. -/
def Good : Prop := ∀ r (y : Fin 10752), (y.val < 10647 → 0 ≤ S0 (ix2 r y)) ∧ (10647 ≤ y.val → S0 (ix2 r y) = Ideal.ofBits .f32 0xC0000000#32)

variable {B S0}

theorem neg2_lt_zero : Ideal.ofBits .f32 0xC0000000#32 < (0 : EReal) := by
  rw [cNeg2]; exact_mod_cast (by norm_num : (-2 : ℝ) < 0)
theorem low_lt_neg2 : Ideal.ofBits .f32 0xF149F2CA#32 < Ideal.ofBits .f32 0xC0000000#32 := by
  rw [cNeg2]; exact cLow.trans (by exact_mod_cast (by norm_num : (-100 : ℝ) < -2))

theorem leftS_low (hG : Good S0) (r : Fin 80) (t y : ℕ) : Ideal.ofBits .f32 0xF149F2CA#32 < leftS B S0 r t y := by
  unfold leftS
  split_ifs with h h'
  · exact low_lt_neg2
  · by_cases hy : y < 10647
    · exact (low_lt_neg2.trans neg2_lt_zero).trans_le ((hG r ⟨y, h⟩).1 hy)
    · rw [(hG r ⟨y, h⟩).2 (not_lt.mp hy)]; exact low_lt_neg2
  · exact low_lt_neg2

/-- With fewer than 10647 places taken, the best of what is left is a place not taken yet. -/
theorem pick_fresh (hG : Good S0) (r : Fin 80) (t : ℕ) (ht : t < 100) (p : ℕ) (hp : IsArgMax 10752 (leftS B S0 r t) p) :
    p < 10647 ∧ (∀ s < t, (P B S0 r s).val ≠ p) ∧ ∀ h : p < 10752, leftS B S0 r t p = S0 (ix2 r ⟨p, h⟩) := by
  classical
  obtain ⟨y, hy, hy'⟩ : ∃ y ∈ Finset.range 10647, y ∉ (Finset.range t).image (fun s => (P B S0 r s).val) := by
    apply Finset.exists_mem_notMem_of_card_lt_card
    calc _ ≤ (Finset.range t).card := Finset.card_image_le
      _ < _ := by rw [Finset.card_range, Finset.card_range]; omega
  have hy1 : y < 10647 := Finset.mem_range.mp hy
  have hyz : 0 ≤ leftS B S0 r t y := by
    unfold leftS
    rw [dif_pos (by omega), if_neg]
    · exact (hG r ⟨y, by omega⟩).1 hy1
    · rintro ⟨s, hs, e⟩; exact hy' (Finset.mem_image.mpr ⟨s, Finset.mem_range.mpr hs, e⟩)
  have hpz : 0 ≤ leftS B S0 r t p := hyz.trans (hp.2.1 y (by omega))
  have hlt := hp.1
  have hns : ¬ ∃ s < t, (P B S0 r s).val = p := by
    intro hc
    unfold leftS at hpz
    rw [dif_pos hlt, if_pos hc] at hpz
    exact absurd hpz (not_le.mpr neg2_lt_zero)
  have hval : leftS B S0 r t p = S0 (ix2 r ⟨p, hlt⟩) := by
    unfold leftS; rw [dif_pos hlt, if_neg hns]
  refine ⟨?_, fun s hs e => hns ⟨s, hs, e⟩, fun _ => hval⟩
  by_contra hc
  rw [hval, (hG r ⟨p, hlt⟩).2 (not_lt.mp hc)] at hpz
  exact absurd hpz (not_le.mpr neg2_lt_zero)

/-- Striking out the last place taken, from the scores that lack the ones before. -/
theorem stk_leftS {t : ℕ} (h : Inv B S0 t) (r : Fin 80) (y : ℕ) :
    stk ((rs B S0 t).acc.2 (ix2 r 0)) (row (rs B S0 t).S r) y = leftS B S0 r t y := by
  unfold stk
  rw [h.g]
  by_cases hy : y < 10752
  · rw [dif_pos hy]
    have e : row (rs B S0 t).S r ⟨y, hy⟩ = leftS B S0 r (t - 1) y := h.S r ⟨y, hy⟩
    rw [e]
    unfold leftS
    rw [dif_pos hy, dif_pos hy]
    by_cases h0 : t = 0
    · subst h0
      rw [if_pos rfl, if_neg, if_neg]
      · rintro ⟨s, hs, -⟩; omega
      · intro e'
        have := congrArg BitVec.toNat e'
        simp only [BitVec.toNat_ofNat] at this
        omega
    · have hbv := ofNat_inj (a := (P B S0 r (t - 1)).val) (b := y) (by have := (P B S0 r (t - 1)).isLt; omega) (by omega)
      rw [if_neg h0]
      by_cases c : (P B S0 r (t - 1)).val = y
      · rw [if_pos (hbv.mpr c), if_pos ⟨t - 1, by omega, c⟩]
      · rw [if_neg (fun e => c (hbv.mp e))]
        by_cases d : ∃ s < t - 1, (P B S0 r s).val = y
        · obtain ⟨s, hs, e⟩ := d
          rw [if_pos ⟨s, hs, e⟩, if_pos ⟨s, by omega, e⟩]
        · rw [if_neg d, if_neg]
          rintro ⟨s, hs, e⟩
          by_cases hs' : s = t - 1
          · subst hs'; exact c e
          · exact d ⟨s, by omega, e⟩
  · rw [dif_neg hy]; unfold leftS; rw [dif_neg hy]

variable (B S0) in
/-- The scan and the gathering of round `t`. -/
def scanOf (t : ℕ) : Acc Ideal × FS Ideal := scan lanes (rs B S0 t).acc.2 (Gen.k0_pay16, Gen.k0_pay17) (rs B S0 t).S 84
variable (B S0) in
def gathOf (t : ℕ) : FV Ideal × FV Ideal × FV Ideal × FV Ideal := gath lanes (scanOf B S0 t).1.1 (scanOf B S0 t).1.2 B 84
variable (B S0) in
/-- The mark of what round `t` keeps. -/
def okOf (t : ℕ) : IVec S80x128 1 :=
  Gen.k0_pay37 (rs B S0 t).acc.1 (Gen.k0_pay23 (scanOf B S0 t).1.1) (Gen.k0_pay31 (gathOf B S0 t).2.1) (Gen.k0_pay32 (gathOf B S0 t).2.2.1)
    (Gen.k0_pay33 (gathOf B S0 t).2.2.2) (Gen.k0_pay34 (gathOf B S0 t).1 (gathOf B S0 t).2.1 (gathOf B S0 t).2.2.1 (gathOf B S0 t).2.2.2)
    (rs B S0 t).x1 (Gen.k0_pay35 (gathOf B S0 t).1) (rs B S0 t).y1 (rs B S0 t).x2 (rs B S0 t).y2 (rs B S0 t).ar

theorem rs_succ (t : ℕ) : rs B S0 (t + 1) =
    { acc := (Gen.k0_pay38 (rs B S0 t).acc.1 (Gen.k0_pay36 lanes (Scf.iv 0#32 1#32 t)) (okOf B S0 t), Gen.k0_pay24 lanes 1073741824#32 (scanOf B S0 t).1.1 (scanOf B S0 t).1.2),
      S := (scanOf B S0 t).2,
      ts := Gen.k0_pay39 (Gen.k0_pay23 (scanOf B S0 t).1.1) (Gen.k0_pay36 lanes (Scf.iv 0#32 1#32 t)) (rs B S0 t).ts,
      x1 := Gen.k0_pay40 (Gen.k0_pay30 (gathOf B S0 t).1) (Gen.k0_pay36 lanes (Scf.iv 0#32 1#32 t)) (rs B S0 t).x1,
      y1 := Gen.k0_pay41 (Gen.k0_pay31 (gathOf B S0 t).2.1) (Gen.k0_pay36 lanes (Scf.iv 0#32 1#32 t)) (rs B S0 t).y1,
      x2 := Gen.k0_pay42 (Gen.k0_pay32 (gathOf B S0 t).2.2.1) (Gen.k0_pay36 lanes (Scf.iv 0#32 1#32 t)) (rs B S0 t).x2,
      y2 := Gen.k0_pay62 (Gen.k0_pay43 (Gen.k0_pay33 (gathOf B S0 t).2.2.2) (Gen.k0_pay36 lanes (Scf.iv 0#32 1#32 t)) (rs B S0 t).y2),
      ar := Gen.k0_pay63 (Gen.k0_pay34 (gathOf B S0 t).1 (gathOf B S0 t).2.1 (gathOf B S0 t).2.2.1 (gathOf B S0 t).2.2.2) (Gen.k0_pay36 lanes (Scf.iv 0#32 1#32 t)) (rs B S0 t).ar } := rfl

/-- What round `t` takes. -/
theorem pick_round (hG : Good S0) {t : ℕ} (h : Inv B S0 t) :
    (∀ r l, Gen.k0_pay24 (F := Ideal) lanes 1073741824#32 (scanOf B S0 t).1.1 (scanOf B S0 t).1.2 (ix2 r l) = BitVec.ofNat 32 (P B S0 r t).val) ∧
    (∀ r, IsArgMax 10752 (leftS B S0 r t) (P B S0 r t).val) ∧
    (∀ r, Gen.k0_pay23 (F := Ideal) (scanOf B S0 t).1.1 (ix2 r 0) = leftS B S0 r t (P B S0 r t).val) ∧
    ∀ r (y : Fin 10752), (scanOf B S0 t).2 (ix2 r y) = leftS B S0 r t y.val := by
  have hg : ∀ r (l : Fin 128), (rs B S0 t).acc.2 (ix2 r l) = (rs B S0 t).acc.2 (ix2 r 0) := fun r l => by rw [h.g, h.g]
  have hs := scan_inv (rs B S0 t).acc.2 (fun r => (rs B S0 t).acc.2 (ix2 r 0)) hg (rs B S0 t).S
    (fun r y => by rw [stk_leftS h]; exact leftS_low hG r t y) 84 le_rfl
  have hf : ∀ r, stk ((rs B S0 t).acc.2 (ix2 r 0)) (row (rs B S0 t).S r) = leftS B S0 r t := fun r => funext fun y => stk_leftS h r y
  simp only [hf] at hs
  choose p hp using fun r : Fin 80 => exists_argMax 10752 (by decide) (leftS B S0 r t)
  have hpk := fun r => pick _ _ r _ _ (hs.2 r) (p r) (hp r)
  have hP : ∀ r, (P B S0 r t).val = p r := by
    intro r
    have := (hp r).1
    show ((rs B S0 (t + 1)).acc.2 (ix2 r 0)).toNat % 10752 = p r
    have e : (rs B S0 (t + 1)).acc.2 (ix2 r 0) = BitVec.ofNat 32 (p r) := (hpk r).2 0
    rw [e, BitVec.toNat_ofNat]; omega
  refine ⟨fun r l => by rw [hP]; exact (hpk r).2 l, fun r => by rw [hP]; exact hp r, fun r => by rw [hP]; exact (hpk r).1, fun r y => ?_⟩
  have := hs.1 r y
  rw [if_pos (by have := y.isLt; omega)] at this
  exact this

theorem thrO_nonneg : (0 : EReal) ≤ Top.thrO := by
  unfold Top.thrO; rw [cHalf]; exact_mod_cast (by norm_num : (0 : ℝ) ≤ 1 / 2)
theorem thrO_lt_one : Top.thrO < (1 : EReal) := by
  unfold Top.thrO; rw [cHalf]; exact_mod_cast (by norm_num : (1 / 2 : ℝ) < 1)

/-- A column written in round `t`, over the ones written before. -/
theorem col_write {t : ℕ} (ht : t < 100) (r : Fin 80) (l : Fin 128) (f : ℕ → EReal) (z x old : EReal) (hx : x = f t) (ho : old = if l.val < t then f l.val else z) :
    (if Gen.k0_pay36 lanes (Scf.iv 0#32 1#32 t) (ix2 r l) = 1#1 then x else old) = if l.val < t + 1 then f l.val else z := by
  have hcol := pay36_apply r l t (by omega)
  by_cases c : l.val = t
  · rw [if_pos (hcol.mpr c), if_pos (by omega), c, hx]
  · rw [if_neg (fun d => c (hcol.mp d)), ho]
    by_cases d : l.val < t
    · rw [if_pos d, if_pos (by omega)]
    · rw [if_neg d, if_neg (by omega)]

theorem inv_succ (hG : Good S0) {t : ℕ} (ht : t < 100) (h : Inv B S0 t) : Inv B S0 (t + 1) := by
  classical
  obtain ⟨hacc, harg, hm, hS⟩ := pick_round hG h
  have hfresh := fun r => pick_fresh hG r t ht _ (harg r)
  have hm' : ∀ r, Gen.k0_pay23 (F := Ideal) (scanOf B S0 t).1.1 (ix2 r 0) = S0 (ix2 r (P B S0 r t)) :=
    fun r => (hm r).trans ((hfresh r).2.2 (P B S0 r t).isLt)
  have hx : ∀ r, Gen.k0_pay30 (F := Ideal) (gathOf B S0 t).1 (ix2 r 0) = B (ix2 0 (P B S0 r t)) ∧ Gen.k0_pay31 (F := Ideal) (gathOf B S0 t).2.1 (ix2 r 0) = B (ix2 1 (P B S0 r t)) ∧
      Gen.k0_pay32 (F := Ideal) (gathOf B S0 t).2.2.1 (ix2 r 0) = B (ix2 2 (P B S0 r t)) ∧ Gen.k0_pay33 (F := Ideal) (gathOf B S0 t).2.2.2 (ix2 r 0) = B (ix2 3 (P B S0 r t)) :=
    gath_sums _ _ B (fun r => P B S0 r t) hacc
  have har : ∀ r, Gen.k0_pay34 (F := Ideal) (gathOf B S0 t).1 (gathOf B S0 t).2.1 (gathOf B S0 t).2.2.1 (gathOf B S0 t).2.2.2 (ix2 r 0) = Top.area (boxAt B (P B S0 r t)) := by
    intro r
    obtain ⟨e0, e1, e2, e3⟩ := hx r
    rw [pay34_apply, e0, e1, e2, e3]; rfl
  have hok : ∀ (r : Fin 80) (l : Fin 128), okOf B S0 t (ix2 r l) = 1#1 ↔ Top.thrS < S0 (ix2 r (P B S0 r t)) ∧
      ∀ u < t, Ok B S0 r u → ¬ Top.thrO < Top.iou (boxAt B (P B S0 r u)) (boxAt B (P B S0 r t)) := by
    intro r l
    have e := pay37_apply (rs B S0 t).acc.1 (rs B S0 t).x1 (Gen.k0_pay35 (gathOf B S0 t).1) (rs B S0 t).y1 (rs B S0 t).x2 (rs B S0 t).y2 (rs B S0 t).ar
      (Gen.k0_pay23 (scanOf B S0 t).1.1) (Gen.k0_pay31 (gathOf B S0 t).2.1) (Gen.k0_pay32 (gathOf B S0 t).2.2.1)
      (Gen.k0_pay33 (gathOf B S0 t).2.2.2) (Gen.k0_pay34 (gathOf B S0 t).1 (gathOf B S0 t).2.1 (gathOf B S0 t).2.2.1 (gathOf B S0 t).2.2.2) r l
      (boxAt B (P B S0 r t)) (fun x => if x.val < t then boxAt B (P B S0 r x.val) else 0)
      (fun x => (pay35_apply _ r x).trans (hx r).1) (hx r).2.1 (hx r).2.2.1 (hx r).2.2.2 (har r)
      (fun x => by rw [h.x1]; split_ifs <;> rfl) (fun x => by rw [h.y1]; split_ifs <;> rfl) (fun x => by rw [h.x2]; split_ifs <;> rfl)
      (fun x => by rw [h.y2]; split_ifs <;> rfl)
      (fun x => by
        rw [h.ar]; split_ifs
        · rfl
        · simp [Top.area])
    rw [hm'] at e
    refine e.trans (and_congr Iff.rfl ⟨fun hu u hut ho => ?_, fun hu x hv => ?_⟩)
    · have := hu ⟨u, by omega⟩ (by rw [h.keep, if_pos ⟨hut, ho⟩]; exact thrO_lt_one)
      rwa [if_pos hut] at this
    · rw [h.keep] at hv
      by_cases c : x.val < t ∧ Ok B S0 r x.val
      · rw [if_pos c.1]; exact hu _ c.1 c.2
      · rw [if_neg c] at hv; exact absurd hv (not_lt.mpr thrO_nonneg)
  have hcol := fun r (l : Fin 128) => pay36_apply r l t (by omega)
  have hk : ∀ r (l : Fin 128), (rs B S0 (t + 1)).acc.1 (ix2 r l) =
      if l.val = t ∧ okOf B S0 t (ix2 r l) = 1#1 then 1 else if l.val < t ∧ Ok B S0 r l.val then 1 else 0 := by
    intro r l
    rw [rs_succ]; dsimp only; rw [pay38_apply, h.keep]
    simp only [hcol, cOne, EReal.coe_one]
  have hOk : ∀ r (l : Fin 128), Ok B S0 r t ↔ okOf B S0 t (ix2 r l) = 1#1 := by
    intro r l
    have h1 : Ok B S0 r t ↔ Top.thrO < (rs B S0 (t + 1)).acc.1 (ix2 r ⟨t, by omega⟩) := ⟨fun ⟨_, e⟩ => e, fun e => ⟨_, e⟩⟩
    rw [h1, hk, hok r l, ← hok r ⟨t, by omega⟩]
    by_cases c : okOf B S0 t (ix2 r ⟨t, by omega⟩) = 1#1
    · rw [if_pos ⟨rfl, c⟩]; exact ⟨fun _ => c, fun _ => thrO_lt_one⟩
    · rw [if_neg (fun d => c d.2), if_neg (fun d => lt_irrefl _ d.1)]
      exact ⟨fun d => absurd d (not_lt.mpr thrO_nonneg), fun d => absurd d c⟩
  refine ⟨fun r l => ?_, fun r y => hS r y, fun r l => ?_, fun r l => ?_, fun r l => ?_, fun r l => ?_, fun r l => ?_, fun r l => ?_, fun r l => ?_, fun r s hs => ?_, fun r s hs => ?_⟩
  · rw [if_neg (by omega)]; exact hacc r l
  · rw [rs_succ]; dsimp only; rw [pay39_apply]; exact col_write ht r l (fun s => S0 (ix2 r (P B S0 r s))) _ _ _ (hm' r) (h.ts r l)
  · rw [rs_succ]; dsimp only; rw [pay40_apply]; exact col_write ht r l (fun s => B (ix2 0 (P B S0 r s))) _ _ _ (hx r).1 (h.x1 r l)
  · rw [rs_succ]; dsimp only; rw [pay41_apply]; exact col_write ht r l (fun s => B (ix2 1 (P B S0 r s))) _ _ _ (hx r).2.1 (h.y1 r l)
  · rw [rs_succ]; dsimp only; rw [pay42_apply]; exact col_write ht r l (fun s => B (ix2 2 (P B S0 r s))) _ _ _ (hx r).2.2.1 (h.x2 r l)
  · rw [rs_succ]; dsimp only; rw [pay62_eq, pay43_apply]; exact col_write ht r l (fun s => B (ix2 3 (P B S0 r s))) _ _ _ (hx r).2.2.2 (h.y2 r l)
  · rw [rs_succ]; dsimp only; rw [pay63_apply]; exact col_write ht r l (fun s => Top.area (boxAt B (P B S0 r s))) _ _ _ (har r) (h.ar r l)
  · rw [hk]
    by_cases c : l.val = t
    · by_cases d : okOf B S0 t (ix2 r l) = 1#1
      · rw [if_pos ⟨c, d⟩, if_pos ⟨by omega, c ▸ (hOk r l).mpr d⟩]
      · rw [if_neg (fun e => d e.2), if_neg (fun e => absurd e.1 (by omega)), if_neg (fun e => d ((hOk r l).mp (c ▸ e.2)))]
    · rw [if_neg (fun e => c e.1)]
      by_cases d : l.val < t ∧ Ok B S0 r l.val
      · rw [if_pos d, if_pos ⟨by omega, d.2⟩]
      · rw [if_neg d, if_neg (fun e => d ⟨by omega, e.2⟩)]
  · by_cases c : s = t
    · rw [c]; exact harg r
    · exact h.top r s (by omega)
  · by_cases c : s = t
    · rw [c, hOk r 0, hok r 0]
    · exact h.ok r s (by omega)

theorem inv_all (hG : Good S0) : ∀ t ≤ 100, Inv B S0 t
  | 0, _ => inv_zero B S0
  | t + 1, ht => inv_succ hG (by omega) (inv_all hG t (by omega))

end rounds

end Cert.Proof.KernelIdeal

end
-- ==== Proof.KernelIdealMergeReads.lean ====
/- The merge: the 100 best of every class's slots, class after class, and so the kernel's three results. -/
module

public import proofs.«01_k».proof.Proof.KernelIdealRounds

@[expose] public section

set_option maxRecDepth 20000
noncomputable section

open Idealize.ShloMosaic Idealize.ShloMosaic.TcCoe

namespace Cert.Proof.KernelIdeal

open Cert.KernelIdeal VecWindow

section reads

variable (v w : FV Ideal) (r : Fin 80) (l : Fin 128)

/-- The place `n` of an 80 × 128 array, counted along the rows. -/
def at2 (v : FV Ideal) (n : ℕ) : EReal := if h : n < 10240 then v (ix2 ⟨n / 128, by omega⟩ ⟨n % 128, Nat.mod_lt _ (by decide)⟩) else ⊥

theorem at2_apply : at2 v (128 * r.val + l.val) = v (ix2 r l) := by
  unfold at2
  rw [dif_pos (by omega)]
  congr 2 <;> exact Fin.ext (by simp only; omega)

theorem pay44_eq (R : Fin 80) (L : Fin 128) (h : IsArgMax 10240 (at2 v) (128 * R.val + L.val)) : Gen.k0_pay44 (F := Ideal) v = v (ix2 R L) := by
  have hm : ∀ x : Fin 80 × Fin 128, v (ix2 x.1 x.2) ≤ v (ix2 R L) := fun x => by
    have := h.2.1 (128 * x.1.val + x.2.val) (by omega)
    rwa [at2_apply, at2_apply] at this
  pointwise [Gen.k0_pay44]
  rw [cBot]
  exact fold_max_eq _ _ (R, L) bot_le hm

theorem pay45_apply : (Gen.k0_pay45 (F := Ideal) v (ix2 r l) = 1#1) = (v (ix2 r l) = Gen.k0_pay44 (F := Ideal) v) := by
  pointwise [Gen.k0_pay45]
  simp only [ofBool_eq_one, decide_eq_true_eq]

theorem first_of {v : FV Ideal} {R : Fin 80} {L : Fin 128} (h : IsArgMax 10240 (at2 v) (128 * R.val + L.val)) (e : v (ix2 r l) = v (ix2 R L)) :
    128 * R.val + L.val ≤ 128 * r.val + l.val := by
  by_contra hc
  have := h.2.2 _ (not_le.mp hc)
  rw [at2_apply, at2_apply, e] at this
  exact lt_irrefl _ this

theorem pay46_eq (R : Fin 80) (L : Fin 128) (h : IsArgMax 10240 (at2 v) (128 * R.val + L.val)) :
    Gen.k0_pay46 (F := Ideal) rows 1073741824#32 v (ix3 0 0 0) = BitVec.ofNat 32 R.val := by
  have hbig : (1073741824#32).toInt = 1073741824 := by decide
  have hbig' : (2147483647#32).toInt = 2147483647 := by decide
  pointwise [Gen.k0_pay46, rows]
  simp only [scalar_select, pay45_apply, pay44_eq v R L h]
  rw [fold_minsi_eq _ _ (R, L)]
  · rw [if_pos rfl]
  · rw [if_pos rfl, toInt_ofNat (by omega), hbig']; omega
  · intro x
    rw [if_pos rfl, toInt_ofNat (by omega)]
    by_cases hx : v (ix2 x.1 x.2) = v (ix2 R L)
    · have := first_of _ _ h hx
      rw [if_pos hx, toInt_ofNat (by omega)]; show (R.val : ℤ) ≤ x.1.val; omega
    · rw [if_neg hx, hbig]; omega

theorem pay47_apply (R : Fin 80) (L : Fin 128) (h : IsArgMax 10240 (at2 v) (128 * R.val + L.val)) :
    (Gen.k0_pay47 (F := Ideal) lanes rows 1073741824#32 v (ix2 r l) = 1#1) = (r = R ∧ l = L) := by
  have hbig : (1073741824#32).toInt = 1073741824 := by decide
  have hbig' : (2147483647#32).toInt = 2147483647 := by decide
  have h46 := pay46_eq v R L h
  have hK : Finset.univ.fold IntOp.minsi 2147483647#32 (fun x : Fin 80 × Fin 128 =>
      if v (ix2 x.1 x.2) = v (ix2 R L) ∧ BitVec.ofNat 32 x.1.val = BitVec.ofNat 32 R.val then BitVec.ofNat 32 x.2.val else 1073741824#32) = BitVec.ofNat 32 L.val := by
    rw [fold_minsi_eq _ _ (R, L)]
    · rw [if_pos ⟨rfl, rfl⟩]
    · rw [if_pos ⟨rfl, rfl⟩, toInt_ofNat (by omega), hbig']; omega
    · intro x
      rw [if_pos ⟨rfl, rfl⟩, toInt_ofNat (by omega)]
      by_cases hx : v (ix2 x.1 x.2) = v (ix2 R L) ∧ BitVec.ofNat 32 x.1.val = BitVec.ofNat 32 R.val
      · have h1 := first_of _ _ h hx.1
        have h2 := (ofNat_inj (by omega) (by omega)).mp hx.2
        rw [if_pos hx, toInt_ofNat (by omega)]; show (L.val : ℤ) ≤ x.2.val; omega
      · rw [if_neg hx, hbig]; omega
  unfold rows at h46
  pointwise [Gen.k0_pay47, lanes, rows]
  simp only [h46, scalar_select, andi_eq_one, cmpi_eq_one, pay45_apply, pay44_eq v R L h, hK]
  apply propext
  constructor
  · rintro ⟨⟨-, h2⟩, h3⟩
    exact ⟨Fin.ext ((ofNat_inj (by omega) (by omega)).mp h2), Fin.ext ((ofNat_inj (by omega) (by omega)).mp h3)⟩
  · rintro ⟨rfl, rfl⟩; exact ⟨⟨rfl, rfl⟩, rfl⟩

theorem pay48_apply (R : Fin 80) (L : Fin 128) (h : IsArgMax 10240 (at2 v) (128 * R.val + L.val)) :
    Gen.k0_pay48 (F := Ideal) lanes rows 1073741824#32 v (ix2 r l) = if r = R ∧ l = L then 1 else 0 := by
  pointwise [Gen.k0_pay48]
  simp only [scalar_select, pay47_apply v r l R L h]

theorem onehot_sum (R : Fin 80) (L : Fin 128) (h : IsArgMax 10240 (at2 v) (128 * R.val + L.val)) :
    ∑ x : Fin 80, ∑ y : Fin 128, Gen.k0_pay48 (F := Ideal) lanes rows 1073741824#32 v (ix2 x y) * w (ix2 x y) = w (ix2 R L) := by
  rw [Finset.sum_eq_single R, Finset.sum_eq_single L]
  · rw [pay48_apply v _ _ R L h, if_pos ⟨rfl, rfl⟩, one_mul]
  · intro y _ hy
    rw [pay48_apply v _ _ R L h, if_neg (fun e => hy e.2), zero_mul]
  · intro hc; exact absurd (Finset.mem_univ _) hc
  · intro x _ hx
    refine Finset.sum_eq_zero fun y _ => ?_
    rw [pay48_apply v _ _ R L h, if_neg (fun e => hx e.1), zero_mul]
  · intro hc; exact absurd (Finset.mem_univ _) hc

theorem pay49_eq : Gen.k0_pay49 (F := Ideal) lanes rows 1073741824#32 v w = ∑ x : Fin 80, ∑ y : Fin 128, Gen.k0_pay48 (F := Ideal) lanes rows 1073741824#32 v (ix2 x y) * w (ix2 x y) := by
  pointwise [Gen.k0_pay49]
theorem pay50_eq : Gen.k0_pay50 (F := Ideal) lanes rows 1073741824#32 v w = ∑ x : Fin 80, ∑ y : Fin 128, Gen.k0_pay48 (F := Ideal) lanes rows 1073741824#32 v (ix2 x y) * w (ix2 x y) := by
  pointwise [Gen.k0_pay50]
theorem pay51_eq : Gen.k0_pay51 (F := Ideal) lanes rows 1073741824#32 v w = ∑ x : Fin 80, ∑ y : Fin 128, Gen.k0_pay48 (F := Ideal) lanes rows 1073741824#32 v (ix2 x y) * w (ix2 x y) := by
  pointwise [Gen.k0_pay51]

variable (j : Fin 8) (k : ℕ) (hk : k < 100)
include hk

theorem slot_iff : (IntOp.andi (IntOp.cmpi CmpIPredicate.eq (BitVec.ofNat 32 l.val) (Scf.iv 0#32 1#32 k)) (IntOp.cmpi CmpIPredicate.eq (BitVec.ofNat 32 j.val) 0#32) = 1#1)
    = (l.val = k ∧ j.val = 0) := by
  rw [andi_eq_one, cmpi_eq_one, cmpi_eq_one, iv_eq, ofNat_inj (by omega) (by omega), ofNat_inj (a := j.val) (b := 0) (by omega) (by omega)]

theorem pay5_apply (b : FVec Ideal S8x128 .f32) (x : EReal) : Gen.k0_pay5 (F := Ideal) b (Scf.iv 0#32 1#32 k) x (ix2 j l) = if l.val = k ∧ j.val = 0 then x else b (ix2 j l) := by
  pointwise [Gen.k0_pay5, Gen.k0_pay4]
  simp only [scalar_select, slot_iff l j k hk]

theorem pay6_apply (b : IVec S8x128 32) (x : BitVec 32) : Gen.k0_pay6 b (Scf.iv 0#32 1#32 k) x (ix2 j l) = if l.val = k ∧ j.val = 0 then x else b (ix2 j l) := by
  pointwise [Gen.k0_pay6, Gen.k0_pay4]
  simp only [scalar_select, slot_iff l j k hk]

theorem pay7_apply (b : FVec Ideal S8x128 .f32) (x0 x1 x2 : EReal) (m : FV Ideal) (h4 : j.val < 4) :
    Gen.k0_pay7 (F := Ideal) b (Scf.iv 0#32 1#32 k) m x0 x1 x2 w (ix2 j l) =
      if l.val = k then (![x0, x1, x2, ∑ x : Fin 80, ∑ y : Fin 128, m (ix2 x y) * w (ix2 x y)] : Top.Box) ⟨j.val, h4⟩ else b (ix2 j l) := by
  have h0 := ofNat_inj (a := l.val) (b := k) (by omega) (by omega)
  pointwise [Gen.k0_pay7, Gen.k0_pay4]
  simp only [scalar_select, andi_eq_one, cmpi_eq_one, iv_eq]
  by_cases c : l.val = k
  · have e := h0.mpr c
    simp only [e, if_pos c, true_and]
    obtain ⟨jv, hj⟩ := j
    have : jv = 0 ∨ jv = 1 ∨ jv = 2 ∨ jv = 3 := by simp only at h4; omega
    rcases this with rfl | rfl | rfl | rfl <;> rfl
  · have e : ¬ BitVec.ofNat 32 l.val = BitVec.ofNat 32 k := fun e => c (h0.mp e)
    simp only [e, if_neg c, false_and, if_false]

end reads

theorem pay8_apply (v : FV Ideal) (c : IVec S80x128 1) (r : Fin 80) (l : Fin 128) : Gen.k0_pay8 (F := Ideal) v c (ix2 r l) = if c (ix2 r l) = 1#1 then Ideal.ofBits .f32 0xC0A00000#32 else v (ix2 r l) := by
  pointwise [Gen.k0_pay8]
  rw [scalar_select]

theorem pay1_apply (v w : FV Ideal) (r : Fin 80) (l : Fin 128) : Gen.k0_pay1 (F := Ideal) lanes v (Scalar.ofBits .f32 0x3F000000#32) w (ix2 r l) =
    if Top.thrO < v (ix2 r l) then w (ix2 r l) else if l.val < 100 then Ideal.ofBits .f32 0xBF800000#32 else Ideal.ofBits .f32 0xC0400000#32 := by
  have h : (IntOp.cmpi CmpIPredicate.slt (BitVec.ofNat 32 l.val) 100#32 = 1#1) = (l.val < 100) := by
    unfold IntOp.cmpi
    have h1 := toInt_ofNat (n := l.val) (by omega)
    have h2 : (100#32).toInt = 100 := by decide
    simp only [ofBool_eq_one, BitVec.slt, h1, h2, decide_eq_true_eq]
    apply propext; omega
  pointwise [Gen.k0_pay1, lanes]
  simp only [scalar_select, h]
  rfl

end Cert.Proof.KernelIdeal

end
-- ==== Proof.KernelIdealMerge.lean ====
/- The rounds of the merge: each takes the best slot left, and so the three results are the ones asked for. -/
module

public import proofs.«01_k».proof.Proof.KernelIdealMergeReads

@[expose] public section

set_option maxRecDepth 8192
noncomputable section

open Idealize.ShloMosaic Idealize.ShloMosaic.TcCoe

namespace Cert.Proof.KernelIdeal

open Cert.KernelIdeal VecWindow

section merge

variable (s : St Ideal) (V0 : FV Ideal)

/-- What the merge starts from, with the scores `V0`. -/
abbrev ms (t : ℕ) : Mg Ideal := merge s (V0, Gen.k0_pay2, Gen.k0_pay2, Gen.k0_pay3) t

/-- The place the merge takes in round `t`. -/
def Q (t : ℕ) : ℕ := (exists_argMax 10240 (by decide) (at2 (ms s V0 t).1)).choose

theorem Q_spec (t : ℕ) : IsArgMax 10240 (at2 (ms s V0 t).1) (Q s V0 t) := (exists_argMax 10240 (by decide) (at2 (ms s V0 t).1)).choose_spec
theorem Q_lt (t : ℕ) : Q s V0 t < 10240 := (Q_spec s V0 t).1

/-- Its class and its slot. -/
def QR (t : ℕ) : Fin 80 := ⟨Q s V0 t / 128, by have := Q_lt s V0 t; omega⟩
def QL (t : ℕ) : Fin 128 := ⟨Q s V0 t % 128, Nat.mod_lt _ (by decide)⟩

theorem Q_eq (t : ℕ) : 128 * (QR s V0 t).val + (QL s V0 t).val = Q s V0 t := Nat.div_add_mod _ 128
theorem Q_arg (t : ℕ) : IsArgMax 10240 (at2 (ms s V0 t).1) (128 * (QR s V0 t).val + (QL s V0 t).val) := by rw [Q_eq]; exact Q_spec s V0 t

open Classical in
/-- What holds after `t` rounds of the merge, for starting scores `V0` whose first 100 lanes are at least −1 and whose others are −3. -/
structure MInv (t : ℕ) : Prop where
  V : ∀ r (l : Fin 128), (ms s V0 t).1 (ix2 r l) = if ∃ u < t, Q s V0 u = 128 * r.val + l.val then Ideal.ofBits .f32 0xC0A00000#32 else V0 (ix2 r l)
  os : ∀ (j : Fin 8) (l : Fin 128), j.val = 0 → (ms s V0 t).2.1 (ix2 j l) = if l.val < t then V0 (ix2 (QR s V0 l.val) (QL s V0 l.val)) else 0
  ob : ∀ (j : Fin 8) (l : Fin 128) (h : j.val < 4), (ms s V0 t).2.2.1 (ix2 j l) = if l.val < t then
    (![s.x1 (ix2 (QR s V0 l.val) (QL s V0 l.val)), s.y1 (ix2 (QR s V0 l.val) (QL s V0 l.val)), s.x2 (ix2 (QR s V0 l.val) (QL s V0 l.val)), s.y2 (ix2 (QR s V0 l.val) (QL s V0 l.val))] : Top.Box) ⟨j.val, h⟩ else 0
  oc : ∀ (j : Fin 8) (l : Fin 128), j.val = 0 → (ms s V0 t).2.2.2 (ix2 j l) = if l.val < t then BitVec.ofNat 32 (QR s V0 l.val).val else 0

/-- The starting scores of the merge. -/
def MGood : Prop := ∀ r (l : Fin 128), (l.val < 100 → Ideal.ofBits .f32 0xBF800000#32 ≤ V0 (ix2 r l)) ∧ (100 ≤ l.val → V0 (ix2 r l) = Ideal.ofBits .f32 0xC0400000#32)

variable {s V0}

theorem neg3_lt_neg1 : Ideal.ofBits .f32 0xC0400000#32 < Ideal.ofBits .f32 0xBF800000#32 := by
  rw [cNeg3, cNeg1]; exact_mod_cast (by norm_num : (-3 : ℝ) < -1)
theorem neg5_lt_neg1 : Ideal.ofBits .f32 0xC0A00000#32 < Ideal.ofBits .f32 0xBF800000#32 := by
  rw [cNeg5, cNeg1]; exact_mod_cast (by norm_num : (-5 : ℝ) < -1)

/-- The place round `t` takes is among the first 100 lanes, new, and still holds its starting score. -/
theorem Q_fresh (hG : MGood V0) {t : ℕ} (ht : t < 100) (h : MInv s V0 t) :
    (QL s V0 t).val < 100 ∧ (∀ u < t, Q s V0 u ≠ Q s V0 t) ∧ (ms s V0 t).1 (ix2 (QR s V0 t) (QL s V0 t)) = V0 (ix2 (QR s V0 t) (QL s V0 t)) := by
  classical
  obtain ⟨y, hy, hy'⟩ : ∃ y ∈ Finset.range 101, 128 * (y / 100) + y % 100 ∉ (Finset.range t).image (fun u => Q s V0 u) := by
    have hc : ((Finset.range t).image (fun u => Q s V0 u)).card < ((Finset.range 101).image (fun y => 128 * (y / 100) + y % 100)).card := by
      rw [Finset.card_image_of_injOn (s := Finset.range 101) (fun a _ b _ (e : 128 * (a / 100) + a % 100 = 128 * (b / 100) + b % 100) => by omega)]
      calc _ ≤ (Finset.range t).card := Finset.card_image_le
        _ < _ := by rw [Finset.card_range, Finset.card_range]; omega
    obtain ⟨z, hz, hz'⟩ := Finset.exists_mem_notMem_of_card_lt_card hc
    obtain ⟨y, hy, rfl⟩ := Finset.mem_image.mp hz
    exact ⟨y, hy, hz'⟩
  have hy1 : y < 101 := Finset.mem_range.mp hy
  have hyv : Ideal.ofBits .f32 0xBF800000#32 ≤ (ms s V0 t).1 (ix2 ⟨y / 100, by omega⟩ ⟨y % 100, by omega⟩) := by
    rw [h.V, if_neg]
    · exact (hG _ _).1 (Nat.mod_lt _ (by decide))
    · rintro ⟨u, hu, e⟩; exact hy' (Finset.mem_image.mpr ⟨u, Finset.mem_range.mpr hu, e⟩)
  have hq : Ideal.ofBits .f32 0xBF800000#32 ≤ (ms s V0 t).1 (ix2 (QR s V0 t) (QL s V0 t)) := by
    refine hyv.trans ?_
    have := (Q_arg s V0 t).2.1 (128 * (⟨y / 100, by omega⟩ : Fin 80).val + (⟨y % 100, by omega⟩ : Fin 128).val) (by simp only; omega)
    rwa [at2_apply, at2_apply] at this
  have hns : ¬ ∃ u < t, Q s V0 u = 128 * (QR s V0 t).val + (QL s V0 t).val := by
    intro hc
    rw [h.V, if_pos hc] at hq
    exact absurd hq (not_le.mpr neg5_lt_neg1)
  have hv : (ms s V0 t).1 (ix2 (QR s V0 t) (QL s V0 t)) = V0 (ix2 (QR s V0 t) (QL s V0 t)) := by rw [h.V, if_neg hns]
  refine ⟨?_, fun u hu e => hns ⟨u, hu, by rw [Q_eq]; exact e⟩, hv⟩
  by_contra hc
  rw [hv, (hG _ _).2 (not_lt.mp hc)] at hq
  exact absurd hq (not_le.mpr neg3_lt_neg1)

theorem minv_zero : MInv s V0 0 where
  V r l := by rw [if_neg (by rintro ⟨u, hu, -⟩; omega)]; rfl
  os j l _ := by
    rw [if_neg (by omega)]
    show Gen.k0_pay2 (F := Ideal) (ix2 j l) = 0
    pointwise [Gen.k0_pay2]
  ob j l _ := by
    rw [if_neg (by omega)]
    show Gen.k0_pay2 (F := Ideal) (ix2 j l) = 0
    pointwise [Gen.k0_pay2]
  oc j l _ := by
    rw [if_neg (by omega)]
    rfl

/-- A slot written in round `t`, over the ones written before. -/
theorem slot_write {α : Type} {t : ℕ} (l : Fin 128) (f : ℕ → α) (z x old : α) (c : Prop) [Decidable c] (hc : c ↔ l.val = t) (hx : x = f t)
    (ho : old = if l.val < t then f l.val else z) : (if c then x else old) = if l.val < t + 1 then f l.val else z := by
  by_cases d : l.val = t
  · rw [if_pos (hc.mpr d), if_pos (by omega), d, hx]
  · rw [if_neg (fun e => d (hc.mp e)), ho]
    by_cases e : l.val < t
    · rw [if_pos e, if_pos (by omega)]
    · rw [if_neg e, if_neg (by omega)]

theorem minv_succ (hG : MGood V0) {t : ℕ} (ht : t < 100) (h : MInv s V0 t) : MInv s V0 (t + 1) := by
  classical
  have hq := Q_arg s V0 t
  obtain ⟨-, -, hv⟩ := Q_fresh hG ht h
  have hstep : ms s V0 (t + 1) = mergeStep s t (ms s V0 t) := rfl
  refine ⟨fun r l => ?_, fun j l hj => ?_, fun j l hj => ?_, fun j l hj => ?_⟩
  · rw [hstep]; unfold mergeStep; dsimp only
    rw [pay8_apply, h.V]
    have e1 := pay47_apply (ms s V0 t).1 r l _ _ hq
    by_cases c : r = QR s V0 t ∧ l = QL s V0 t
    · rw [if_pos (e1.mpr c), if_pos ⟨t, by omega, by rw [c.1, c.2, Q_eq]⟩]
    · rw [if_neg (fun e => c (e1.mp e))]
      by_cases d : ∃ u < t, Q s V0 u = 128 * r.val + l.val
      · obtain ⟨u, hu, e⟩ := d
        rw [if_pos ⟨u, hu, e⟩, if_pos ⟨u, by omega, e⟩]
      · rw [if_neg d, if_neg]
        rintro ⟨u, hu, e⟩
        by_cases f : u = t
        · rw [f, ← Q_eq] at e
          exact c ⟨Fin.ext (by omega), Fin.ext (by omega)⟩
        · exact d ⟨u, by omega, e⟩
  · rw [hstep]; unfold mergeStep; dsimp only
    rw [pay5_apply l j t ht, pay44_eq _ _ _ hq]
    exact slot_write l (fun u => V0 (ix2 (QR s V0 u) (QL s V0 u))) _ _ _ _ (and_iff_left hj) hv (h.os j l hj)
  · rw [hstep]; unfold mergeStep; dsimp only
    rw [pay7_apply _ l j t ht _ _ _ _ _ hj, pay49_eq, pay50_eq, pay51_eq, onehot_sum _ _ _ _ hq, onehot_sum _ _ _ _ hq, onehot_sum _ _ _ _ hq, onehot_sum _ _ _ _ hq]
    exact slot_write l (fun u => (![s.x1 (ix2 (QR s V0 u) (QL s V0 u)), s.y1 (ix2 (QR s V0 u) (QL s V0 u)), s.x2 (ix2 (QR s V0 u) (QL s V0 u)),
      s.y2 (ix2 (QR s V0 u) (QL s V0 u))] : Top.Box) ⟨j.val, hj⟩) _ _ _ _ Iff.rfl rfl (h.ob j l hj)
  · rw [hstep]; unfold mergeStep; dsimp only
    rw [pay6_apply l j t ht]
    exact slot_write l (fun u => BitVec.ofNat 32 (QR s V0 u).val) _ _ _ _ (and_iff_left hj) (pay46_eq _ _ _ hq) (h.oc j l hj)

theorem minv_all (hG : MGood V0) : ∀ t ≤ 100, MInv s V0 t
  | 0, _ => minv_zero
  | t + 1, ht => minv_succ hG (by omega) (minv_all hG t (by omega))

end merge

section out

variable (X0 : FS Ideal) (X1 X2 : FB Ideal)

/-- The scores and the boxes of the 10647 places. -/
def scK (r : Fin 80) (j : Fin 10647) : EReal := scoreAll X0 X1 X2 (ix2 r ⟨j.val, by omega⟩)
def bxK (j : Fin 10647) : Top.Box := boxAt (boxAll X1 X2) ⟨j.val, by omega⟩

/-- The kernel's results are the ones asked for. -/
theorem outK_isOut (hG : Good (scoreAll X0 X1 X2)) :
    Top.Out (scK X0 X1 X2) (bxK X1 X2) (fun t j => (outK X0 X1 X2).2.2.1 (ix2 ⟨j.val, by omega⟩ ⟨t.val, by omega⟩)) (fun t => (outK X0 X1 X2).2.1 (ix2 0 ⟨t.val, by omega⟩))
      (fun t => (outK X0 X1 X2).2.2.2 (ix2 0 ⟨t.val, by omega⟩)) := by
  classical
  set B := boxAll X1 X2 with hB
  set S0 := scoreAll X0 X1 X2 with hS0
  have hi := inv_all (B := B) hG
  have h100 := hi 100 le_rfl
  -- the places, below 10647
  have hfr : ∀ r t, t < 100 → (P B S0 r t).val < 10647 ∧ (∀ s < t, (P B S0 r s).val ≠ (P B S0 r t).val) ∧ leftS B S0 r t (P B S0 r t).val = S0 (ix2 r (P B S0 r t)) :=
    fun r t ht => ⟨(pick_fresh hG r t ht _ (h100.top r t ht)).1, (pick_fresh hG r t ht _ (h100.top r t ht)).2.1, (pick_fresh hG r t ht _ (h100.top r t ht)).2.2 (P B S0 r t).isLt⟩
  let p : Fin 80 → ℕ → Fin 10647 := fun r t => ⟨(P B S0 r t).val % 10647, Nat.mod_lt _ (by decide)⟩
  have hp : ∀ r t, t < 100 → (p r t).val = (P B S0 r t).val := fun r t ht => Nat.mod_eq_of_lt (hfr r t ht).1
  have hsc : ∀ r t, t < 100 → scK X0 X1 X2 r (p r t) = S0 (ix2 r (P B S0 r t)) := fun r t ht =>
    congrArg (fun y => S0 (ix2 r y)) (Fin.ext (hp r t ht))
  have hbx : ∀ r t, t < 100 → bxK X1 X2 (p r t) = boxAt B (P B S0 r t) := fun r t ht => congrArg (boxAt B) (Fin.ext (hp r t ht))
  have htop : ∀ r, Top.IsTop (scK X0 X1 X2 r) 100 (p r) := by
    intro r t ht
    refine ⟨fun s hs e => (hfr r t ht).2.1 s hs ?_, fun j hj hne => ?_⟩
    · rw [← hp r t ht, ← hp r s (by omega), e]
    · have hl : leftS B S0 r t j.val = scK X0 X1 X2 r j := by
        unfold leftS
        rw [dif_pos (by omega), if_neg]
        · rfl
        · rintro ⟨s, hs, e⟩; exact hj s hs (Fin.ext ((hp r s (by omega)).trans e))
      have hm := (h100.top r t ht).2.1 j.val (by omega)
      have hf := (h100.top r t ht).2.2 j.val
      rw [(hfr r t ht).2.2, hl, ← hsc r t ht] at hm hf
      by_cases c : j.val < (p r t).val
      · exact Or.inl (hf (by rwa [hp r t ht] at c))
      · rcases hm.lt_or_eq with d | d
        · exact Or.inl d
        · refine Or.inr ⟨d.symm, ?_⟩
          have : j.val ≠ (p r t).val := fun e => hne (Fin.ext e)
          exact Fin.lt_def.mpr (by omega)
  have hkeep : ∀ r, Top.IsKeep (fun t => scK X0 X1 X2 r (p r t)) (Top.ov (bxK X1 X2) (p r)) Top.thrS (Ok B S0 r) := by
    intro r t ht
    rw [h100.ok r t ht]
    show _ ↔ Top.thrS < scK X0 X1 X2 r (p r t) ∧ _
    rw [hsc r t ht]
    refine and_congr Iff.rfl (forall₂_congr fun u hu => ?_)
    unfold Top.ov
    rw [hbx r u (by omega), hbx r t ht]
  -- the merge
  let st : St Ideal := rs B S0 100
  let V0 : FV Ideal := Gen.k0_pay1 lanes st.acc.1 (Scalar.ofBits .f32 0x3F000000#32) st.ts
  have hV : ∀ r (l : Fin 128), V0 (ix2 r l) = if l.val < 100 then (if Ok B S0 r l.val then S0 (ix2 r (P B S0 r l.val)) else Ideal.ofBits .f32 0xBF800000#32)
      else Ideal.ofBits .f32 0xC0400000#32 := by
    intro r l
    show Gen.k0_pay1 (F := Ideal) lanes (rs B S0 100).acc.1 _ (rs B S0 100).ts (ix2 r l) = _
    rw [pay1_apply, h100.keep, h100.ts]
    have hk : Top.thrO < (if l.val < 100 ∧ Ok B S0 r l.val then (1 : EReal) else 0) ↔ l.val < 100 ∧ Ok B S0 r l.val := by
      by_cases e : l.val < 100 ∧ Ok B S0 r l.val
      · rw [if_pos e]; exact ⟨fun _ => e, fun _ => thrO_lt_one⟩
      · rw [if_neg e]; exact ⟨fun f => absurd f (not_lt.mpr thrO_nonneg), fun f => absurd f e⟩
    by_cases c : l.val < 100
    · by_cases d : Ok B S0 r l.val
      · rw [if_pos (hk.mpr ⟨c, d⟩), if_pos c, if_pos c, if_pos d]
      · rw [if_neg (fun e => d (hk.mp e).2), if_pos c, if_pos c, if_neg d]
    · rw [if_neg (fun e => c (hk.mp e).1), if_neg c, if_neg c]
  have hV0 : ∀ r (l : Fin 128) (hl : l.val < 100), V0 (ix2 r l) = Top.left (scK X0 X1 X2) p (Ok B S0) ⟨100 * r.val + l.val, by omega⟩ := by
    intro r l hl
    rw [hV, if_pos hl]
    have e1 : (⟨(100 * r.val + l.val) / 100, by omega⟩ : Fin 80) = r := Fin.ext (by simp only; omega)
    have e2 : (100 * r.val + l.val) % 100 = l.val := by omega
    unfold Top.left
    simp only [e1, e2]
    rw [hsc r l.val hl]
  have hMG : MGood V0 := by
    intro r l
    rw [hV]
    refine ⟨fun c => ?_, fun c => by rw [if_neg (by omega)]⟩
    rw [if_pos c]
    split_ifs
    · refine le_trans ?_ ((hG r _).1 (hfr r _ c).1)
      rw [cNeg1]; exact_mod_cast (by norm_num : (-1 : ℝ) ≤ 0)
    · exact le_rfl
  have hout : outK X0 X1 X2 = ms st V0 100 := rfl
  rw [hout]
  have hm := minv_all (s := st) hMG
  have hqf := fun t (ht : t < 100) => Q_fresh hMG ht (hm t (by omega))
  let q : ℕ → Fin 8000 := fun t => ⟨(100 * (QR st V0 t).val + (QL st V0 t).val % 100), by omega⟩
  have hq : ∀ t < 100, (q t).val = 100 * (QR st V0 t).val + (QL st V0 t).val := fun t ht => by
    have := (hqf t ht).1
    show 100 * (QR st V0 t).val + (QL st V0 t).val % 100 = _
    omega
  have hql : ∀ t < 100, Top.left (scK X0 X1 X2) p (Ok B S0) (q t) = V0 (ix2 (QR st V0 t) (QL st V0 t)) := fun t ht => by
    rw [hV0 _ _ (hqf t ht).1]; exact congrArg _ (Fin.ext (hq t ht))
  have hqd : ∀ t (ht : t < 100), (⟨(q t).val / 100, by omega⟩ : Fin 80) = QR st V0 t ∧ (q t).val % 100 = (QL st V0 t).val := fun t ht => by
    have h1 := (hqf t ht).1
    have h2 := hq t ht
    exact ⟨Fin.ext (by simp only; omega), by omega⟩
  refine ⟨p, Ok B S0, q, htop, hkeep, ?_, fun t => ⟨?_, ?_, ?_⟩⟩
  · intro t ht
    have hQt := Q_eq st V0 t
    refine ⟨fun u hu e => (hqf t ht).2.1 u hu ?_, fun j hj hne => ?_⟩
    · have e1 := congrArg Fin.val e
      rw [hq u (by omega), hq t ht] at e1
      have := (hqf t ht).1
      have := (hqf u (by omega)).1
      have := Q_eq st V0 u
      omega
    · let jr : Fin 80 := ⟨j.val / 100, by omega⟩
      let jl : Fin 128 := ⟨j.val % 100, by omega⟩
      have hjl : jl.val = j.val % 100 := rfl
      have hjr : jr.val = j.val / 100 := rfl
      have hl : (ms st V0 t).1 (ix2 jr jl) = Top.left (scK X0 X1 X2) p (Ok B S0) j := by
        rw [(hm t (by omega)).V, if_neg]
        · rw [hV0 jr jl (by omega)]; exact congrArg _ (Fin.ext (by simp only; omega))
        · rintro ⟨u, hu, e⟩
          refine hj u hu (Fin.ext ?_)
          have := (hqf u (by omega)).1
          have := Q_eq st V0 u
          rw [hq u (by omega)]; omega
      have hm1 := (Q_arg st V0 t).2.1 (128 * jr.val + jl.val) (by omega)
      have hm2 := (Q_arg st V0 t).2.2 (128 * jr.val + jl.val)
      rw [at2_apply, at2_apply, (hqf t ht).2.2, hl, ← hql t ht] at hm1 hm2
      have h1 := (hqf t ht).1
      have h2 := hq t ht
      by_cases c : j.val < (q t).val
      · exact Or.inl (hm2 (by omega))
      · rcases hm1.lt_or_eq with d | d
        · exact Or.inl d
        · refine Or.inr ⟨d.symm, ?_⟩
          have : j.val ≠ (q t).val := fun e => hne (Fin.ext e)
          exact Fin.lt_def.mpr (by omega)
  · have ht := t.isLt
    have hL := (hqf t.val ht).1
    rw [(hqd t.val ht).1, (hqd t.val ht).2, hbx _ _ hL]
    funext j
    have := (hm 100 le_rfl).ob ⟨j.val, by omega⟩ ⟨t.val, by omega⟩ j.isLt
    rw [if_pos (show t.val < 100 from ht)] at this
    refine this.trans ?_
    have e1 : st.x1 (ix2 (QR st V0 t.val) (QL st V0 t.val)) = _ := h100.x1 (QR st V0 t.val) (QL st V0 t.val)
    have e2 : st.y1 (ix2 (QR st V0 t.val) (QL st V0 t.val)) = _ := h100.y1 (QR st V0 t.val) (QL st V0 t.val)
    have e3 : st.x2 (ix2 (QR st V0 t.val) (QL st V0 t.val)) = _ := h100.x2 (QR st V0 t.val) (QL st V0 t.val)
    have e4 : st.y2 (ix2 (QR st V0 t.val) (QL st V0 t.val)) = _ := h100.y2 (QR st V0 t.val) (QL st V0 t.val)
    rw [if_pos hL] at e1 e2 e3 e4
    dsimp only
    rw [e1, e2, e3, e4]; rfl
  · have ht := t.isLt
    have := (hm 100 le_rfl).os 0 ⟨t.val, by omega⟩ rfl
    rw [if_pos (show t.val < 100 from ht)] at this
    rw [hql t.val ht]
    exact this
  · have ht := t.isLt
    have := (hm 100 le_rfl).oc 0 ⟨t.val, by omega⟩ rfl
    rw [if_pos (show t.val < 100 from ht)] at this
    refine this.trans ?_
    rw [← (hqd t.val ht).1]

end out

end Cert.Proof.KernelIdeal

end
-- ==== Proof.KernelIdealDecoded.lean ====
/- The decoded scores and boxes at a position, over the windows. -/
module

public import proofs.«01_k».proof.Proof.KernelIdealMerge
public import Idealize.ShloMosaic.Lib.Pointwise

@[expose] public section

set_option maxRecDepth 8192
noncomputable section

open Idealize.ShloMosaic Idealize.ShloMosaic.TcCoe

namespace Cert.Proof.KernelIdeal

open Cert.KernelIdeal

variable (X0 : FS Ideal) (X1 X2 : FB Ideal)

theorem blkS_div (r : Fin 80) (y : Fin 10752) (h) : blkS X0 (y.val / 128) h (ix2 r ⟨y.val % 128, Nat.mod_lt _ (by decide)⟩) = X0 (ix2 r y) := by
  rw [blkS_apply]
  exact congrArg (fun z => X0 (ix2 r z)) (Fin.ext (Nat.div_add_mod y.val 128))

theorem blkB_div (B : FB Ideal) (r : Fin 8) (y : Fin 10752) (h) :
    blkB B (y.val / 128) h (ix2 r ⟨y.val % 128, Nat.mod_lt _ (by decide)⟩) = B (ix2 r y) := by
  rw [blkB_apply]
  exact congrArg (fun z => B (ix2 r z)) (Fin.ext (Nat.div_add_mod y.val 128))

theorem pay10_apply (v : FV Ideal) (b b1 : FVec Ideal S8x128 .f32) (r : Fin 80) (l : Fin 128) :
    Gen.k0_pay10 (F := Ideal) v b b1 (ix2 r l)
      = if 0 < b1 (ix2 5 l) then Ideal.logistic (b (ix2 4 l)) * Ideal.logistic (v (ix2 r l)) else Ideal.ofBits .f32 3221225472#32 := by
  pointwise [Gen.k0_pay10, Gen.k0_pay9]

theorem scoreAll_apply (r : Fin 80) (y : Fin 10752) : scoreAll X0 X1 X2 (ix2 r y)
    = if 0 < X2 (ix2 5 y) then Ideal.logistic (X1 (ix2 4 y)) * Ideal.logistic (X0 (ix2 r y)) else Ideal.ofBits .f32 3221225472#32 := by
  have e : (fun a => match a with | 0 => (ix2 r y : S80x10752.Idx) 0 | 1 => ⟨y.val % 128, Nat.mod_lt _ (by decide)⟩ : S80x128.Idx)
      = ix2 r ⟨y.val % 128, Nat.mod_lt _ (by decide)⟩ := by
    funext a
    match a with
    | 0 => rfl
    | 1 => rfl
  unfold scoreAll scoreBlk
  have h := pay10_apply (blkS X0 (y.val / 128) (blk_lt y.isLt rfl)) (blkB X1 (y.val / 128) (blk_lt y.isLt rfl))
    (blkB X2 (y.val / 128) (blk_lt y.isLt rfl)) r ⟨y.val % 128, Nat.mod_lt _ (by decide)⟩
  simp only [blkS_div, blkB_div] at h
  rw [← h]
  exact congrArg _ e

/-- A box's centre along an axis, and its half extent, over the windows. -/
def ctrK (y : Fin 10752) (c : Fin 2) : EReal :=
  Ideal.div (X2 (ix2 ⟨c.val, by omega⟩ y) + Ideal.logistic (X1 (ix2 ⟨c.val, by omega⟩ y))) (X2 (ix2 4 y))
def extK (y : Fin 10752) (c : Fin 2) : EReal :=
  Ideal.div (Ideal.exp (X1 (ix2 ⟨2 + c.val, by omega⟩ y)) * X2 (ix2 ⟨2 + c.val, by omega⟩ y)) (Ideal.ofBits .f32 1073741824#32)

theorem pay9_apply (b : FVec Ideal S8x128 .f32) : Gen.k0_pay9 (F := Ideal) b = b := by
  funext i
  pointwise [Gen.k0_pay9]

/-- The box rows of a block. -/
def boxRows (b b1 : FVec Ideal S8x128 .f32) : FVec Ideal S8x128 .f32 :=
  Gen.k0_pay52 (F := Ideal) (Gen.k0_pay11 b b1) (Gen.k0_pay12 b b1) (Gen.k0_pay13 b b1) (Gen.k0_pay14 b b1) (Gen.k0_pay15 b b1)
      (Scalar.ofBits .f32 0x40000000#32)

theorem boxRows0 (b b1 : FVec Ideal S8x128 .f32) (l : Fin 128) : boxRows b b1 (ix2 0 l)
    = Ideal.div (b1 (ix2 0 l) + Ideal.logistic (b (ix2 0 l))) (b1 (ix2 4 l))
      - Ideal.div (Ideal.exp (b (ix2 2 l)) * b1 (ix2 2 l)) (Ideal.ofBits .f32 1073741824#32) := by
  pointwise [boxRows, Gen.k0_pay52, Gen.k0_pay11, Gen.k0_pay12, Gen.k0_pay13, Gen.k0_pay14, Gen.k0_pay15, pay9_apply]

theorem boxRows1 (b b1 : FVec Ideal S8x128 .f32) (l : Fin 128) : boxRows b b1 (ix2 1 l)
    = Ideal.div (b1 (ix2 1 l) + Ideal.logistic (b (ix2 1 l))) (b1 (ix2 4 l))
      - Ideal.div (Ideal.exp (b (ix2 3 l)) * b1 (ix2 3 l)) (Ideal.ofBits .f32 1073741824#32) := by
  pointwise [boxRows, Gen.k0_pay52, Gen.k0_pay11, Gen.k0_pay12, Gen.k0_pay13, Gen.k0_pay14, Gen.k0_pay15, pay9_apply]

theorem boxRows2 (b b1 : FVec Ideal S8x128 .f32) (l : Fin 128) : boxRows b b1 (ix2 2 l)
    = Ideal.div (b1 (ix2 0 l) + Ideal.logistic (b (ix2 0 l))) (b1 (ix2 4 l))
      + Ideal.div (Ideal.exp (b (ix2 2 l)) * b1 (ix2 2 l)) (Ideal.ofBits .f32 1073741824#32) := by
  pointwise [boxRows, Gen.k0_pay52, Gen.k0_pay11, Gen.k0_pay12, Gen.k0_pay13, Gen.k0_pay14, Gen.k0_pay15, pay9_apply]

theorem boxRows3 (b b1 : FVec Ideal S8x128 .f32) (l : Fin 128) : boxRows b b1 (ix2 3 l)
    = Ideal.div (b1 (ix2 1 l) + Ideal.logistic (b (ix2 1 l))) (b1 (ix2 4 l))
      + Ideal.div (Ideal.exp (b (ix2 3 l)) * b1 (ix2 3 l)) (Ideal.ofBits .f32 1073741824#32) := by
  pointwise [boxRows, Gen.k0_pay52, Gen.k0_pay11, Gen.k0_pay12, Gen.k0_pay13, Gen.k0_pay14, Gen.k0_pay15, pay9_apply]

theorem boxAll_eq (j : Fin 8) (y : Fin 10752) : boxAll X1 X2 (ix2 j y)
    = boxRows (blkB X1 (y.val / 128) (blk_lt y.isLt rfl)) (blkB X2 (y.val / 128) (blk_lt y.isLt rfl)) (ix2 j ⟨y.val % 128, Nat.mod_lt _ (by decide)⟩) := by
  have e : (fun a => match a with | 0 => (ix2 j y : S8x10752.Idx) 0 | 1 => ⟨y.val % 128, Nat.mod_lt _ (by decide)⟩ : S8x128.Idx)
      = ix2 j ⟨y.val % 128, Nat.mod_lt _ (by decide)⟩ := by
    funext a
    match a with
    | 0 => rfl
    | 1 => rfl
  unfold boxAll boxBlk boxRows
  exact congrArg _ e

theorem boxAt_boxAll (y : Fin 10752) : boxAt (boxAll X1 X2) y
    = ![ctrK X1 X2 y 0 - extK X1 X2 y 0, ctrK X1 X2 y 1 - extK X1 X2 y 1, ctrK X1 X2 y 0 + extK X1 X2 y 0, ctrK X1 X2 y 1 + extK X1 X2 y 1] := by
  unfold boxAt
  rw [boxAll_eq, boxAll_eq, boxAll_eq, boxAll_eq, boxRows0, boxRows1, boxRows2, boxRows3]
  simp only [blkB_div]
  rfl

end Cert.Proof.KernelIdeal
-- ==== Proof.Spec.lean ====
/- What the decoding of the three feature maps is, as plain functions of the three arrays: box scores and box corners. -/
module

public import proofs.«01_k».proof.Proof.Top
public import Idealize.ShloMosaic.Lib.Pointwise

@[expose] public section

noncomputable section

open Idealize.ShloMosaic

namespace Cert.Proof.Spec

/-- An array read at a row-major position (zero past its end). -/
def flat {s : Shape} (A : s.Idx → EReal) (k : ℕ) : EReal := if h : k < s.numel then A (s.rowMajor.symm ⟨k, h⟩) else 0

theorem flat_eq {s : Shape} (A : s.Idx → EReal) (i : s.Idx) : flat A (s.rowMajor i).val = A i := by
  unfold flat
  rw [dif_pos (s.rowMajor i).isLt]
  exact congrArg A (s.rowMajor.symm_apply_apply i)

theorem flat_shapeCast {s t : Shape} (A : s.Idx → EReal) (h : s.ShapeCasts t) (i : t.Idx) (k : ℕ) (hk : (t.rowMajor i).val = k) :
    shapeCast t A h i = flat A k := by
  subst hk
  have hn : (t.rowMajor i).val < s.numel := by have := (t.rowMajor i).isLt; have h' : t.numel = s.numel := by first | exact h | exact h.symm
                                               omega
  unfold flat
  rw [dif_pos hn]
  exact shapeCast_apply A h _ _ (congrArg Fin.val (s.rowMajor.apply_symm_apply ⟨_, hn⟩))

/-- The row of a box inside its own scale. -/
def row (n : ℕ) : ℕ := if n < 8112 then n else if n < 10140 then n - 8112 else n - 10140

/-- The side of a box's scale. -/
def side (n : ℕ) : ℕ := if n < 8112 then 52 else if n < 10140 then 26 else 13

/-- The side as a binary32 word. -/
def sideW (n : ℕ) : ℕ := if n < 8112 then 0x42500000 else if n < 10140 then 0x41D00000 else 0x41500000

/-- The anchors, divided by the image height, as binary32 words. -/
def ancW (n c : ℕ) : ℕ :=
  if n < 8112 then
    match n % 3, c with
    | 0, 0 => 0x3CC4EC4F | 0, _ => 0x3D000000 | 1, 0 => 0x3D1D89D9 | 1, _ => 0x3D93B13B | _, 0 => 0x3DA27627 | _, _ => 0x3D627627
  else if n < 10140 then
    match n % 3, c with
    | 0, 0 => 0x3D93B13B | 0, _ => 0x3E162762 | 1, 0 => 0x3E189D8A | 1, _ => 0x3DDD89D9 | _, 0 => 0x3E113B14 | _, _ => 0x3E927627
  else
    match n % 3, c with
    | 0, 0 => 0x3E8EC4EC | 0, _ => 0x3E5D89D9 | 1, 0 => 0x3EC00000 | 1, _ => 0x3EF3B13B | _, 0 => 0x3F6589D9 | _, _ => 0x3F489D8A

/-- A box's cell in its grid, across and down. -/
def cell (n c : ℕ) : ℕ := if c = 0 then row n / 3 % side n else row n / 3 / side n

theorem cell_lt (n c : ℕ) (h : n < 10647) : cell n c < 52 := by
  unfold cell row side
  split_ifs <;> omega

variable {s0 s1 s2 : Shape} (A0 : s0.Idx → EReal) (A1 : s1.Idx → EReal) (A2 : s2.Idx → EReal)

/-- Channel `ch` of box `n`. -/
def feat (n ch : ℕ) : EReal :=
  if n < 8112 then flat A0 (row n * 85 + ch) else if n < 10140 then flat A1 (row n * 85 + ch) else flat A2 (row n * 85 + ch)

/-- Box scores: confidence times class probability. -/
def sc (r : Fin 80) (n : Fin 10647) : EReal :=
  Ideal.logistic (feat A0 A1 A2 n.val 4) * Ideal.logistic (feat A0 A1 A2 n.val (5 + r.val))

/-- A box's centre along an axis. -/
def ctr (n c : ℕ) : EReal :=
  Ideal.div (((cell n c : ℝ) : EReal) + Ideal.logistic (feat A0 A1 A2 n c)) (Ideal.ofBits .f32 (BitVec.ofNat 32 (sideW n)))

/-- Half a box's extent along an axis. -/
def ext (n c : ℕ) : EReal :=
  Ideal.div (Ideal.exp (feat A0 A1 A2 n (2 + c)) * Ideal.ofBits .f32 (BitVec.ofNat 32 (ancW n c))) (Ideal.ofBits .f32 1073741824#32)

/-- A box's corners. -/
def bx (n : Fin 10647) : Top.Box :=
  ![ctr A0 A1 A2 n.val 0 - ext A0 A1 A2 n.val 0, ctr A0 A1 A2 n.val 1 - ext A0 A1 A2 n.val 1,
    ctr A0 A1 A2 n.val 0 + ext A0 A1 A2 n.val 0, ctr A0 A1 A2 n.val 1 + ext A0 A1 A2 n.val 1]

/-- The binary exponent of a small number. -/
def lg (k : ℕ) : ℕ := if k < 2 then 0 else if k < 4 then 1 else if k < 8 then 2 else if k < 16 then 3 else if k < 32 then 4 else 5

/-- The binary32 word of a small number. -/
def natW (k : ℕ) : ℕ := if k = 0 then 0 else (127 + lg k) * 8388608 + (k - 2 ^ lg k) * 2 ^ (23 - lg k)

set_option maxHeartbeats 4000000 in
theorem ofBits_natW (k : ℕ) (hk : k < 52) : Ideal.ofBits .f32 (BitVec.ofNat 32 (natW k)) = ((k : ℝ) : EReal) := by
  interval_cases k <;> simp [natW, lg, Ideal.ofBits, Ideal.ieee, -EReal.coe_mul] <;> norm_num

/-- A check of the range of length `2 ^ k` from `a`, by halves. -/
def chk (p : ℕ → Bool) : ℕ → ℕ → Bool
  | 0, a => p a
  | k + 1, a => chk p k a && chk p k (a + 2 ^ k)

theorem chk_spec (p : ℕ → Bool) : ∀ (k a : ℕ), chk p k a = true → ∀ i, a ≤ i → i < a + 2 ^ k → p i = true
  | 0, a, h, i, h1, h2 => by
    have : i = a := by rw [pow_zero] at h2; omega
    rw [this]; exact h
  | k + 1, a, h, i, h1, h2 => by
    have h' : (chk p k a && chk p k (a + 2 ^ k)) = true := h
    rw [Bool.and_eq_true] at h'
    rw [pow_succ] at h2
    by_cases hi : i < a + 2 ^ k
    · exact chk_spec p k a h'.1 i h1 hi
    · exact chk_spec p k (a + 2 ^ k) h'.2 i (by omega) (by omega)

end Cert.Proof.Spec
-- ==== Proof.SpecReads.lean ====
/- The channels of a box, read off the three arrays by their own indices. -/
module

public import proofs.«01_k».proof.Proof.Spec

@[expose] public section

noncomputable section

open Idealize.ShloMosaic

namespace Cert.Proof.Spec

theorem flat_ix4 {a b d e : ℕ} (A : (⟨4, ![a, b, d, e]⟩ : Shape).Idx → EReal) (i : Fin a) (j : Fin b) (l : Fin d) (o : Fin e) (k : ℕ)
    (h : ((i.val * b + j.val) * d + l.val) * e + o.val = k) : A (ix4 i j l o) = flat A k := by
  rw [← flat_eq A (ix4 i j l o)]
  refine congrArg (flat A) ?_
  rw [Shape.rowMajor_val_four]
  exact h

theorem pos0 (n ch : ℕ) (hc : ch < 85) : ((0 * 52 + n / 156) * 52 + n / 3 % 52) * 255 + (n % 3 * 85 + ch) = n * 85 + ch := by omega
theorem pos1 (n ch : ℕ) (hc : ch < 85) : ((0 * 26 + n / 78) * 26 + n / 3 % 26) * 255 + (n % 3 * 85 + ch) = n * 85 + ch := by omega
theorem pos2 (n ch : ℕ) (hc : ch < 85) : ((0 * 13 + n / 39) * 13 + n / 3 % 13) * 255 + (n % 3 * 85 + ch) = n * 85 + ch := by omega

theorem feat0 (A0 : (⟨4, ![1, 52, 52, 255]⟩ : Shape).Idx → EReal) (A1 : (⟨4, ![1, 26, 26, 255]⟩ : Shape).Idx → EReal)
    (A2 : (⟨4, ![1, 13, 13, 255]⟩ : Shape).Idx → EReal) (n ch : ℕ) (hc : ch < 85) (h : n < 8112) :
    A0 (ix4 0 ⟨n / 156, by omega⟩ ⟨n / 3 % 52, by omega⟩ ⟨n % 3 * 85 + ch, by omega⟩) = feat A0 A1 A2 n ch := by
  unfold feat row
  rw [if_pos h, if_pos h]
  exact flat_ix4 A0 _ _ _ _ _ (pos0 n ch hc)

theorem feat1 (A0 : (⟨4, ![1, 52, 52, 255]⟩ : Shape).Idx → EReal) (A1 : (⟨4, ![1, 26, 26, 255]⟩ : Shape).Idx → EReal)
    (A2 : (⟨4, ![1, 13, 13, 255]⟩ : Shape).Idx → EReal) (n ch : ℕ) (hc : ch < 85) (h : ¬ n < 8112) (h1 : n - 8112 < 2028) :
    A1 (ix4 0 ⟨(n - 8112) / 78, by omega⟩ ⟨(n - 8112) / 3 % 26, by omega⟩ ⟨(n - 8112) % 3 * 85 + ch, by omega⟩) = feat A0 A1 A2 n ch := by
  unfold feat row
  rw [if_neg h, if_neg h, if_pos (show n < 10140 by omega), if_pos (show n < 10140 by omega)]
  exact flat_ix4 A1 _ _ _ _ _ (pos1 (n - 8112) ch hc)

theorem feat2 (A0 : (⟨4, ![1, 52, 52, 255]⟩ : Shape).Idx → EReal) (A1 : (⟨4, ![1, 26, 26, 255]⟩ : Shape).Idx → EReal)
    (A2 : (⟨4, ![1, 13, 13, 255]⟩ : Shape).Idx → EReal) (n ch : ℕ) (hc : ch < 85) (h : ¬ n < 8112) (h1 : ¬ n - 8112 < 2028) (h2 : n < 10647) :
    A2 (ix4 0 ⟨(n - 8112 - 2028) / 39, by omega⟩ ⟨(n - 8112 - 2028) / 3 % 13, by omega⟩ ⟨(n - 8112 - 2028) % 3 * 85 + ch, by omega⟩)
      = feat A0 A1 A2 n ch := by
  unfold feat row
  rw [if_neg h, if_neg h, if_neg (show ¬ n < 10140 by omega), if_neg (show ¬ n < 10140 by omega)]
  exact flat_ix4 A2 _ _ _ _ _ (by rw [show n - 10140 = n - 8112 - 2028 by omega]; exact pos2 (n - 8112 - 2028) ch hc)

/-- The three scales put together. -/
theorem feat_dite (A0 : (⟨4, ![1, 52, 52, 255]⟩ : Shape).Idx → EReal) (A1 : (⟨4, ![1, 26, 26, 255]⟩ : Shape).Idx → EReal)
    (A2 : (⟨4, ![1, 13, 13, 255]⟩ : Shape).Idx → EReal) (n ch : ℕ) (hc : ch < 85) (hn : n < 10647) :
    (if _h : n < 8112 then A0 (ix4 0 ⟨n / 156, by omega⟩ ⟨n / 3 % 52, by omega⟩ ⟨n % 3 * 85 + ch, by omega⟩)
      else if _h1 : n - 8112 < 2028 then
        A1 (ix4 0 ⟨(n - 8112) / 78, by omega⟩ ⟨(n - 8112) / 3 % 26, by omega⟩ ⟨(n - 8112) % 3 * 85 + ch, by omega⟩)
      else A2 (ix4 0 ⟨(n - 8112 - 2028) / 39, by omega⟩ ⟨(n - 8112 - 2028) / 3 % 13, by omega⟩ ⟨(n - 8112 - 2028) % 3 * 85 + ch, by omega⟩))
      = feat A0 A1 A2 n ch := by
  split_ifs with h h1
  · exact feat0 A0 A1 A2 n ch hc h
  · exact feat1 A0 A1 A2 n ch hc h h1
  · exact feat2 A0 A1 A2 n ch hc h h1 hn

end Cert.Proof.Spec
-- ==== Proof.KernelIdealInputs.lean ====
/- What the kernel's windows hold when the region starts, in terms of the three feature maps and the constant table. -/
module

public import proofs.«01_k».proof.Proof.SpecReads
public import proofs.«01_k».proof.Proof.KernelIdealRun
public import Idealize.ShloMosaic.Lib.StableHlo.ReadAt

@[expose] public section

set_option maxRecDepth 200000
noncomputable section

open Idealize.ShloMosaic Idealize.ShloMosaic.TcCoe

namespace Cert.Proof.KernelIdeal

open Cert.KernelIdeal Gen Spec

variable (m : (ℓ : Loc nD τ sig) → Buf (Elt Ideal) ℓ) (c : Dev nD)

theorem in0_eq : (in0 m c : S80x10752.Idx → EReal) = V m c main_v8 := by
  unfold in0 iblk
  funext i
  refine congrArg (V m c main_v8) (funext fun a => Fin.ext ?_)
  match a with
  | 0 => show 0 * _ + 1 * (i 0).val = (i 0).val; omega
  | 1 => show 0 * _ + 1 * (i 1).val = (i 1).val; omega

set_option maxHeartbeats 4000000 in
theorem in0_apply (r : Fin 80) (y : Fin 10752) (hy : y.val < 10647) :
    in0 m c (ix2 r y) = feat (m ((c : Thread nD τ).loc main_arg0)) (m ((c : Thread nD τ).loc main_arg1)) (m ((c : Thread nD τ).loc main_arg2)) y.val (5 + r.val) := by
  rw [in0_eq]
  unfold V V0
  simp only [List.flatten_cons, List.flatten_nil, List.append_nil, List.cons_append, List.nil_append]
  after_reads_at
  after_reads_at
  have hr := r.isLt
  rw [dif_pos ⟨by omega, hy⟩]
  exact feat_dite _ _ _ y.val (5 + r.val) (by omega) hy

theorem in1_eq : (in1 m c : S8x10752.Idx → EReal) = V m c main_v10 := by
  unfold in1 iblk
  funext i
  refine congrArg (V m c main_v10) (funext fun a => Fin.ext ?_)
  match a with
  | 0 => show 0 * _ + 1 * (i 0).val = (i 0).val; omega
  | 1 => show 0 * _ + 1 * (i 1).val = (i 1).val; omega

theorem in2_eq : (in2 m c : S8x10752.Idx → EReal) = V m c main_cst := by
  unfold in2 iblk
  funext i
  refine congrArg (V m c main_cst) (funext fun a => Fin.ext ?_)
  match a with
  | 0 => show 0 * _ + 1 * (i 0).val = (i 0).val; omega
  | 1 => show 0 * _ + 1 * (i 1).val = (i 1).val; omega

set_option maxHeartbeats 4000000 in
theorem in1_apply (r : Fin 8) (hr : r.val < 5) (y : Fin 10752) (hy : y.val < 10647) :
    in1 m c (ix2 r y) = feat (m ((c : Thread nD τ).loc main_arg0)) (m ((c : Thread nD τ).loc main_arg1)) (m ((c : Thread nD τ).loc main_arg2)) y.val r.val := by
  rw [in1_eq]
  unfold V V0
  simp only [List.flatten_cons, List.flatten_nil, List.append_nil, List.cons_append, List.nil_append]
  after_reads_at
  after_reads_at
  rw [dif_pos hr, dif_pos (show r.val < 85 ∧ y.val < 10647 from ⟨by omega, hy⟩)]
  exact feat_dite _ _ _ y.val r.val (by omega) hy

set_option maxHeartbeats 4000000 in
theorem in2_apply (r : Fin 8) (y : Fin 10752) :
    in2 m c (ix2 r y) = Ideal.ofBits .f32 (lit0 ⟨r.val * 10752 + y.val, by omega⟩) := by
  rw [in2_eq]
  unfold V V0
  simp only [List.flatten_cons, List.flatten_nil, List.append_nil, List.cons_append, List.nil_append]
  after_reads_simp
  refine congrArg (fun k => Ideal.ofBits .f32 (lit0 k)) (Fin.ext ?_)
  rw [Shape.rowMajor_val_two]
  rfl

end Cert.Proof.KernelIdeal
-- ==== Proof.KernelIdealTable0.lean ====
/- Row 0 of the kernel's constant table: the cells across. -/
module

public import proofs.«01_k».proof.Proof.Spec
public import proofs.«01_k».proof.KernelIdeal

@[expose] public section

set_option maxRecDepth 20000
noncomputable section

open Idealize.ShloMosaic

namespace Cert.Proof.KernelIdeal

open Cert.KernelIdeal Spec

theorem tab0 : chk (fun n => !(decide (n < 10647)) || (lit0t n).toNat == natW (cell n 0)) 14 0 = true := by decide +kernel

end Cert.Proof.KernelIdeal
-- ==== Proof.KernelIdealTable1.lean ====
/- Row 1 of the kernel's constant table: the cells down. -/
module

public import proofs.«01_k».proof.Proof.Spec
public import proofs.«01_k».proof.KernelIdeal

@[expose] public section

set_option maxRecDepth 20000
noncomputable section

open Idealize.ShloMosaic

namespace Cert.Proof.KernelIdeal

open Cert.KernelIdeal Spec

theorem tab1 : chk (fun n => !(decide (n < 10647)) || (lit0t (10752 + n)).toNat == natW (cell n 1)) 14 0 = true := by decide +kernel

end Cert.Proof.KernelIdeal
-- ==== Proof.KernelIdealTable2.lean ====
/- Row 2 of the kernel's constant table: the anchors across. -/
module

public import proofs.«01_k».proof.Proof.Spec
public import proofs.«01_k».proof.KernelIdeal

@[expose] public section

set_option maxRecDepth 20000
noncomputable section

open Idealize.ShloMosaic

namespace Cert.Proof.KernelIdeal

open Cert.KernelIdeal Spec

theorem tab2 : chk (fun n => !(decide (n < 10647)) || (lit0t (21504 + n)).toNat == ancW n 0) 14 0 = true := by decide +kernel

end Cert.Proof.KernelIdeal
-- ==== Proof.KernelIdealTable3.lean ====
/- Row 3 of the kernel's constant table: the anchors down. -/
module

public import proofs.«01_k».proof.Proof.Spec
public import proofs.«01_k».proof.KernelIdeal

@[expose] public section

set_option maxRecDepth 20000
noncomputable section

open Idealize.ShloMosaic

namespace Cert.Proof.KernelIdeal

open Cert.KernelIdeal Spec

theorem tab3 : chk (fun n => !(decide (n < 10647)) || (lit0t (32256 + n)).toNat == ancW n 1) 14 0 = true := by decide +kernel

end Cert.Proof.KernelIdeal
-- ==== Proof.KernelIdealTable4.lean ====
/- Row 4 of the kernel's constant table: the sides. -/
module

public import proofs.«01_k».proof.Proof.Spec
public import proofs.«01_k».proof.KernelIdeal

@[expose] public section

set_option maxRecDepth 20000
noncomputable section

open Idealize.ShloMosaic

namespace Cert.Proof.KernelIdeal

open Cert.KernelIdeal Spec

theorem tab4 : chk (fun n => !(decide (n < 10647)) || (lit0t (43008 + n)).toNat == sideW n) 14 0 = true := by decide +kernel

end Cert.Proof.KernelIdeal
-- ==== Proof.KernelIdealTable5.lean ====
/- Row 5 of the kernel's constant table: the mask of the boxes that exist. -/
module

public import proofs.«01_k».proof.Proof.Spec
public import proofs.«01_k».proof.KernelIdeal

@[expose] public section

set_option maxRecDepth 20000
noncomputable section

open Idealize.ShloMosaic

namespace Cert.Proof.KernelIdeal

open Cert.KernelIdeal Spec

theorem tab5 : chk (fun n => !(decide (n < 10752)) || (lit0t (53760 + n)).toNat == (if n < 10647 then 0x3F800000 else 0)) 14 0 = true := by
  decide +kernel

end Cert.Proof.KernelIdeal
-- ==== Proof.KernelIdealTable.lean ====
/- The kernel's constant table, read off: grid cells, anchors, sides and the mask of the boxes that exist. -/
module

public import proofs.«01_k».proof.Proof.KernelIdealTable0
public import proofs.«01_k».proof.Proof.KernelIdealTable1
public import proofs.«01_k».proof.Proof.KernelIdealTable2
public import proofs.«01_k».proof.Proof.KernelIdealTable3
public import proofs.«01_k».proof.Proof.KernelIdealTable4
public import proofs.«01_k».proof.Proof.KernelIdealTable5

@[expose] public section

set_option maxRecDepth 20000
noncomputable section

open Idealize.ShloMosaic

namespace Cert.Proof.KernelIdeal

open Cert.KernelIdeal Spec

/-- The table at a position. -/
theorem lit0_eq (k : ℕ) (hk : k < 86016) (w : ℕ) (h : (lit0t k).toNat = w) : lit0 ⟨k, hk⟩ = BitVec.ofNat 32 w := by
  show lit0t k = _
  rw [← h, BitVec.ofNat_toNat, BitVec.setWidth_eq]

theorem chk_row {N : ℕ} {f w : ℕ → ℕ} (h : chk (fun n => !(decide (n < N)) || f n == w n) 14 0 = true) (n : ℕ) (hn : n < N) (hN : N < 16384) :
    f n = w n := by
  have := chk_spec _ 14 0 h n (Nat.zero_le _) (by omega)
  simpa [hn] using this

end Cert.Proof.KernelIdeal
-- ==== Proof.KernelIdealValues.lean ====
/- The decoded scores and boxes are those of the three feature maps. -/
module

public import proofs.«01_k».proof.Proof.KernelIdealDecoded
public import proofs.«01_k».proof.Proof.KernelIdealInputs
public import proofs.«01_k».proof.Proof.KernelIdealTable
public import Idealize.ShloMosaic.Lib.IdealHost

@[expose] public section

set_option maxRecDepth 20000
noncomputable section

open Idealize.ShloMosaic Idealize.ShloMosaic.TcCoe

namespace Cert.Proof.KernelIdeal

open Cert.KernelIdeal Gen Spec

theorem logistic_nonneg (x : EReal) : 0 ≤ Ideal.logistic x := by
  induction x with
  | bot => rw [Ideal.logistic_bot]
  | coe r => rw [Ideal.logistic_coe]; exact_mod_cast inv_nonneg.mpr (by positivity)
  | top => rw [Ideal.logistic_top]; exact zero_le_one

variable (m : (ℓ : Loc nD τ sig) → Buf (Elt Ideal) ℓ) (c : Dev nD)

theorem tabAt (r : Fin 8) (y : Fin 10752) (k : ℕ) (hk : k = r.val * 10752 + y.val) (w : ℕ) (h : (lit0t k).toNat = w) :
    in2 m c (ix2 r y) = Ideal.ofBits .f32 (BitVec.ofNat 32 w) := by
  subst hk
  rw [in2_apply, lit0_eq _ _ w h]

theorem valid_in (y : Fin 10752) (hy : y.val < 10647) : 0 < in2 m c (ix2 5 y) := by
  have h := chk_row (f := fun n => (lit0t (53760 + n)).toNat) (w := fun n => if n < 10647 then 0x3F800000 else 0) tab5 y.val y.isLt (by decide)
  rw [tabAt m c 5 y (53760 + y.val) (by show 53760 + y.val = 5 * 10752 + y.val; omega) _ h, if_pos hy, show BitVec.ofNat 32 0x3F800000 = 0x3F800000#32 from rfl, Ideal.ofBits_one_f32]
  exact zero_lt_one

theorem valid_out (y : Fin 10752) (hy : 10647 ≤ y.val) : ¬ 0 < in2 m c (ix2 5 y) := by
  have h := chk_row (f := fun n => (lit0t (53760 + n)).toNat) (w := fun n => if n < 10647 then 0x3F800000 else 0) tab5 y.val y.isLt (by decide)
  rw [tabAt m c 5 y (53760 + y.val) (by show 53760 + y.val = 5 * 10752 + y.val; omega) _ h, if_neg (by omega), show BitVec.ofNat 32 0 = 0x00000000#32 from rfl, Ideal.ofBits_zero_f32]
  exact lt_irrefl _

theorem good : Good (scoreAll (in0 m c) (in1 m c) (in2 m c)) := by
  intro r y
  refine ⟨fun hy => ?_, fun hy => ?_⟩
  · rw [scoreAll_apply, if_pos (valid_in m c y hy)]
    exact mul_nonneg (logistic_nonneg _) (logistic_nonneg _)
  · rw [scoreAll_apply, if_neg (valid_out m c y hy)]

/-- The three feature maps. -/
abbrev a0 : S1x52x52x255.Idx → EReal := m ((c : Thread nD τ).loc main_arg0)
abbrev a1 : S1x26x26x255.Idx → EReal := m ((c : Thread nD τ).loc main_arg1)
abbrev a2 : S1x13x13x255.Idx → EReal := m ((c : Thread nD τ).loc main_arg2)

theorem scK_eq : scK (in0 m c) (in1 m c) (in2 m c) = sc (a0 m c) (a1 m c) (a2 m c) := by
  funext r n
  have hn := n.isLt
  unfold scK
  rw [scoreAll_apply, if_pos (valid_in m c _ hn), in0_apply m c r _ hn, in1_apply m c 4 (by decide) _ hn]
  rfl

theorem ctrK_eq (n : Fin 10647) (a : Fin 2) : ctrK (in1 m c) (in2 m c) ⟨n.val, by omega⟩ a = ctr (a0 m c) (a1 m c) (a2 m c) n.val a.val := by
  have hn := n.isLt
  unfold ctrK ctr
  rw [in1_apply m c _ (by show a.val < 5; omega) _ hn,
    tabAt m c 4 ⟨n.val, by omega⟩ (43008 + n.val) (by show 43008 + n.val = 4 * 10752 + n.val; omega) _ (chk_row (f := fun n => (lit0t (43008 + n)).toNat) tab4 n.val hn (by decide))]
  congr 2
  match a with
  | 0 =>
    rw [tabAt m c ⟨(0 : Fin 2).val, by decide⟩ ⟨n.val, by omega⟩ n.val (by show n.val = 0 * 10752 + n.val; omega) _
      (chk_row (f := fun n => (lit0t n).toNat) (w := fun n => natW (cell n 0)) tab0 n.val hn (by decide))]
    exact ofBits_natW _ (cell_lt _ _ hn)
  | 1 =>
    rw [tabAt m c ⟨(1 : Fin 2).val, by decide⟩ ⟨n.val, by omega⟩ (10752 + n.val) (by show 10752 + n.val = 1 * 10752 + n.val; omega) _
      (chk_row (f := fun n => (lit0t (10752 + n)).toNat) (w := fun n => natW (cell n 1)) tab1 n.val hn (by decide))]
    exact ofBits_natW _ (cell_lt _ _ hn)

theorem extK_eq (n : Fin 10647) (a : Fin 2) : extK (in1 m c) (in2 m c) ⟨n.val, by omega⟩ a = ext (a0 m c) (a1 m c) (a2 m c) n.val a.val := by
  have hn := n.isLt
  unfold extK ext
  rw [in1_apply m c _ (by show 2 + a.val < 5; omega) _ hn]
  congr 2
  match a with
  | 0 =>
    rw [tabAt m c ⟨2 + (0 : Fin 2).val, by decide⟩ ⟨n.val, by omega⟩ (21504 + n.val) (by show 21504 + n.val = (2 + 0) * 10752 + n.val; omega) _
      (chk_row (f := fun n => (lit0t (21504 + n)).toNat) (w := fun n => ancW n 0) tab2 n.val hn (by decide))]
    rfl
  | 1 =>
    rw [tabAt m c ⟨2 + (1 : Fin 2).val, by decide⟩ ⟨n.val, by omega⟩ (32256 + n.val) (by show 32256 + n.val = (2 + 1) * 10752 + n.val; omega) _
      (chk_row (f := fun n => (lit0t (32256 + n)).toNat) (w := fun n => ancW n 1) tab3 n.val hn (by decide))]
    rfl

theorem bxK_eq : bxK (in1 m c) (in2 m c) = bx (a0 m c) (a1 m c) (a2 m c) := by
  funext n
  unfold bxK
  rw [boxAt_boxAll, ctrK_eq, ctrK_eq, extK_eq, extK_eq]
  rfl

/-- What the kernel's region leaves is what is asked for. -/
theorem res_isOut : Top.Out (sc (a0 m c) (a1 m c) (a2 m c)) (bx (a0 m c) (a1 m c) (a2 m c))
    (fun t j => (res m c).2.2.1 (ix2 ⟨j.val, by omega⟩ ⟨t.val, by omega⟩)) (fun t => (res m c).2.1 (ix2 0 ⟨t.val, by omega⟩))
    (fun t => (res m c).2.2.2 (ix2 0 ⟨t.val, by omega⟩)) := by
  have h := outK_isOut (X0 := in0 m c) (X1 := in1 m c) (X2 := in2 m c) (good m c)
  rw [scK_eq, bxK_eq] at h
  exact h

end Cert.Proof.KernelIdeal
-- ==== Proof.KernelIdealOut.lean ====
/- The kernel's three results, read off what its region leaves. -/
module

public import proofs.«01_k».proof.Proof.KernelIdealValues
public import Idealize.ShloMosaic.Lib.StableHlo.ReadAt

@[expose] public section

set_option maxRecDepth 200000
noncomputable section

open Idealize.ShloMosaic Idealize.ShloMosaic.TcCoe

namespace Cert.Proof.KernelIdeal

open Cert.KernelIdeal Gen

variable (m : (ℓ : Loc nD τ sig) → Buf (Elt Ideal) ℓ) (c : Dev nD)

theorem cover_one (w : Fin cfg0.W) (G : Buf (Elt Ideal) ((cfg0.win w).arr.view.loc ((c : Thread nD τ))))
    (hf : (cfg0.win w).flush t0_0 = true)
    (hG : (dats m 0 c).flushed w t0_0 = ((cfg0.win w).blk t0_0).view.read (Elt Ideal) G)
    (hc : ∀ i : ((cfg0.win w).arr.view.loc (c : Thread nD τ)).2.ty.Idx, i ∈ ((cfg0.win w).blk t0_0).view.set) :
    (dats m 0 c).arrAt w cfg0.N = G :=
  (dats m 0 c).arrAt_eq_of_cover w G (fun t _ => by obtain rfl := fin_N0 t; exact hG) (fun i => ⟨t0_0, hf, hc i⟩)

theorem arr3 : ((dats m 0 c).arrAt 3 cfg0.N : S8x128.Idx → EReal) = (res m c).2.1 := by
  refine cover_one m c 3 ((res m c).2.1) rfl ?_ fun i => ?_
  · funext i
    refine congrArg ((res m c).2.1) (funext fun a => Fin.ext ?_)
    match a with
    | 0 => show (i 0).val = 0 * _ + 1 * (i 0).val; omega
    | 1 => show (i 1).val = 0 * _ + 1 * (i 1).val; omega
  · have h := ((cfg0.win 3).blk t0_0).view.emb_mem_set i
    have e : ((cfg0.win 3).blk t0_0).view.emb i = i := funext fun a => Fin.ext (by
      match a with
      | 0 => show 0 * _ + 1 * (i 0).val = (i 0).val; omega
      | 1 => show 0 * _ + 1 * (i 1).val = (i 1).val; omega)
    rw [e] at h
    exact h

theorem arr4 : ((dats m 0 c).arrAt 4 cfg0.N : S8x128.Idx → EReal) = (res m c).2.2.1 := by
  refine cover_one m c 4 ((res m c).2.2.1) rfl ?_ fun i => ?_
  · funext i
    refine congrArg ((res m c).2.2.1) (funext fun a => Fin.ext ?_)
    match a with
    | 0 => show (i 0).val = 0 * _ + 1 * (i 0).val; omega
    | 1 => show (i 1).val = 0 * _ + 1 * (i 1).val; omega
  · have h := ((cfg0.win 4).blk t0_0).view.emb_mem_set i
    have e : ((cfg0.win 4).blk t0_0).view.emb i = i := funext fun a => Fin.ext (by
      match a with
      | 0 => show 0 * _ + 1 * (i 0).val = (i 0).val; omega
      | 1 => show 0 * _ + 1 * (i 1).val = (i 1).val; omega)
    rw [e] at h
    exact h

theorem arr5 : ((dats m 0 c).arrAt 5 cfg0.N : S8x128.Idx → BitVec 32) = (res m c).2.2.2 := by
  refine cover_one m c 5 ((res m c).2.2.2) rfl ?_ fun i => ?_
  · funext i
    refine congrArg ((res m c).2.2.2) (funext fun a => Fin.ext ?_)
    match a with
    | 0 => show (i 0).val = 0 * _ + 1 * (i 0).val; omega
    | 1 => show (i 1).val = 0 * _ + 1 * (i 1).val; omega
  · have h := ((cfg0.win 5).blk t0_0).view.emb_mem_set i
    have e : ((cfg0.win 5).blk t0_0).view.emb i = i := funext fun a => Fin.ext (by
      match a with
      | 0 => show 0 * _ + 1 * (i 0).val = (i 0).val; omega
      | 1 => show 0 * _ + 1 * (i 1).val = (i 1).val; omega)
    rw [e] at h
    exact h

theorem arrRef_inj : Function.Injective (Pipeline.arrRef spec0) := by decide

section reads
variable (W : Valuation τ sig (Elt Ideal))

theorem out_boxes (t : Fin 100) (j : Fin 4) : (StableHlo.after hostOps1 W (Proc.devRef .tc main_v24) : S100x4.Idx → EReal) (ix2 t j)
    = W (Proc.devRef .tc main_v11_1) (ix2 (⟨j.val, by omega⟩ : Fin 8) (⟨t.val, by omega⟩ : Fin 128)) := by
  after_reads_at
  after_reads_at
  match j with
  | 0 => rfl
  | 1 => rfl
  | 2 => rfl
  | 3 => rfl

theorem out_scores (t : Fin 100) : (StableHlo.after hostOps1 W (Proc.devRef .tc main_v26) : S100.Idx → EReal) (ix1 t)
    = W (Proc.devRef .tc main_v11_0) (ix2 (0 : Fin 8) (⟨t.val, by omega⟩ : Fin 128)) := by
  after_reads_at

theorem out_classes (t : Fin 100) : (StableHlo.after hostOps1 W (Proc.devRef .tc main_v28) : S100.Idx → BitVec 32) (ix1 t)
    = W (Proc.devRef .tc main_v11_2) (ix2 (0 : Fin 8) (⟨t.val, by omega⟩ : Fin 128)) := by
  after_reads_at

end reads

/-- What the three result buffers hold at the end. -/
def kBoxes : S100x4.Idx → EReal := Pipeline.afterTail₀ cfgs (dats m) 0 (V0 m) [hostOps1] c main_v24
def kScores : S100.Idx → EReal := Pipeline.afterTail₀ cfgs (dats m) 0 (V0 m) [hostOps1] c main_v26
def kClasses : S100.Idx → BitVec 32 := Pipeline.afterTail₀ cfgs (dats m) 0 (V0 m) [hostOps1] c main_v28

/-- The buffers when the region has ended. -/
def atExit : Valuation τ sig (Elt Ideal) := Pipeline.withArrays (cfgs 0).spec c (V0 m c) fun w => (dats m 0 c).arrAt w (cfgs 0).N

theorem atExit_eq (w : Fin cfg0.W) : atExit m c (Proc.devRef .tc (Pipeline.arrRef spec0 w)) = (dats m 0 c).arrAt w cfg0.N :=
  Pipeline.withArrays_arr spec0 arrRef_inj c (V0 m c) (fun w => (dats m 0 c).arrAt w cfg0.N) w

theorem kBoxes_apply (t : Fin 100) (j : Fin 4) : kBoxes m c (ix2 t j) = (res m c).2.2.1 (ix2 ⟨j.val, by omega⟩ ⟨t.val, by omega⟩) :=
  (out_boxes (atExit m c) t j).trans (congrFun ((atExit_eq m c 4).trans (arr4 m c)) _)
theorem kScores_apply (t : Fin 100) : kScores m c (ix1 t) = (res m c).2.1 (ix2 0 ⟨t.val, by omega⟩) :=
  (out_scores (atExit m c) t).trans (congrFun ((atExit_eq m c 3).trans (arr3 m c)) _)
theorem kClasses_apply (t : Fin 100) : kClasses m c (ix1 t) = (res m c).2.2.2 (ix2 0 ⟨t.val, by omega⟩) :=
  (out_classes (atExit m c) t).trans (congrFun ((atExit_eq m c 5).trans (arr5 m c)) _)

/-- The kernel's results are what is asked for. -/
theorem kernel_isOut : Top.Out (Spec.sc (a0 m c) (a1 m c) (a2 m c)) (Spec.bx (a0 m c) (a1 m c) (a2 m c))
    (fun t j => kBoxes m c (ix2 t j)) (fun t => kScores m c (ix1 t)) (fun t => kClasses m c (ix1 t)) := by
  have h := res_isOut m c
  simp only [kBoxes_apply, kScores_apply, kClasses_apply]
  exact h

end Cert.Proof.KernelIdeal
-- ==== Proof.KernelIdealFinal.lean ====
/- What the idealized kernel's run leaves in its three results. -/
module

public import proofs.«01_k».proof.Proof.KernelIdealOut

@[expose] public section

set_option maxRecDepth 16384
noncomputable section

open Idealize.ShloMosaic Idealize.ShloMosaic.TcCoe Idealize.ShloMosaic.StableHlo Idealize.SL Idealize.SL.Sem

namespace Cert.Proof.KernelIdeal

open Cert.KernelIdeal Gen

variable (m : (ℓ : Loc nD τ sig) → Buf (Elt Ideal) ℓ) (ρ : Dev nD → PrngReg)

/-- The run leaves them, and the arguments as launched. -/
theorem values : θ_run (defs (F := Ideal)) (onTc (τ := τ) (main (F := Ideal))) ⟨m, fun _ => 0, ρ⟩ (fun r => ∀ c : Dev nD,
    r.2.mem ((c.tc : Thread nD τ).loc main_v24) = kBoxes m c
    ∧ r.2.mem ((c.tc : Thread nD τ).loc main_v26) = kScores m c
    ∧ r.2.mem ((c.tc : Thread nD τ).loc main_v28) = kClasses m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run _ _ _).mono (fun _ h c => ⟨(h.1 c).2 main_v24 (Pipeline.mem_restRefs_of main_v24 (by decide) (by decide)),
    (h.1 c).2 main_v26 (Pipeline.mem_restRefs_of main_v26 (by decide) (by decide)),
    (h.1 c).2 main_v28 (Pipeline.mem_restRefs_of main_v28 (by decide) (by decide)),
    ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).2 main_arg2 (Pipeline.mem_restRefs_of main_arg2 (by decide) (by decide))).trans (W_main_arg2 m (dats m) c)⟩) (run m ρ)

end Cert.Proof.KernelIdeal
-- ==== Proof.ReferenceIdealTrip.lean ====
/- What one trip of the reference's loop makes of the buffers it carries. -/
module

public import proofs.«01_k».proof.Proof.ReferenceIdealRun
public import proofs.«01_k».proof.Proof.Top
public import Idealize.ShloMosaic.Lib.StableHlo.ReadAt
public import Idealize.ShloMosaic.Lib.IdealHost

@[expose] public section

set_option maxRecDepth 200000
noncomputable section

open Idealize.ShloMosaic Idealize.ShloMosaic.TcCoe Idealize.ShloMosaic.StableHlo

namespace Cert.Proof.ReferenceIdeal

open Cert.ReferenceIdeal Gen Value

variable (V : Valuation τ sig (Elt Ideal))

theorem cmpi_slt_zero (k : ℕ) (hk : k < 100) : IntOp.cmpi CmpIPredicate.slt (BitVec.ofNat 32 k) 0#32 = 0#1 := by
  interval_cases k <;> rfl

/-- The row number as the loop takes it: a negative one would count from the end. -/
theorem row_start (x : S_.Idx → BitVec 32) (k : ℕ) (hk : k < 100) (hx : x = fun _ => BitVec.ofNat 32 k) (i : S_.Idx) :
    (select (cmpi .slt x (constantI S_ 32 0#32)) (addi (id x) (constantI S_ 32 100#32)) x i).toInt = (k : ℤ) := by
  subst hx
  show (Scalar.select (IntOp.cmpi CmpIPredicate.slt (BitVec.ofNat 32 k) 0#32) _ (BitVec.ofNat 32 k)).toInt = _
  rw [cmpi_slt_zero k hk]
  show (BitVec.ofNat 32 k).toInt = _
  rw [BitVec.toInt_eq_toNat_cond, BitVec.toNat_ofNat, Nat.mod_eq_of_lt (by omega), if_pos (by omega)]

theorem ix3_congr {a b c : ℕ} {i i' : Fin a} {j j' : Fin b} {l l' : Fin c} (h : i = i') (h' : j = j') (h'' : l = l') : ix3 i j l = ix3 i' j' l' := by
  rw [h, h', h'']

set_option maxHeartbeats 4000000 in
theorem row_box (k : ℕ) (hk : k < 100) (hx : (V (Proc.devRef .tc main_v183_5) : S_.Idx → BitVec 32) = fun _ => BitVec.ofNat 32 k) (r : Fin 80) (j : Fin 4) :
    (after while0Ops0 V (Proc.devRef .tc main_while0b_v210) : S80x1x4.Idx → EReal) (ix3 r 0 j)
      = (V (Proc.devRef .tc main_v183_0) : S80x100x4.Idx → EReal) (ix3 r ⟨k, hk⟩ j) := by
  after_reads_at
  refine congrArg (V (Proc.devRef .tc main_v183_0) : S80x100x4.Idx → EReal) (ix3_congr (Fin.ext ?_) (Fin.ext ?_) (Fin.ext ?_))
  · show Host.clampedStart _ _ _ _ _ + r.val = r.val
    rw [Host.clampedStart_of_le _ _ _ 0 ?_ (show 0 + 80 ≤ 80 by omega), Nat.zero_add]
    after_reads_simp
    rfl
  · dsimp only
    refine Host.clampedStart_of_le _ _ _ k ?_ ?_
    swap
    · show k + 1 ≤ 100
      omega
    after_reads_simp
    exact row_start _ k hk hx _
  · show Host.clampedStart _ _ _ _ _ + j.val = j.val
    rw [Host.clampedStart_of_le _ _ _ 0 ?_ (show 0 + 4 ≤ 4 by omega), Nat.zero_add]
    after_reads_simp
    rfl

set_option maxHeartbeats 4000000 in
theorem row_area (k : ℕ) (hk : k < 100) (hx : (V (Proc.devRef .tc main_v183_5) : S_.Idx → BitVec 32) = fun _ => BitVec.ofNat 32 k) (r : Fin 80) :
    (after while0Ops0 V (Proc.devRef .tc main_while0b_v220) : S80x1.Idx → EReal) (ix2 r 0)
      = (V (Proc.devRef .tc main_v183_2) : S80x100.Idx → EReal) (ix2 r ⟨k, hk⟩) := by
  after_reads_at
  refine congrArg (V (Proc.devRef .tc main_v183_2) : S80x100.Idx → EReal) (congrArg₂ ix2 (Fin.ext ?_) (Fin.ext ?_))
  · show Host.clampedStart _ _ _ _ _ + r.val = r.val
    rw [Host.clampedStart_of_le _ _ _ 0 ?_ (show 0 + 80 ≤ 80 by omega), Nat.zero_add]
    after_reads_simp
    rfl
  · dsimp only
    refine Host.clampedStart_of_le _ _ _ k ?_ ?_
    swap
    · show k + 1 ≤ 100
      omega
    after_reads_simp
    exact row_start _ k hk hx _

set_option maxHeartbeats 4000000 in
theorem row_valid (k : ℕ) (hk : k < 100) (hx : (V (Proc.devRef .tc main_v183_5) : S_.Idx → BitVec 32) = fun _ => BitVec.ofNat 32 k) (r : Fin 80) :
    (after while0Ops0 V (Proc.devRef .tc main_while0b_v229) : S80x1.Idx → BitVec 1) (ix2 r 0)
      = IntOp.andi (~~~(show BitVec 1 from (V (Proc.devRef .tc main_v183_7) : S80x100.Idx → BitVec 1) (ix2 r ⟨k, hk⟩)))
        (Ideal.cmp .ogt ((V (Proc.devRef .tc main_v183_1) : S80x100.Idx → EReal) (ix2 r ⟨k, hk⟩)) Top.thrS) := by
  after_reads_at
  refine congrArg₂ IntOp.andi (congrArg (fun i => ~~~(show BitVec 1 from (V (Proc.devRef .tc main_v183_7) : S80x100.Idx → BitVec 1) i)) (congrArg₂ ix2 (Fin.ext ?_) (Fin.ext ?_)))
    (congrArg (fun i => Ideal.cmp .ogt ((V (Proc.devRef .tc main_v183_1) : S80x100.Idx → EReal) i) Top.thrS) (congrArg₂ ix2 (Fin.ext ?_) (Fin.ext ?_)))
  · show Host.clampedStart _ _ _ _ _ + r.val = r.val
    rw [Host.clampedStart_of_le _ _ _ 0 ?_ (show 0 + 80 ≤ 80 by omega), Nat.zero_add]
    after_reads_simp
    rfl
  · dsimp only
    refine Host.clampedStart_of_le _ _ _ k ?_ ?_
    swap
    · show k + 1 ≤ 100
      omega
    after_reads_simp
    exact row_start _ k hk hx _
  · show Host.clampedStart _ _ _ _ _ + r.val = r.val
    rw [Host.clampedStart_of_le _ _ _ 0 ?_ (show 0 + 80 ≤ 80 by omega), Nat.zero_add]
    after_reads_simp
    rfl
  · dsimp only
    refine Host.clampedStart_of_le _ _ _ k ?_ ?_
    swap
    · show k + 1 ≤ 100
      omega
    after_reads_simp
    exact row_start _ k hk hx _

set_option maxHeartbeats 4000000 in
theorem here (k : ℕ) (hx : (V (Proc.devRef .tc main_v183_5) : S_.Idx → BitVec 32) = fun _ => BitVec.ofNat 32 k) (t : Fin 100) :
    (after while0Ops0 V (Proc.devRef .tc main_while0b_v232) : S100.Idx → BitVec 1) (ix1 t)
      = IntOp.cmpi .eq ((V (Proc.devRef .tc main_v183_3) : S100.Idx → BitVec 32) (ix1 t)) (BitVec.ofNat 32 k) := by
  after_reads_at
  exact congrArg (IntOp.cmpi CmpIPredicate.eq _) (congrFun hx ix0)

set_option maxHeartbeats 4000000 in
theorem kept (r : Fin 80) (t : Fin 100) :
    (after while0Ops0_1 V (Proc.devRef .tc main_while0b_v233) : S80x100.Idx → BitVec 1) (ix2 r t)
      = Scalar.select ((V (Proc.devRef .tc main_while0b_v232) : S100.Idx → BitVec 1) (ix1 t))
        ((V (Proc.devRef .tc main_while0b_v229) : S80x1.Idx → BitVec 1) (ix2 r 0))
        ((V (Proc.devRef .tc main_v183_6) : S80x100.Idx → BitVec 1) (ix2 r t)) := by
  after_reads_at

set_option maxHeartbeats 4000000 in
theorem supp (r : Fin 80) (t : Fin 100) (a b : Top.Box)
    (ha : ∀ j, (V (Proc.devRef .tc main_while0b_v210) : S80x1x4.Idx → EReal) (ix3 r 0 j) = a j)
    (hb : ∀ j, (V (Proc.devRef .tc main_v183_0) : S80x100x4.Idx → EReal) (ix3 r t j) = b j)
    (hA : (V (Proc.devRef .tc main_while0b_v220) : S80x1.Idx → EReal) (ix2 r 0) = Top.area a)
    (hB : (V (Proc.devRef .tc main_v183_2) : S80x100.Idx → EReal) (ix2 r t) = Top.area b) :
    (after while0Ops0_2 V (Proc.devRef .tc main_v183_7) : S80x100.Idx → BitVec 1) (ix2 r t)
      = IntOp.ori ((V (Proc.devRef .tc main_v183_7) : S80x100.Idx → BitVec 1) (ix2 r t))
        (IntOp.andi ((V (Proc.devRef .tc main_while0b_v229) : S80x1.Idx → BitVec 1) (ix2 r 0))
          (IntOp.andi (Ideal.cmp .ogt (Top.iou a b) Top.thrO)
            (IntOp.cmpi .sgt ((V (Proc.devRef .tc main_v183_3) : S100.Idx → BitVec 32) (ix1 t)) ((V (Proc.devRef .tc main_v183_5) : S_.Idx → BitVec 32) ix0)))) := by
  after_reads_at
  simp only [id_eq]
  pointwise
  rw [ha, ha, ha, ha, hb, hb, hb, hb, hA, hB, show (FloatOps.ofBits FTy.f32 0#32 : Ideal FTy.f32) = (0 : EReal) from Ideal.ofBits_zero_f32]
  rfl

end Cert.Proof.ReferenceIdeal
-- ==== Proof.ReferenceIdealStep.lean ====
/- The reference's loop: after `k` trips the first `k` of each class are decided, and what they overlap is struck out. -/
module

public import proofs.«01_k».proof.Proof.ReferenceIdealTrip

@[expose] public section

set_option maxRecDepth 200000
noncomputable section

open Idealize.ShloMosaic Idealize.ShloMosaic.TcCoe Idealize.ShloMosaic.StableHlo

namespace Cert.Proof.ReferenceIdeal

open Cert.ReferenceIdeal Gen Value

/-! ## Bits -/

theorem and_bit (a b : BitVec 1) : IntOp.andi a b = 1#1 ↔ a = 1#1 ∧ b = 1#1 := by revert a b; decide
theorem or_bit (a b : BitVec 1) : IntOp.ori a b = 1#1 ↔ a = 1#1 ∨ b = 1#1 := by revert a b; decide
theorem not_bit (a : BitVec 1) : ~~~a = 1#1 ↔ ¬ a = 1#1 := by revert a; decide
theorem select_bit (a b d : BitVec 1) : Scalar.select a b d = 1#1 ↔ (a = 1#1 ∧ b = 1#1) ∨ (¬ a = 1#1 ∧ d = 1#1) := by revert a b d; decide

theorem select_neg {α : Type} (a : BitVec 1) (x y : α) (h : ¬ a = 1#1) : Scalar.select a x y = y := by
  have e : a = 0#1 := by revert h; revert a; decide
  rw [e]; rfl

theorem ofBool_bit (b : Bool) : BitVec.ofBool b = 1#1 ↔ b = true := by revert b; decide

theorem cmp_bit (x y : EReal) : Ideal.cmp .ogt x y = 1#1 ↔ y < x := by
  show BitVec.ofBool (decide (y < x)) = 1#1 ↔ _
  rw [ofBool_bit, decide_eq_true_iff]

theorem toInt_small (k : ℕ) (hk : k < 100) : (BitVec.ofNat 32 k).toInt = (k : ℤ) := by
  rw [BitVec.toInt_eq_toNat_cond, BitVec.toNat_ofNat, Nat.mod_eq_of_lt (by omega), if_pos (by omega)]

theorem eq_bit (t k : ℕ) (ht : t < 100) (hk : k < 100) : IntOp.cmpi .eq (BitVec.ofNat 32 t) (BitVec.ofNat 32 k) = 1#1 ↔ t = k := by
  show BitVec.ofBool (BitVec.ofNat 32 t == BitVec.ofNat 32 k) = 1#1 ↔ _
  rw [ofBool_bit, beq_iff_eq]
  constructor
  · intro h
    have := congrArg BitVec.toInt h
    rw [toInt_small t ht, toInt_small k hk] at this
    omega
  · rintro rfl; rfl

theorem gt_bit (t k : ℕ) (ht : t < 100) (hk : k < 100) : IntOp.cmpi .sgt (BitVec.ofNat 32 t) (BitVec.ofNat 32 k) = 1#1 ↔ k < t := by
  show BitVec.ofBool (decide ((BitVec.ofNat 32 k).toInt < (BitVec.ofNat 32 t).toInt)) = 1#1 ↔ _
  rw [ofBool_bit, decide_eq_true_iff, toInt_small t ht, toInt_small k hk]
  omega

/-! ## Which are kept -/

/-- Kept: a score above the threshold, and no earlier kept one overlaps. -/
def ok (s : ℕ → EReal) (ov : ℕ → ℕ → Prop) (t : ℕ) : Prop := Top.thrS < s t ∧ ∀ u : Fin t, ok s ov u.val → ¬ ov u.val t
termination_by t
decreasing_by exact u.isLt

theorem ok_iff (s : ℕ → EReal) (ov : ℕ → ℕ → Prop) (t : ℕ) : ok s ov t ↔ Top.thrS < s t ∧ ∀ u < t, ok s ov u → ¬ ov u t := by
  rw [ok]
  exact and_congr_right fun _ => ⟨fun h u hu => h ⟨u, hu⟩, fun h u => h u.val u.isLt⟩

variable (V : Valuation τ sig (Elt Ideal))

set_option maxHeartbeats 1000000 in
theorem out_keep (r : Fin 80) (t : Fin 100) : (after while0Ops0_2 V (Proc.devRef .tc main_v183_6) : S80x100.Idx → BitVec 1) (ix2 r t)
    = (V (Proc.devRef .tc main_while0b_v233) : S80x100.Idx → BitVec 1) (ix2 r t) := by
  after_reads_simp
  rfl

set_option maxHeartbeats 1000000 in
theorem out_trip : (after while0Ops0_2 V (Proc.devRef .tc main_v183_5) : S_.Idx → BitVec 32) = V (Proc.devRef .tc main_while0b_v205) := by
  after_reads_simp
  rfl

set_option maxHeartbeats 1000000 in
theorem next_trip (k : ℕ) (hx : (V (Proc.devRef .tc main_v183_5) : S_.Idx → BitVec 32) = fun _ => BitVec.ofNat 32 k) :
    (after while0Ops0 V (Proc.devRef .tc main_while0b_v205) : S_.Idx → BitVec 32) = fun _ => BitVec.ofNat 32 (k + 1) := by
  after_reads_simp
  funext i
  have h := congrFun hx i
  refine (congrArg (fun x : BitVec 32 => x + BitVec.ofNat 32 1) h).trans ?_
  rw [← BitVec.ofNat_add]

/-- The loop's buffers after `k` trips. -/
structure Inv (S : Fin 80 → ℕ → EReal) (P : Fin 80 → ℕ → Top.Box) (k : ℕ) (C : Valuation τ sig (Elt Ideal)) : Prop where
  box : ∀ (r : Fin 80) (t : Fin 100) (j : Fin 4), (C (Proc.devRef .tc main_v183_0) : S80x100x4.Idx → EReal) (ix3 r t j) = P r t.val j
  val : ∀ (r : Fin 80) (t : Fin 100), (C (Proc.devRef .tc main_v183_1) : S80x100.Idx → EReal) (ix2 r t) = S r t.val
  area : ∀ (r : Fin 80) (t : Fin 100), (C (Proc.devRef .tc main_v183_2) : S80x100.Idx → EReal) (ix2 r t) = Top.area (P r t.val)
  iota : ∀ t : Fin 100, (C (Proc.devRef .tc main_v183_3) : S100.Idx → BitVec 32) (ix1 t) = BitVec.ofNat 32 t.val
  trip : (C (Proc.devRef .tc main_v183_5) : S_.Idx → BitVec 32) = fun _ => BitVec.ofNat 32 k
  keep : ∀ (r : Fin 80) (t : Fin 100), (C (Proc.devRef .tc main_v183_6) : S80x100.Idx → BitVec 1) (ix2 r t) = 1#1
    ↔ t.val < k ∧ ok (S r) (fun u v => Top.thrO < Top.iou (P r u) (P r v)) t.val
  sup : ∀ (r : Fin 80) (t : Fin 100), (C (Proc.devRef .tc main_v183_7) : S80x100.Idx → BitVec 1) (ix2 r t) = 1#1
    ↔ ∃ u < k, u < t.val ∧ ok (S r) (fun u v => Top.thrO < Top.iou (P r u) (P r v)) u ∧ Top.thrO < Top.iou (P r u) (P r t.val)

theorem row_ok {S : Fin 80 → ℕ → EReal} {P : Fin 80 → ℕ → Top.Box} {k : ℕ} {C : Valuation τ sig (Elt Ideal)} (h : Inv S P k C) (hk : k < 100) (r : Fin 80) :
    (after while0Ops0 C (Proc.devRef .tc main_while0b_v229) : S80x1.Idx → BitVec 1) (ix2 r 0) = 1#1
      ↔ ok (S r) (fun u v => Top.thrO < Top.iou (P r u) (P r v)) k := by
  rw [row_valid C k hk h.trip r, and_bit, not_bit, cmp_bit, h.sup r ⟨k, hk⟩, h.val r ⟨k, hk⟩, ok_iff]
  constructor
  · rintro ⟨h1, h2⟩
    exact ⟨h2, fun u hu hok hov => h1 ⟨u, hu, hu, hok, hov⟩⟩
  · rintro ⟨h1, h2⟩
    exact ⟨fun ⟨u, hu, _, hok, hov⟩ => h2 u hu hok hov, h1⟩

/-- The first two stretches leave what the loop carries alone. -/
theorem keep_two (r : Ref sig .tc) (h0 : r ∉ while0Ops0_W) (h1 : r ∉ while0Ops0_1_W) :
    after while0Ops0_1 (after while0Ops0 V) (Proc.devRef .tc r) = V (Proc.devRef .tc r) := by
  rw [after_of_writes_sub _ _ while0Ops0_1_writes h1, after_of_writes_sub _ _ while0Ops0_writes h0]

/-- All three leave a buffer alone none of them writes. -/
theorem keep_three (r : Ref sig .tc) (h0 : r ∉ while0Ops0_W) (h1 : r ∉ while0Ops0_1_W) (h2 : r ∉ while0Ops0_2_W) :
    after while0Ops0_2 (after while0Ops0_1 (after while0Ops0 V)) (Proc.devRef .tc r) = V (Proc.devRef .tc r) := by
  rw [after_of_writes_sub _ _ while0Ops0_2_writes h2, keep_two V r h0 h1]

/-- A trip decides the next. -/
theorem Inv.next {S : Fin 80 → ℕ → EReal} {P : Fin 80 → ℕ → Top.Box} {k : ℕ} {C : Valuation τ sig (Elt Ideal)} (h : Inv S P k C) (hk : k < 100) :
    Inv S P (k + 1) (after while0Ops0_2 (after while0Ops0_1 (after while0Ops0 C))) where
  box r t j := (congrFun (keep_three C main_v183_0 (by decide +kernel) (by decide +kernel) (by decide +kernel)) _).trans (h.box r t j)
  val r t := (congrFun (keep_three C main_v183_1 (by decide +kernel) (by decide +kernel) (by decide +kernel)) _).trans (h.val r t)
  area r t := (congrFun (keep_three C main_v183_2 (by decide +kernel) (by decide +kernel) (by decide +kernel)) _).trans (h.area r t)
  iota t := (congrFun (keep_three C main_v183_3 (by decide +kernel) (by decide +kernel) (by decide +kernel)) _).trans (h.iota t)
  trip := by
    rw [out_trip]
    refine (after_of_writes_sub _ _ while0Ops0_1_writes (by decide +kernel)).trans ?_
    exact next_trip C k h.trip
  keep r t := by
    rw [out_keep, kept, here C k h.trip t, h.iota t, select_bit, eq_bit _ _ t.isLt hk, row_ok h hk r]
    have e : (after while0Ops0 C (Proc.devRef .tc main_v183_6) : S80x100.Idx → BitVec 1) (ix2 r t)
        = (C (Proc.devRef .tc main_v183_6) : S80x100.Idx → BitVec 1) (ix2 r t) :=
      congrFun (after_of_writes_sub _ _ while0Ops0_writes (by decide +kernel)) _
    rw [e, h.keep r t]
    constructor
    · rintro (⟨h1, h2⟩ | ⟨h1, h2, h3⟩)
      · exact ⟨by omega, h1 ▸ h2⟩
      · exact ⟨by omega, h3⟩
    · rintro ⟨h1, h2⟩
      by_cases h3 : t.val = k
      · exact Or.inl ⟨h3, h3 ▸ h2⟩
      · exact Or.inr ⟨h3, by omega, h2⟩
  sup r t := by
    have eb : ∀ j : Fin 4, (after while0Ops0_1 (after while0Ops0 C) (Proc.devRef .tc main_while0b_v210) : S80x1x4.Idx → EReal) (ix3 r 0 j) = P r k j := fun j =>
      (congrFun (after_of_writes_sub _ _ while0Ops0_1_writes (by decide +kernel)) _).trans ((row_box C k hk h.trip r j).trans (h.box r ⟨k, hk⟩ j))
    have ea : (after while0Ops0_1 (after while0Ops0 C) (Proc.devRef .tc main_while0b_v220) : S80x1.Idx → EReal) (ix2 r 0) = Top.area (P r k) :=
      (congrFun (after_of_writes_sub _ _ while0Ops0_1_writes (by decide +kernel)) _).trans ((row_area C k hk h.trip r).trans (h.area r ⟨k, hk⟩))
    have ev : (after while0Ops0_1 (after while0Ops0 C) (Proc.devRef .tc main_while0b_v229) : S80x1.Idx → BitVec 1) (ix2 r 0)
        = (after while0Ops0 C (Proc.devRef .tc main_while0b_v229) : S80x1.Idx → BitVec 1) (ix2 r 0) :=
      congrFun (after_of_writes_sub _ _ while0Ops0_1_writes (by decide +kernel)) _
    have cb : ∀ j : Fin 4, (after while0Ops0_1 (after while0Ops0 C) (Proc.devRef .tc main_v183_0) : S80x100x4.Idx → EReal) (ix3 r t j) = P r t.val j := fun j =>
      (congrFun (keep_two C main_v183_0 (by decide +kernel) (by decide +kernel)) _).trans (h.box r t j)
    have ca : (after while0Ops0_1 (after while0Ops0 C) (Proc.devRef .tc main_v183_2) : S80x100.Idx → EReal) (ix2 r t) = Top.area (P r t.val) :=
      (congrFun (keep_two C main_v183_2 (by decide +kernel) (by decide +kernel)) _).trans (h.area r t)
    have ci : (after while0Ops0_1 (after while0Ops0 C) (Proc.devRef .tc main_v183_3) : S100.Idx → BitVec 32) (ix1 t) = BitVec.ofNat 32 t.val :=
      (congrFun (keep_two C main_v183_3 (by decide +kernel) (by decide +kernel)) _).trans (h.iota t)
    have ck : (after while0Ops0_1 (after while0Ops0 C) (Proc.devRef .tc main_v183_5) : S_.Idx → BitVec 32) ix0 = BitVec.ofNat 32 k :=
      (congrFun (keep_two C main_v183_5 (by decide +kernel) (by decide +kernel)) _).trans (congrFun h.trip _)
    have cs : (after while0Ops0_1 (after while0Ops0 C) (Proc.devRef .tc main_v183_7) : S80x100.Idx → BitVec 1) (ix2 r t)
        = (C (Proc.devRef .tc main_v183_7) : S80x100.Idx → BitVec 1) (ix2 r t) :=
      congrFun (keep_two C main_v183_7 (by decide +kernel) (by decide +kernel)) _
    rw [supp _ r t (P r k) (P r t.val) eb cb ea ca, or_bit, and_bit, and_bit, cmp_bit, ci, ck, gt_bit _ _ t.isLt hk, cs, ev, row_ok h hk r, h.sup r t]
    constructor
    · rintro (⟨u, h1, h2⟩ | ⟨h1, h2, h3⟩)
      · exact ⟨u, by omega, h2⟩
      · exact ⟨k, by omega, h3, h1, h2⟩
    · rintro ⟨u, h1, h2, h3, h4⟩
      by_cases e : u = k
      · subst e; exact Or.inr ⟨h3, h4, h2⟩
      · exact Or.inl ⟨u, by omega, h2, h3, h4⟩

end Cert.Proof.ReferenceIdeal
-- ==== Proof.ReferenceIdealTop.lean ====
/- The reference's top lists and its gathers, read at an index. -/
module

public import proofs.«01_k».proof.Proof.ReferenceIdealRun
public import proofs.«01_k».proof.Proof.Top
public import Idealize.ShloMosaic.Lib.StableHlo.ReadAt
public import Idealize.ShloMosaic.Lib.IdealHost

@[expose] public section

set_option maxRecDepth 200000
noncomputable section

open Idealize.ShloMosaic Idealize.ShloMosaic.TcCoe Idealize.ShloMosaic.StableHlo

namespace Cert.Proof.ReferenceIdeal

open Cert.ReferenceIdeal Gen Value

/-- Row `r` sorted greater first, at `t`. -/
abbrev rowAt (x : S80x10647.Idx → EReal) (r : Fin 80) (t : Fin 100) : Fin 10647 := Top.sortAt ⟨t.val, by omega⟩ fun n => x (ix2 r n)

theorem beq_ofBool (b : Bool) : (BitVec.ofBool b == 1#1) = b := by cases b <;> rfl

theorem along_two {a b : ℕ} (i : Fin a) (j k : Fin b) : Shape.Idx.along (s := ⟨2, ![a, b]⟩) (ix2 i j) 1 k = ix2 i k := by
  funext d
  fin_cases d <;> rfl

theorem along_one {a : ℕ} (j k : Fin a) : Shape.Idx.along (s := ⟨1, ![a]⟩) (ix1 j) 0 k = ix1 k := by
  funext d
  fin_cases d
  rfl

theorem sorted_row (x : S80x10647.Idx → EReal) (i : S80x10647.Idx) (r : Fin 80) (t : Fin 100) (hi : i = ix2 r ⟨t.val, by omega⟩) :
    Shape.Idx.along i 1 (sortedFrom (fun k k' => FloatOps.cmpfTotal (F := Ideal) (φ := .f32) .gt (x (i.along 1 k)) (x (i.along 1 k')) == 1#1) (i 1))
      = ix2 r (rowAt x r t) := by
  subst hi
  refine (along_two _ _ _).trans (congrArg (ix2 r) ?_)
  show sortedFrom _ _ = sortedFrom _ _
  refine congrFun (congrArg _ (funext fun k => funext fun k' => ?_)) _
  have e : ∀ q : Fin 10647, x (Shape.Idx.along (s := ⟨2, ![80, 10647]⟩) (ix2 r ⟨t.val, by omega⟩) 1 q) = x (ix2 r q) := fun q => congrArg x (along_two _ _ _)
  exact (congrArg₂ (fun a b => FloatOps.cmpfTotal (F := Ideal) (φ := .f32) .gt a b == 1#1) (e k) (e k')).trans (beq_ofBool _)

theorem sort_row (x : S80x10647.Idx → EReal) (y : S80x10647.Idx → BitVec 32) (i : S80x10647.Idx) (r : Fin 80) (t : Fin 100) (hi : i = ix2 r ⟨t.val, by omega⟩) :
    (Host.sort2 S80x10647 1 (fun l q => FloatOps.cmpfTotal (F := Ideal) (φ := .f32) .gt l.1 q.1) x y).1 i = x (ix2 r (rowAt x r t))
      ∧ (Host.sort2 S80x10647 1 (fun l q => FloatOps.cmpfTotal (F := Ideal) (φ := .f32) .gt l.1 q.1) x y).2 i = y (ix2 r (rowAt x r t)) := by
  unfold Host.sort2
  rw [dif_pos (show 1 < S80x10647.rank from Nat.one_lt_two)]
  exact ⟨congrArg x (sorted_row x i r t hi), congrArg y (sorted_row x i r t hi)⟩

theorem off_two (r : Fin 80) (t : Fin 100) (h : S80x10647.Slices (fun _ => 0) S80x100) :
    (fun a => ⟨0 + ((ix2 r t : S80x100.Idx) (a.cast h.1.symm)).val, Nat.lt_of_lt_of_le (Nat.add_lt_add_left ((ix2 r t : S80x100.Idx) _).isLt _) (h.2 a)⟩ : S80x10647.Idx)
      = ix2 r ⟨t.val, by omega⟩ := by
  funext d
  fin_cases d <;> exact Fin.ext (Nat.zero_add _)

theorem top_fst (x : S80x10647.Idx → EReal) (h) (r : Fin 80) (t : Fin 100) :
    (Host.topK S80x100 1 (FloatOps.cmpfTotal (F := Ideal) (φ := .f32) .gt) x h).1 (ix2 r t) = x (ix2 r (rowAt x r t)) := by
  unfold Host.topK extractStridedSlice
  dsimp only
  exact (sort_row x (fun i => if hd : 1 < S80x10647.rank then iotaInDim S80x10647 32 ⟨1, hd⟩ i else 0#32) _ r t (off_two r t h)).1

theorem top_snd (x : S80x10647.Idx → EReal) (h) (r : Fin 80) (t : Fin 100) :
    (Host.topK S80x100 1 (FloatOps.cmpfTotal (F := Ideal) (φ := .f32) .gt) x h).2 (ix2 r t) = BitVec.ofNat 32 (rowAt x r t).val := by
  unfold Host.topK extractStridedSlice
  dsimp only
  refine (sort_row x (fun i => if hd : 1 < S80x10647.rank then iotaInDim S80x10647 32 ⟨1, hd⟩ i else 0#32) _ r t (off_two r t h)).2.trans ?_
  rw [dif_pos (show 1 < S80x10647.rank from Nat.one_lt_two)]
  rfl

/-- All the scores left sorted greater first, at `t`. -/
abbrev allAt (x : S8000.Idx → EReal) (t : Fin 100) : Fin 8000 := Top.sortAt ⟨t.val, by omega⟩ fun n => x (ix1 n)

theorem sorted_all (x : S8000.Idx → EReal) (i : S8000.Idx) (t : Fin 100) (hi : i = ix1 ⟨t.val, by omega⟩) :
    Shape.Idx.along i 0 (sortedFrom (fun k k' => FloatOps.cmpfTotal (F := Ideal) (φ := .f32) .gt (x (i.along 0 k)) (x (i.along 0 k')) == 1#1) (i 0))
      = ix1 (allAt x t) := by
  subst hi
  refine (along_one _ _).trans (congrArg ix1 ?_)
  show sortedFrom _ _ = sortedFrom _ _
  refine congrFun (congrArg _ (funext fun k => funext fun k' => ?_)) _
  have e : ∀ q : Fin 8000, x (Shape.Idx.along (s := ⟨1, ![8000]⟩) (ix1 ⟨t.val, by omega⟩) 0 q) = x (ix1 q) := fun q => congrArg x (along_one _ _)
  exact (congrArg₂ (fun a b => FloatOps.cmpfTotal (F := Ideal) (φ := .f32) .gt a b == 1#1) (e k) (e k')).trans (beq_ofBool _)

theorem sort_all (x : S8000.Idx → EReal) (y : S8000.Idx → BitVec 32) (i : S8000.Idx) (t : Fin 100) (hi : i = ix1 ⟨t.val, by omega⟩) :
    (Host.sort2 S8000 0 (fun l q => FloatOps.cmpfTotal (F := Ideal) (φ := .f32) .gt l.1 q.1) x y).1 i = x (ix1 (allAt x t))
      ∧ (Host.sort2 S8000 0 (fun l q => FloatOps.cmpfTotal (F := Ideal) (φ := .f32) .gt l.1 q.1) x y).2 i = y (ix1 (allAt x t)) := by
  unfold Host.sort2
  rw [dif_pos (show 0 < S8000.rank from Nat.one_pos)]
  exact ⟨congrArg x (sorted_all x i t hi), congrArg y (sorted_all x i t hi)⟩

theorem off_one (t : Fin 100) (h : S8000.Slices (fun _ => 0) S100) :
    (fun a => ⟨0 + ((ix1 t : S100.Idx) (a.cast h.1.symm)).val, Nat.lt_of_lt_of_le (Nat.add_lt_add_left ((ix1 t : S100.Idx) _).isLt _) (h.2 a)⟩ : S8000.Idx)
      = ix1 ⟨t.val, by omega⟩ := by
  funext d
  fin_cases d
  exact Fin.ext (Nat.zero_add _)

theorem last_fst (x : S8000.Idx → EReal) (h) (t : Fin 100) :
    (Host.topK S100 0 (FloatOps.cmpfTotal (F := Ideal) (φ := .f32) .gt) x h).1 (ix1 t) = x (ix1 (allAt x t)) := by
  unfold Host.topK extractStridedSlice
  dsimp only
  exact (sort_all x (fun i => if hd : 0 < S8000.rank then iotaInDim S8000 32 ⟨0, hd⟩ i else 0#32) _ t (off_one t h)).1

theorem last_snd (x : S8000.Idx → EReal) (h) (t : Fin 100) :
    (Host.topK S100 0 (FloatOps.cmpfTotal (F := Ideal) (φ := .f32) .gt) x h).2 (ix1 t) = BitVec.ofNat 32 (allAt x t).val := by
  unfold Host.topK extractStridedSlice
  dsimp only
  refine (sort_all x (fun i => if hd : 0 < S8000.rank then iotaInDim S8000 32 ⟨0, hd⟩ i else 0#32) _ t (off_one t h)).2.trans ?_
  rw [dif_pos (show 0 < S8000.rank from Nat.one_pos)]
  rfl

end Cert.Proof.ReferenceIdeal
-- ==== Proof.ReferenceIdealGather.lean ====
/- The reference's gathers read at an index. -/
module

public import proofs.«01_k».proof.Proof.ReferenceIdealTop
public import Idealize.ShloMosaic.Lib.ValueIdxCore

@[expose] public section

set_option maxRecDepth 200000
noncomputable section

open Idealize.ShloMosaic Idealize.ShloMosaic.TcCoe Idealize.ShloMosaic.StableHlo

namespace Cert.Proof.ReferenceIdeal

open Cert.ReferenceIdeal Gen Value

theorem toInt_nat (k : ℕ) (hk : k < 2147483648) : (BitVec.ofNat 32 k).toInt = (k : ℤ) := by
  rw [BitVec.toInt_eq_toNat_cond, BitVec.toNat_ofNat, Nat.mod_eq_of_lt (by omega), if_pos (by omega)]

/-- A position as the program normalises it: one that is not negative stays. -/
theorem norm_nat (k : ℕ) (hk : k < 2147483648) (y : BitVec 32) :
    Scalar.select (IntOp.cmpi CmpIPredicate.slt (BitVec.ofNat 32 k) 0#32) y (BitVec.ofNat 32 k) = BitVec.ofNat 32 k := by
  have h : IntOp.cmpi CmpIPredicate.slt (BitVec.ofNat 32 k) 0#32 = 0#1 := by
    show BitVec.ofBool (decide ((BitVec.ofNat 32 k).toInt < (0#32).toInt)) = 0#1
    rw [toInt_nat k hk, decide_eq_false (by show ¬ (k : ℤ) < 0; omega)]
    rfl
  rw [h]
  rfl

/-- Rows gathered by class and rank. -/
theorem gather_rows {α : Type} (x : S10647x4.Idx → α) (idx : IVec S80x100x1 32) (r : Fin 80) (t : Fin 100) (j : Fin 4) (k : Fin 10647)
    (hk : idx (ix3 r t 0) = BitVec.ofNat 32 k.val) :
    Host.gather gather_S10647x4_S80x100x1_S80x100x4_2_0_n_n_0_2_14 x idx (ix3 r t j) = x (ix2 k j) := by
  have hsi : ∀ q, GatherDims.siIdx gather_S10647x4_S80x100x1_S80x100x4_2_0_n_n_0_2_14 (ix3 r t j) q = ix3 r t 0 := by
    intro q
    funext b
    refine Fin.ext ?_
    match b with
    | ⟨0, _⟩ => rfl
    | ⟨1, _⟩ => rfl
    | ⟨2, hb⟩ =>
      have h1 : ∀ u : Fin 1, u.val = 0 := fun u => by omega
      exact (h1 _).trans (h1 _).symm
  unfold Host.gather
  refine congrArg x (funext fun a => Fin.ext ?_)
  show GatherDims.start _ _ _ a + GatherDims.batchCoord _ _ a + GatherDims.offCoord _ _ a = _
  match a with
  | ⟨0, h0⟩ =>
    rw [GatherDims.batchCoord_eq_zero _ _ _ (fun h => by cases h),
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin S10647x4.rank) ∈ GatherDims.startIndexMap gather_S10647x4_S80x100x1_S80x100x4_2_0_n_n_0_2_14 from List.mem_singleton.mpr rfl), hsi, hk, toInt_nat _ (by omega)]
    show min (k.val : ℤ).toNat (10647 - 1) = k.val
    omega
  | ⟨1, h1⟩ =>
    rw [GatherDims.batchCoord_eq_zero _ _ _ (fun h => by cases h)]
    unfold GatherDims.start
    rw [dif_neg (show ¬ (⟨1, h1⟩ : Fin S10647x4.rank) ∈ GatherDims.startIndexMap gather_S10647x4_S80x100x1_S80x100x4_2_0_n_n_0_2_14 from
      fun h => absurd (congrArg Fin.val (List.mem_singleton.mp h)) (show ¬ 1 = 0 by decide))]
    simp only [Nat.zero_add]
    rfl

/-- Rows gathered by rank. -/
theorem gather_last {α : Type} (x : S8000x4.Idx → α) (idx : IVec S100x1 32) (t : Fin 100) (j : Fin 4) (k : Fin 8000)
    (hk : idx (ix2 t 0) = BitVec.ofNat 32 k.val) :
    Host.gather gather_S8000x4_S100x1_S100x4_1_0_n_n_0_1_14 x idx (ix2 t j) = x (ix2 k j) := by
  have hsi : ∀ q, GatherDims.siIdx gather_S8000x4_S100x1_S100x4_1_0_n_n_0_1_14 (ix2 t j) q = ix2 t 0 := by
    intro q
    funext b
    refine Fin.ext ?_
    match b with
    | ⟨0, _⟩ => rfl
    | ⟨1, hb⟩ =>
      have h1 : ∀ u : Fin 1, u.val = 0 := fun u => by omega
      exact (h1 _).trans (h1 _).symm
  unfold Host.gather
  refine congrArg x (funext fun a => Fin.ext ?_)
  show GatherDims.start _ _ _ a + GatherDims.batchCoord _ _ a + GatherDims.offCoord _ _ a = _
  match a with
  | ⟨0, h0⟩ =>
    rw [GatherDims.batchCoord_eq_zero _ _ _ (fun h => by cases h),
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin S8000x4.rank) ∈ GatherDims.startIndexMap gather_S8000x4_S100x1_S100x4_1_0_n_n_0_1_14 from List.mem_singleton.mpr rfl), hsi, hk, toInt_nat _ (by omega)]
    show min (k.val : ℤ).toNat (8000 - 1) = k.val
    omega
  | ⟨1, h1⟩ =>
    rw [GatherDims.batchCoord_eq_zero _ _ _ (fun h => by cases h)]
    unfold GatherDims.start
    rw [dif_neg (show ¬ (⟨1, h1⟩ : Fin S8000x4.rank) ∈ GatherDims.startIndexMap gather_S8000x4_S100x1_S100x4_1_0_n_n_0_1_14 from
      fun h => absurd (congrArg Fin.val (List.mem_singleton.mp h)) (show ¬ 1 = 0 by decide))]
    simp only [Nat.zero_add]
    rfl

/-- Entries gathered by rank. -/
theorem gather_cls {α : Type} (x : S8000.Idx → α) (idx : IVec S100x1 32) (t : Fin 100) (k : Fin 8000)
    (hk : idx (ix2 t 0) = BitVec.ofNat 32 k.val) :
    Host.gather gather_S8000_S100x1_S100_n_0_n_n_0_1_1 x idx (ix1 t) = x (ix1 k) := by
  have hsi : ∀ q, GatherDims.siIdx gather_S8000_S100x1_S100_n_0_n_n_0_1_1 (ix1 t) q = ix2 t 0 := by
    intro q
    funext b
    refine Fin.ext ?_
    match b with
    | ⟨0, _⟩ => rfl
    | ⟨1, hb⟩ =>
      have h1 : ∀ u : Fin 1, u.val = 0 := fun u => by omega
      exact (h1 _).trans (h1 _).symm
  unfold Host.gather
  refine congrArg x (funext fun a => Fin.ext ?_)
  show GatherDims.start _ _ _ a + GatherDims.batchCoord _ _ a + GatherDims.offCoord _ _ a = _
  match a with
  | ⟨0, h0⟩ =>
    rw [GatherDims.batchCoord_eq_zero _ _ _ (fun h => by cases h),
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin S8000.rank) ∈ GatherDims.startIndexMap gather_S8000_S100x1_S100_n_0_n_n_0_1_1 from List.mem_singleton.mpr rfl), hsi, hk, toInt_nat _ (by omega)]
    show min (k.val : ℤ).toNat (8000 - 1) = k.val
    omega

end Cert.Proof.ReferenceIdeal
-- ==== Proof.ReferenceIdealEntry.lean ====
/- What the reference's loop starts from. -/
module

public import proofs.«01_k».proof.Proof.ReferenceIdealGather
public import Idealize.ShloMosaic.Lib.StableHlo.ReadAt
public import Idealize.ShloMosaic.Lib.Pointwise
public import Idealize.ShloMosaic.Lib.IdealHost

@[expose] public section

set_option maxRecDepth 200000
noncomputable section

open Idealize.ShloMosaic Idealize.ShloMosaic.TcCoe Idealize.ShloMosaic.StableHlo

namespace Cert.Proof.ReferenceIdeal

open Cert.ReferenceIdeal Gen Value

/-- The positions as the program normalises them before it gathers. -/
theorem norm_rows (idx : S80x100.Idx → BitVec 32) (r : Fin 80) (t : Fin 100) (k : ℕ) (hk : k < 2147483648) (h : idx (ix2 r t) = BitVec.ofNat 32 k) :
    (broadcastInDim S80x100x1 ![0, 1] bcast_S80x100_S80x100x1_0_1
      (select (cmpi .slt idx (broadcastInDim S80x100 ![] bcast_S_S80x100 (constantI S_ 32 0#32)))
        (addi idx (broadcastInDim S80x100 ![] bcast_S_S80x100 (constantI S_ 32 10647#32))) idx)) (ix3 r t 0) = BitVec.ofNat 32 k := by
  pointwise
  rw [h]
  exact norm_nat k hk _

/-- The rows of the top list. -/
theorem pick_at (b : S10647x4.Idx → EReal) (s : S80x10647.Idx → EReal) (r : Fin 80) (t : Fin 100) (j : Fin 4) :
    Host.gather gather_S10647x4_S80x100x1_S80x100x4_2_0_n_n_0_2_14 b (broadcastInDim S80x100x1 ![0, 1] bcast_S80x100_S80x100x1_0_1
      (select (cmpi .slt (Host.topK S80x100 1 (FloatOps.cmpfTotal (F := Ideal) (φ := .f32) .gt) s sliceFits_S80x10647_S80x100).2
          (broadcastInDim S80x100 ![] bcast_S_S80x100 (constantI S_ 32 0#32)))
        (addi (Host.topK S80x100 1 (FloatOps.cmpfTotal (F := Ideal) (φ := .f32) .gt) s sliceFits_S80x10647_S80x100).2
          (broadcastInDim S80x100 ![] bcast_S_S80x100 (constantI S_ 32 10647#32)))
        (Host.topK S80x100 1 (FloatOps.cmpfTotal (F := Ideal) (φ := .f32) .gt) s sliceFits_S80x10647_S80x100).2)) (ix3 r t j)
      = b (ix2 (rowAt s r t) j) :=
  gather_rows b _ r t j (rowAt s r t) (norm_rows _ r t _ (by omega) (top_snd s _ r t))

variable (V W : Valuation τ sig (Elt Ideal))

/-- The operations up to the class scores, and those after them. -/
abbrev headOps : List (HloOp τ sig (Elt Ideal)) := hostOps0.take 192
abbrev tailOps : List (HloOp τ sig (Elt Ideal)) := hostOps0.drop 192

theorem head_tail : after hostOps0 V = after tailOps (after headOps V) := by
  rw [← after_append, List.take_append_drop]

set_option maxHeartbeats 1000000 in
theorem tail_scores : (after tailOps W (Proc.devRef .tc main_v161) : S80x10647.Idx → EReal) = W (Proc.devRef .tc main_v161) := by
  simp only [tailOps, hostOps0, List.drop]
  after_reads_simp

set_option maxHeartbeats 1000000 in
theorem tail_boxes : (after tailOps W (Proc.devRef .tc main_v159) : S10647x4.Idx → EReal) = W (Proc.devRef .tc main_v159) := by
  simp only [tailOps, hostOps0, List.drop]
  after_reads_simp

set_option maxHeartbeats 1000000 in
theorem tail_val (r : Fin 80) (t : Fin 100) : (after tailOps W (Proc.devRef .tc main_v183_1) : S80x100.Idx → EReal) (ix2 r t)
    = (W (Proc.devRef .tc main_v161) : S80x10647.Idx → EReal) (ix2 r (rowAt (W (Proc.devRef .tc main_v161)) r t)) := by
  simp only [tailOps, hostOps0, List.drop]
  after_reads_simp
  exact top_fst _ _ r t

set_option maxHeartbeats 1000000 in
theorem tail_values (r : Fin 80) (t : Fin 100) : (after tailOps W (Proc.devRef .tc main_values) : S80x100.Idx → EReal) (ix2 r t)
    = (W (Proc.devRef .tc main_v161) : S80x10647.Idx → EReal) (ix2 r (rowAt (W (Proc.devRef .tc main_v161)) r t)) := by
  simp only [tailOps, hostOps0, List.drop]
  after_reads_simp
  exact top_fst _ _ r t

set_option maxHeartbeats 1000000 in
theorem tail_box (r : Fin 80) (t : Fin 100) (j : Fin 4) : (after tailOps W (Proc.devRef .tc main_v168) : S80x100x4.Idx → EReal) (ix3 r t j)
    = (W (Proc.devRef .tc main_v159) : S10647x4.Idx → EReal) (ix2 (rowAt (W (Proc.devRef .tc main_v161)) r t) j) := by
  simp only [tailOps, hostOps0, List.drop]
  after_reads_simp
  exact pick_at _ _ r t j

set_option maxHeartbeats 1000000 in
theorem tail_box0 : (after tailOps W (Proc.devRef .tc main_v183_0) : S80x100x4.Idx → EReal) = after tailOps W (Proc.devRef .tc main_v168) := by
  simp only [tailOps, hostOps0, List.drop]
  after_reads_simp
  rfl

set_option maxHeartbeats 1000000 in
theorem tail_area (r : Fin 80) (t : Fin 100) : (after tailOps W (Proc.devRef .tc main_v183_2) : S80x100.Idx → EReal) (ix2 r t)
    = Top.area (fun j => (W (Proc.devRef .tc main_v159) : S10647x4.Idx → EReal) (ix2 (rowAt (W (Proc.devRef .tc main_v161)) r t) j)) := by
  generalize hR : Top.area _ = R
  simp only [tailOps, hostOps0, List.drop]
  after_reads_at
  simp only [id_eq]
  pointwise
  rw [pick_at, pick_at, pick_at, pick_at, ← hR]
  rfl

set_option maxHeartbeats 1000000 in
theorem tail_iota (t : Fin 100) : (after tailOps W (Proc.devRef .tc main_v183_3) : S100.Idx → BitVec 32) (ix1 t) = BitVec.ofNat 32 t.val := by
  simp only [tailOps, hostOps0, List.drop]
  after_reads_simp
  rfl

set_option maxHeartbeats 1000000 in
theorem tail_trip : (after tailOps W (Proc.devRef .tc main_v183_5) : S_.Idx → BitVec 32) = fun _ => BitVec.ofNat 32 0 := by
  simp only [tailOps, hostOps0, List.drop]
  after_reads_simp
  rfl

set_option maxHeartbeats 1000000 in
theorem tail_keep (r : Fin 80) (t : Fin 100) : (after tailOps W (Proc.devRef .tc main_v183_6) : S80x100.Idx → BitVec 1) (ix2 r t) = 0#1 := by
  simp only [tailOps, hostOps0, List.drop]
  after_reads_simp
  rfl

set_option maxHeartbeats 1000000 in
theorem tail_sup (r : Fin 80) (t : Fin 100) : (after tailOps W (Proc.devRef .tc main_v183_7) : S80x100.Idx → BitVec 1) (ix2 r t) = 0#1 := by
  simp only [tailOps, hostOps0, List.drop]
  after_reads_simp
  rfl

end Cert.Proof.ReferenceIdeal
-- ==== Proof.ReferenceIdealEnd.lean ====
/- What the reference makes of its loop's results. -/
module

public import proofs.«01_k».proof.Proof.ReferenceIdealGather
public import Idealize.ShloMosaic.Lib.StableHlo.ReadAt
public import Idealize.ShloMosaic.Lib.Pointwise
public import Idealize.ShloMosaic.Lib.IdealHost

@[expose] public section

set_option maxRecDepth 200000
noncomputable section

open Idealize.ShloMosaic Idealize.ShloMosaic.TcCoe Idealize.ShloMosaic.StableHlo

namespace Cert.Proof.ReferenceIdeal

open Cert.ReferenceIdeal Gen Value

/-- The positions as the program normalises them before it gathers. -/
theorem norm_last (idx : S100.Idx → BitVec 32) (t : Fin 100) (k : ℕ) (hk : k < 2147483648) (h : idx (ix1 t) = BitVec.ofNat 32 k) :
    (broadcastInDim S100x1 ![0] bcast_S100_S100x1_0
      (select (cmpi .slt idx (broadcastInDim S100 ![] bcast_S_S100 (constantI S_ 32 0#32)))
        (addi idx (broadcastInDim S100 ![] bcast_S_S100 (constantI S_ 32 8000#32))) idx)) (ix2 t 0) = BitVec.ofNat 32 k := by
  pointwise
  rw [h]
  exact norm_nat k hk _

theorem cls_at (f : Fin 8000) : shapeCast S8000 (broadcastInDim S80x100 ![0, 1] bcast_S80x1_S80x100_0_1
    (broadcastInDim S80x1 ![0] bcast_S80_S80x1_0 (iotaInDim S80 32 0))) shapeCasts_S80x100_S8000 (ix1 f) = BitVec.ofNat 32 (f.val / 100) := by
  pointwise

theorem row_at (x : S80x100x4.Idx → EReal) (f : Fin 8000) (j : Fin 4) : shapeCast S8000x4 x shapeCasts_S80x100x4_S8000x4 (ix2 f j)
    = x (ix3 ⟨f.val / 100, by omega⟩ ⟨f.val % 100, by omega⟩ j) := by
  pointwise

variable (W : Valuation τ sig (Elt Ideal))

set_option maxHeartbeats 1000000 in
theorem fin_left (r : Fin 80) (t : Fin 100) : (after hostOps0_2 (after hostOps0_1 W) (Proc.devRef .tc main_v184) : S80x100.Idx → EReal) (ix2 r t)
    = Scalar.select ((W (Proc.devRef .tc main_v183_6) : S80x100.Idx → BitVec 1) (ix2 r t)) ((W (Proc.devRef .tc main_values) : S80x100.Idx → EReal) (ix2 r t))
      (Ideal.ofBits .f32 0xBF800000#32) := by
  after_reads_at
  rfl

set_option maxHeartbeats 1000000 in
theorem fin_boxes : (after hostOps0_2 (after hostOps0_1 W) (Proc.devRef .tc main_v168) : S80x100x4.Idx → EReal) = W (Proc.devRef .tc main_v168) := by
  after_reads_simp

set_option maxHeartbeats 1000000 in
theorem fin_flat (f : Fin 8000) : (after hostOps0_3 W (Proc.devRef .tc main_v188) : S8000.Idx → EReal) (ix1 f)
    = (W (Proc.devRef .tc main_v184) : S80x100.Idx → EReal) (ix2 ⟨f.val / 100, by omega⟩ ⟨f.val % 100, by omega⟩) := by
  after_reads_at

set_option maxHeartbeats 1000000 in
theorem fin_scores (t : Fin 100) : (after hostOps0_3 W (Proc.devRef .tc main_values_35) : S100.Idx → EReal) (ix1 t)
    = (after hostOps0_3 W (Proc.devRef .tc main_v188) : S8000.Idx → EReal) (ix1 (allAt (after hostOps0_3 W (Proc.devRef .tc main_v188)) t)) := by
  after_reads_simp
  exact last_fst _ _ t

theorem fin_flat_eq : (after hostOps0_3 W (Proc.devRef .tc main_v188) : S8000.Idx → EReal)
    = fun i => shapeCast S8000 (W (Proc.devRef .tc main_v184) : S80x100.Idx → EReal) shapeCasts_S80x100_S8000 i := by
  after_reads_simp
  rfl

/-- The flat position of the `t`-th result. -/
abbrev lastAt (t : Fin 100) : Fin 8000 := allAt (fun i => shapeCast S8000 (W (Proc.devRef .tc main_v184) : S80x100.Idx → EReal) shapeCasts_S80x100_S8000 i) t

set_option maxHeartbeats 1000000 in
theorem fin_out (t : Fin 100) (j : Fin 4) : (after hostOps0_3 W (Proc.devRef .tc main_v197) : S100x4.Idx → EReal) (ix2 t j)
    = (W (Proc.devRef .tc main_v168) : S80x100x4.Idx → EReal) (ix3 ⟨(lastAt W t).val / 100, by omega⟩ ⟨(lastAt W t).val % 100, by omega⟩ j) := by
  generalize hR : (W (Proc.devRef .tc main_v168) : S80x100x4.Idx → EReal) (ix3 ⟨(lastAt W t).val / 100, by omega⟩ ⟨(lastAt W t).val % 100, by omega⟩ j) = R
  after_reads_simp
  refine (gather_last _ _ t j (lastAt W t) (norm_last _ t _ (by omega) (last_snd _ _ t))).trans ?_
  exact (row_at _ (lastAt W t) j).trans hR

set_option maxHeartbeats 1000000 in
theorem fin_cls (t : Fin 100) : (after hostOps0_3 W (Proc.devRef .tc main_v204) : S100.Idx → BitVec 32) (ix1 t)
    = BitVec.ofNat 32 ((lastAt W t).val / 100) := by
  generalize hR : BitVec.ofNat 32 ((lastAt W t).val / 100) = R
  after_reads_simp
  refine (gather_cls _ _ t (lastAt W t) (norm_last _ t _ (by omega) (last_snd _ _ t))).trans ?_
  exact (cls_at (lastAt W t)).trans hR

end Cert.Proof.ReferenceIdeal
-- ==== Proof.ReferenceIdealOut.lean ====
/- The reference's results: the loop's buffers at its entry, after its hundred trips, and what the last stretch makes of them. -/
module

public import proofs.«01_k».proof.Proof.ReferenceIdealStep
public import proofs.«01_k».proof.Proof.ReferenceIdealEntry
public import proofs.«01_k».proof.Proof.ReferenceIdealEnd

@[expose] public section

set_option maxRecDepth 200000
noncomputable section

open Idealize.ShloMosaic Idealize.ShloMosaic.TcCoe Idealize.ShloMosaic.StableHlo

namespace Cert.Proof.ReferenceIdeal

open Cert.ReferenceIdeal Gen Value

variable (s : Fin 80 → Fin 10647 → EReal) (b : Fin 10647 → Top.Box)

/-- The `t`-th best position of class `r`. -/
def pick (r : Fin 80) (t : ℕ) : Fin 10647 := if h : t < 10647 then Top.sortAt ⟨t, h⟩ (s r) else ⟨0, by omega⟩

theorem pick_top (r : Fin 80) : Top.IsTop (s r) 100 (pick s r) :=
  Top.isTop_sort (s r) 100 (by omega) (pick s r) fun t ht => dif_pos (show t < 10647 by omega)

theorem rowAt_eq (x : S80x10647.Idx → EReal) (h : ∀ r n, x (ix2 r n) = s r n) (r : Fin 80) (t : Fin 100) : rowAt x r t = pick s r t.val := by
  have hs : (fun n => x (ix2 r n)) = s r := funext fun n => h r n
  rw [pick, dif_pos (show t.val < 10647 by omega), rowAt, hs]

/-- The scores and the boxes of the best of each class, and which of them are kept. -/
abbrev scoreAt (r : Fin 80) (t : ℕ) : EReal := s r (pick s r t)
abbrev boxAt (r : Fin 80) (t : ℕ) : Top.Box := b (pick s r t)
abbrev okAt (r : Fin 80) (t : ℕ) : Prop := ok (scoreAt s r) (Top.ov b (pick s r)) t

theorem zero_ne {p : Prop} (h : (0#1 : BitVec 1) = 1#1) : p := absurd h (by decide)

section entry
variable (V : Valuation τ sig (Elt Ideal))
  (hs : ∀ r n, (after hostOps0 V (Proc.devRef .tc main_v161) : S80x10647.Idx → EReal) (ix2 r n) = s r n)
  (hb : ∀ n j, (after hostOps0 V (Proc.devRef .tc main_v159) : S10647x4.Idx → EReal) (ix2 n j) = b n j)
include hs

theorem entry_values (r : Fin 80) (t : Fin 100) :
    (after hostOps0 V (Proc.devRef .tc main_values) : S80x100.Idx → EReal) (ix2 r t) = scoreAt s r t.val := by
  rw [head_tail] at hs ⊢
  rw [tail_scores] at hs
  rw [tail_values, rowAt_eq s _ hs, hs]

include hb

theorem entry_box (r : Fin 80) (t : Fin 100) (j : Fin 4) :
    (after hostOps0 V (Proc.devRef .tc main_v168) : S80x100x4.Idx → EReal) (ix3 r t j) = boxAt s b r t.val j := by
  rw [head_tail] at hs hb ⊢
  rw [tail_scores] at hs
  rw [tail_boxes] at hb
  rw [tail_box, rowAt_eq s _ hs, hb]

theorem entry_inv : Inv (scoreAt s) (boxAt s b) 0 (after hostOps0 V) where
  box r t j := by
    have h := entry_box s b V hs hb r t j
    rw [head_tail] at h ⊢
    rw [tail_box0]
    exact h
  val r t := by
    rw [head_tail] at hs ⊢
    rw [tail_scores] at hs
    rw [tail_val, rowAt_eq s _ hs, hs]
  area r t := by
    rw [head_tail] at hs hb ⊢
    rw [tail_scores] at hs
    rw [tail_boxes] at hb
    rw [tail_area, rowAt_eq s _ hs]
    exact congrArg Top.area (funext fun j => hb _ j)
  iota t := by rw [head_tail, tail_iota]
  trip := by rw [head_tail, tail_trip]
  keep r t := by
    rw [head_tail, tail_keep]
    exact ⟨fun h => zero_ne h, fun h => absurd h.1 (by omega)⟩
  sup r t := by
    rw [head_tail, tail_sup]
    exact ⟨fun h => zero_ne h, fun ⟨u, h, _⟩ => absurd h (by omega)⟩

end entry

/-- The loop's test leaves what it carries alone. -/
theorem Inv.cond {S : Fin 80 → ℕ → EReal} {P : Fin 80 → ℕ → Top.Box} {k : ℕ} {C : Valuation τ sig (Elt Ideal)} (h : Inv S P k C) :
    Inv S P k (after condOps C) where
  box r t j := (congrFun (after_of_writes_sub _ _ condOps_writes (by decide +kernel)) _).trans (h.box r t j)
  val r t := (congrFun (after_of_writes_sub _ _ condOps_writes (by decide +kernel)) _).trans (h.val r t)
  area r t := (congrFun (after_of_writes_sub _ _ condOps_writes (by decide +kernel)) _).trans (h.area r t)
  iota t := (congrFun (after_of_writes_sub _ _ condOps_writes (by decide +kernel)) _).trans (h.iota t)
  trip := (after_of_writes_sub _ _ condOps_writes (by decide +kernel)).trans h.trip
  keep r t := (iff_of_eq (congrArg (fun x : BitVec 1 => x = 1#1) (congrFun (after_of_writes_sub _ _ condOps_writes (by decide +kernel)) _))).trans (h.keep r t)
  sup r t := (iff_of_eq (congrArg (fun x : BitVec 1 => x = 1#1) (congrFun (after_of_writes_sub _ _ condOps_writes (by decide +kernel)) _))).trans (h.sup r t)

variable (m : (ℓ : Loc nD τ sig) → Buf (Elt Ideal) ℓ) (c : Dev nD)

theorem trips {S : Fin 80 → ℕ → EReal} {P : Fin 80 → ℕ → Top.Box} (h : Inv S P 0 (entryContents preI m c)) :
    ∀ k ≤ 100, Inv S P k (atK m k c) := by
  intro k
  induction k with
  | zero => exact fun _ => h
  | succ k ih =>
    intro hk
    rw [atK, atTrip_succ, afterL_cons, afterL_cons, afterL_cons, afterL_nil]
    exact (ih (by omega)).cond.next (by omega)

/-! ## After the loop -/

section final
variable (W : Valuation τ sig (Elt Ideal)) (hi : Inv (scoreAt s) (boxAt s b) 100 W)
  (hv : ∀ r t, (W (Proc.devRef .tc main_values) : S80x100.Idx → EReal) (ix2 r t) = scoreAt s r t.val)
  (hx : ∀ r t j, (W (Proc.devRef .tc main_v168) : S80x100x4.Idx → EReal) (ix3 r t j) = boxAt s b r t.val j)

/-- The contents the last stretch starts from. -/
abbrev lastIn : Valuation τ sig (Elt Ideal) := after hostOps0_2 (after hostOps0_1 W)

include hi hv in
theorem flat_at (f : Fin 8000) : (after hostOps0_3 (lastIn W) (Proc.devRef .tc main_v188) : S8000.Idx → EReal) (ix1 f)
    = Top.left s (pick s) (okAt s b) f := by
  rw [fin_flat]
  refine (fin_left W _ _).trans ?_
  rw [hv, Top.left]
  have hk := hi.keep ⟨f.val / 100, by omega⟩ ⟨f.val % 100, by omega⟩
  by_cases h : okAt s b ⟨f.val / 100, by omega⟩ (f.val % 100)
  · rw [if_pos h, hk.2 ⟨by show f.val % 100 < 100; omega, h⟩]
    rfl
  · rw [if_neg h, select_neg _ _ _ fun e => h (hk.1 e).2]

/-- The flat position of the `t`-th result. -/
def lastPick (t : ℕ) : Fin 8000 := if h : t < 8000 then Top.sortAt ⟨t, h⟩ (Top.left s (pick s) (okAt s b)) else ⟨0, by omega⟩

include hi hv in
theorem lastAt_eq (t : Fin 100) : lastAt (lastIn W) t = lastPick s b t.val := by
  have e : (fun n => (after hostOps0_3 (lastIn W) (Proc.devRef .tc main_v188) : S8000.Idx → EReal) (ix1 n)) = Top.left s (pick s) (okAt s b) :=
    funext fun f => flat_at s b W hi hv f
  rw [fin_flat_eq] at e
  rw [lastPick, dif_pos (show t.val < 8000 by omega), ← e]

include hi hv in
theorem scores_at (t : Fin 100) : (after hostOps0_3 (lastIn W) (Proc.devRef .tc main_values_35) : S100.Idx → EReal) (ix1 t)
    = Top.left s (pick s) (okAt s b) (lastPick s b t.val) := by
  refine (fin_scores (lastIn W) t).trans ?_
  have hf := flat_at s b W hi hv
  have hl := lastAt_eq s b W hi hv t
  have he := fin_flat_eq (lastIn W)
  unfold lastAt at hl
  rw [← he] at hl
  rw [hl]
  exact hf _

include hi hv in
theorem cls_of (t : Fin 100) : (after hostOps0_3 (lastIn W) (Proc.devRef .tc main_v204) : S100.Idx → BitVec 32) (ix1 t)
    = BitVec.ofNat 32 ((lastPick s b t.val).val / 100) :=
  (fin_cls (lastIn W) t).trans (congrArg (fun f : Fin 8000 => BitVec.ofNat 32 (f.val / 100)) (lastAt_eq s b W hi hv t))

include hi hv hx in
theorem box_of (t : Fin 100) (j : Fin 4) : (after hostOps0_3 (lastIn W) (Proc.devRef .tc main_v197) : S100x4.Idx → EReal) (ix2 t j)
    = boxAt s b ⟨(lastPick s b t.val).val / 100, by omega⟩ ((lastPick s b t.val).val % 100) j := by
  have h : ∀ f g : Fin 8000, f = g → (lastIn W (Proc.devRef .tc main_v168) : S80x100x4.Idx → EReal) (ix3 ⟨f.val / 100, by omega⟩ ⟨f.val % 100, by omega⟩ j)
      = boxAt s b ⟨g.val / 100, by omega⟩ (g.val % 100) j := by
    rintro f _ rfl
    exact (congrFun (fin_boxes W) _).trans (hx _ _ _)
  exact (fin_out (lastIn W) t j).trans (h _ _ (lastAt_eq s b W hi hv t))

include hi hv hx in
theorem final_isOut : Top.Out s b
    (fun t j => (after hostOps0_3 (lastIn W) (Proc.devRef .tc main_v197) : S100x4.Idx → EReal) (ix2 t j))
    (fun t => (after hostOps0_3 (lastIn W) (Proc.devRef .tc main_values_35) : S100.Idx → EReal) (ix1 t))
    (fun t => (after hostOps0_3 (lastIn W) (Proc.devRef .tc main_v204) : S100.Idx → BitVec 32) (ix1 t)) := by
  refine ⟨pick s, okAt s b, lastPick s b, pick_top s, fun r t _ => ok_iff _ _ t,
    Top.isTop_sort _ 100 (by omega) _ fun t ht => dif_pos (show t < 8000 by omega), fun t => ⟨?_, ?_, ?_⟩⟩
  · exact funext fun j => box_of s b W hi hv hx t j
  · exact scores_at s b W hi hv t
  · exact cls_of s b W hi hv t

end final

/-- The reference's contents at the end satisfy what determines them. -/
theorem run_isOut (hs : ∀ r n, (entryContents preI m c (Proc.devRef .tc main_v161) : S80x10647.Idx → EReal) (ix2 r n) = s r n)
    (hb : ∀ n j, (entryContents preI m c (Proc.devRef .tc main_v159) : S10647x4.Idx → EReal) (ix2 n j) = b n j) : Top.Out s b
    (fun t j => (finalContents condOps preI bodyI postI 100 m c (Proc.devRef .tc main_v197) : S100x4.Idx → EReal) (ix2 t j))
    (fun t => (finalContents condOps preI bodyI postI 100 m c (Proc.devRef .tc main_values_35) : S100.Idx → EReal) (ix1 t))
    (fun t => (finalContents condOps preI bodyI postI 100 m c (Proc.devRef .tc main_v204) : S100.Idx → BitVec 32) (ix1 t)) := by
  rw [entryContents, afterL_cons, afterL_nil] at hs hb
  rw [finalContents, afterL_cons, afterL_cons, afterL_cons, afterL_nil]
  have h0 : Inv (scoreAt s) (boxAt s b) 0 (entryContents preI m c) := by
    rw [entryContents, afterL_cons, afterL_nil]
    exact entry_inv s b _ hs hb
  have kv : (after condOps (atK m 100 c) (Proc.devRef .tc main_values) : S80x100.Idx → EReal) = entryContents preI m c (Proc.devRef .tc main_values) :=
    (after_of_writes_sub _ _ condOps_writes (by decide +kernel)).trans
      (keep_loop m main_values (by decide +kernel) (by decide +kernel) (by decide +kernel) (by decide +kernel) 100 c)
  have kx : (after condOps (atK m 100 c) (Proc.devRef .tc main_v168) : S80x100x4.Idx → EReal) = entryContents preI m c (Proc.devRef .tc main_v168) :=
    (after_of_writes_sub _ _ condOps_writes (by decide +kernel)).trans
      (keep_loop m main_v168 (by decide +kernel) (by decide +kernel) (by decide +kernel) (by decide +kernel) 100 c)
  rw [entryContents, afterL_cons, afterL_nil] at kv kx
  refine final_isOut s b (after condOps (atK m 100 c)) ((trips m c h0 100 le_rfl).cond) ?_ ?_
  · intro r t
    rw [kv]
    exact entry_values s _ hs r t
  · intro r t j
    rw [kx]
    exact entry_box s b _ hs hb r t j

end Cert.Proof.ReferenceIdeal
-- ==== Proof.ReferenceIdealCells.lean ====
/- The reference's decoding: the pieces of a scale. -/
module

public import proofs.«01_k».proof.Proof.SpecReads
public import proofs.«01_k».proof.Proof.ReferenceIdealRun
public import Idealize.ShloMosaic.Lib.StableHlo.ReadAt
public import Idealize.ShloMosaic.Lib.IdealHost

@[expose] public section

set_option maxRecDepth 200000
noncomputable section

open Idealize.ShloMosaic Idealize.ShloMosaic.TcCoe Idealize.ShloMosaic.StableHlo

namespace Cert.Proof.ReferenceIdeal

open Cert.ReferenceIdeal Gen Value Spec

/-- A small number converted. -/
theorem sitofp_nat (k : ℕ) (hk : k < 2147483648) : (FloatOps.sitofp FTy.f32 (BitVec.ofNat 32 k) : Ideal FTy.f32) = ((k : ℝ) : EReal) := by
  have h : (BitVec.ofNat 32 k).toInt = (k : ℤ) := by
    rw [BitVec.toInt_eq_toNat_cond, BitVec.toNat_ofNat, Nat.mod_eq_of_lt (by omega), if_pos (by omega)]
  show ((((BitVec.ofNat 32 k).toInt : ℤ) : ℝ) : EReal) = _
  rw [h, Int.cast_natCast]

section
variable {s0 s1 s2 : Shape} (A0 : s0.Idx → EReal) (A1 : s1.Idx → EReal) (A2 : s2.Idx → EReal)

theorem low_of (n c : ℕ) (x f g : EReal) (w v : BitVec 32) (hx : x = ((cell n c : ℝ) : EReal)) (hf : f = feat A0 A1 A2 n c)
    (hw : w = BitVec.ofNat 32 (sideW n)) (hg : g = feat A0 A1 A2 n (2 + c)) (hv : v = BitVec.ofNat 32 (ancW n c)) :
    Ideal.div (x + Ideal.div 1 (1 + Ideal.exp (-f))) (Ideal.ofBits .f32 w)
      - Ideal.div (Ideal.exp g * Ideal.ofBits .f32 v) (Ideal.ofBits .f32 1073741824#32) = ctr A0 A1 A2 n c - ext A0 A1 A2 n c := by
  subst hx hf hw hg hv; rfl

theorem high_of (n c : ℕ) (x f g : EReal) (w v : BitVec 32) (hx : x = ((cell n c : ℝ) : EReal)) (hf : f = feat A0 A1 A2 n c)
    (hw : w = BitVec.ofNat 32 (sideW n)) (hg : g = feat A0 A1 A2 n (2 + c)) (hv : v = BitVec.ofNat 32 (ancW n c)) :
    Ideal.div (x + Ideal.div 1 (1 + Ideal.exp (-f))) (Ideal.ofBits .f32 w)
      + Ideal.div (Ideal.exp g * Ideal.ofBits .f32 v) (Ideal.ofBits .f32 1073741824#32) = ctr A0 A1 A2 n c + ext A0 A1 A2 n c := by
  subst hx hf hw hg hv; rfl

theorem sc_of (r : Fin 80) (n : Fin 10647) (f g : EReal) (hf : f = feat A0 A1 A2 n.val 4) (hg : g = feat A0 A1 A2 n.val (5 + r.val)) :
    Ideal.div 1 (1 + Ideal.exp (-f)) * Ideal.div 1 (1 + Ideal.exp (-g)) = sc A0 A1 A2 r n := by
  subst hf hg; rfl
end

theorem anc0 (n : ℕ) (c : Fin 2) (h : n < 8112) (hk : n % 3 < 3) :
    lit0 (S3x2.rowMajor (ix2 ⟨n % 3, hk⟩ c)) = BitVec.ofNat 32 (ancW n c.val) := by
  unfold ancW
  rw [if_pos h]
  revert hk
  generalize n % 3 = k
  intro hk
  interval_cases k <;> fin_cases c <;> rfl

theorem cellx0 (n : ℕ) (h : n < 8112) (hn : n < 10647) :
    (FloatOps.sitofp FTy.f32 (BitVec.ofNat 32 (n / 3 % 52)) : Ideal FTy.f32) = ((cell n 0 : ℝ) : EReal) := by
  rw [sitofp_nat _ (by omega)]
  unfold cell row side
  rw [if_pos rfl, if_pos h, if_pos h]

theorem celly0 (n : ℕ) (h : n < 8112) (hn : n < 10647) :
    (FloatOps.sitofp FTy.f32 (BitVec.ofNat 32 (n / 3 / 52)) : Ideal FTy.f32) = ((cell n 1 : ℝ) : EReal) := by
  rw [sitofp_nat _ (by omega)]
  unfold cell row side
  rw [if_neg (by decide), if_pos h, if_pos h]

theorem sideW0 (n : ℕ) (h : n < 8112) : 0x42500000#32 = BitVec.ofNat 32 (sideW n) := by
  unfold sideW; rw [if_pos h]

theorem anc1 (n : ℕ) (c : Fin 2) (h : ¬ n < 8112) (h1 : n - 8112 < 2028) (hk : (n - 8112) % 3 < 3) :
    lit1 (S3x2.rowMajor (ix2 ⟨(n - 8112) % 3, hk⟩ c)) = BitVec.ofNat 32 (ancW n c.val) := by
  unfold ancW
  rw [if_neg h, if_pos (show n < 10140 by omega)]
  rw [show n % 3 = (n - 8112) % 3 by omega]
  revert hk
  generalize (n - 8112) % 3 = k
  intro hk
  interval_cases k <;> fin_cases c <;> rfl

theorem cellx1 (n : ℕ) (h : ¬ n < 8112) (h1 : n - 8112 < 2028) (hn : n < 10647) :
    (FloatOps.sitofp FTy.f32 (BitVec.ofNat 32 ((n - 8112) / 3 % 26)) : Ideal FTy.f32) = ((cell n 0 : ℝ) : EReal) := by
  rw [sitofp_nat _ (by omega)]
  unfold cell row side
  rw [if_pos rfl, if_neg h, if_pos (show n < 10140 by omega), if_neg h, if_pos (show n < 10140 by omega)]

theorem celly1 (n : ℕ) (h : ¬ n < 8112) (h1 : n - 8112 < 2028) (hn : n < 10647) :
    (FloatOps.sitofp FTy.f32 (BitVec.ofNat 32 ((n - 8112) / 3 / 26)) : Ideal FTy.f32) = ((cell n 1 : ℝ) : EReal) := by
  rw [sitofp_nat _ (by omega)]
  unfold cell row side
  rw [if_neg (by decide), if_neg h, if_pos (show n < 10140 by omega), if_neg h, if_pos (show n < 10140 by omega)]

theorem sideW1 (n : ℕ) (h : ¬ n < 8112) (h1 : n - 8112 < 2028) : 0x41D00000#32 = BitVec.ofNat 32 (sideW n) := by
  unfold sideW; rw [if_neg h, if_pos (show n < 10140 by omega)]

theorem anc2 (n : ℕ) (c : Fin 2) (h : ¬ n < 8112) (h1 : ¬ n - 8112 < 2028) (hk : (n - 8112 - 2028) % 3 < 3) :
    lit2 (S3x2.rowMajor (ix2 ⟨(n - 8112 - 2028) % 3, hk⟩ c)) = BitVec.ofNat 32 (ancW n c.val) := by
  unfold ancW
  rw [if_neg h, if_neg (show ¬ n < 10140 by omega)]
  rw [show n % 3 = (n - 8112 - 2028) % 3 by omega]
  revert hk
  generalize (n - 8112 - 2028) % 3 = k
  intro hk
  interval_cases k <;> fin_cases c <;> rfl

theorem cellx2 (n : ℕ) (h : ¬ n < 8112) (h1 : ¬ n - 8112 < 2028) (hn : n < 10647) :
    (FloatOps.sitofp FTy.f32 (BitVec.ofNat 32 ((n - 8112 - 2028) / 3 % 13)) : Ideal FTy.f32) = ((cell n 0 : ℝ) : EReal) := by
  rw [sitofp_nat _ (by omega)]
  unfold cell row side
  rw [if_pos rfl, if_neg h, if_neg (show ¬ n < 10140 by omega), if_neg h, if_neg (show ¬ n < 10140 by omega)]; rw [show n - 8112 - 2028 = n - 10140 by omega]

theorem celly2 (n : ℕ) (h : ¬ n < 8112) (h1 : ¬ n - 8112 < 2028) (hn : n < 10647) :
    (FloatOps.sitofp FTy.f32 (BitVec.ofNat 32 ((n - 8112 - 2028) / 3 / 13)) : Ideal FTy.f32) = ((cell n 1 : ℝ) : EReal) := by
  rw [sitofp_nat _ (by omega)]
  unfold cell row side
  rw [if_neg (by decide), if_neg h, if_neg (show ¬ n < 10140 by omega), if_neg h, if_neg (show ¬ n < 10140 by omega)]; rw [show n - 8112 - 2028 = n - 10140 by omega]

theorem sideW2 (n : ℕ) (h : ¬ n < 8112) (h1 : ¬ n - 8112 < 2028) : 0x41500000#32 = BitVec.ofNat 32 (sideW n) := by
  unfold sideW; rw [if_neg h, if_neg (show ¬ n < 10140 by omega)]

variable (V : Valuation τ sig (Elt Ideal))

/-- The three feature maps. -/
abbrev w0 : S1x52x52x255.Idx → EReal := V (Proc.devRef .tc main_arg0)
abbrev w1 : S1x26x26x255.Idx → EReal := V (Proc.devRef .tc main_arg1)
abbrev w2 : S1x13x13x255.Idx → EReal := V (Proc.devRef .tc main_arg2)

end Cert.Proof.ReferenceIdeal
-- ==== Proof.ReferenceIdealScores.lean ====
/- The reference's decoding: the scores and boxes it has before the loop are those of the three feature maps. -/
module

public import proofs.«01_k».proof.Proof.ReferenceIdealCells
public import Idealize.ShloMosaic.Lib.StableHlo.ReadAt
public import Idealize.ShloMosaic.Lib.IdealHost

@[expose] public section

set_option maxRecDepth 200000
noncomputable section

open Idealize.ShloMosaic Idealize.ShloMosaic.TcCoe Idealize.ShloMosaic.StableHlo

namespace Cert.Proof.ReferenceIdeal

open Cert.ReferenceIdeal Gen Value Spec

variable (V : Valuation τ sig (Elt Ideal))

set_option maxHeartbeats 4000000 in
theorem scores_read (r : Fin 80) (n : Fin 10647) :
    (after hostOps0 V (Proc.devRef .tc main_v161) : S80x10647.Idx → EReal) (ix2 r n) = sc (w0 V) (w1 V) (w2 V) r n := by
  after_reads_at
  after_reads_at
  by_cases h : n.val < 8112
  · rw [dif_pos h]
    exact sc_of _ _ _ r n _ _ (feat0 (w0 V) (w1 V) (w2 V) n.val 4 (by omega) h) (feat0 (w0 V) (w1 V) (w2 V) n.val (5 + r.val) (by omega) h)
  by_cases h1 : n.val - 8112 < 2028
  · rw [dif_neg h, dif_pos h1]
    exact sc_of _ _ _ r n _ _ (feat1 (w0 V) (w1 V) (w2 V) n.val 4 (by omega) h h1) (feat1 (w0 V) (w1 V) (w2 V) n.val (5 + r.val) (by omega) h h1)
  · rw [dif_neg h, dif_neg h1]
    exact sc_of _ _ _ r n _ _ (feat2 (w0 V) (w1 V) (w2 V) n.val 4 (by omega) h h1 n.isLt)
      (feat2 (w0 V) (w1 V) (w2 V) n.val (5 + r.val) (by omega) h h1 n.isLt)

end Cert.Proof.ReferenceIdeal
-- ==== Proof.ReferenceIdealBoxes0.lean ====
/- The reference's decoding: the scores and boxes it has before the loop are those of the three feature maps. -/
module

public import proofs.«01_k».proof.Proof.ReferenceIdealCells
public import Idealize.ShloMosaic.Lib.StableHlo.ReadAt
public import Idealize.ShloMosaic.Lib.IdealHost

@[expose] public section

set_option maxRecDepth 200000
noncomputable section

open Idealize.ShloMosaic Idealize.ShloMosaic.TcCoe Idealize.ShloMosaic.StableHlo

namespace Cert.Proof.ReferenceIdeal

open Cert.ReferenceIdeal Gen Value Spec

variable (V : Valuation τ sig (Elt Ideal))

set_option maxHeartbeats 4000000 in
theorem boxes_read0 (n : Fin 10647) :
    (after hostOps0 V (Proc.devRef .tc main_v159) : S10647x4.Idx → EReal) (ix2 n 0) = ctr (w0 V) (w1 V) (w2 V) n.val 0 - ext (w0 V) (w1 V) (w2 V) n.val 0 := by
  generalize hR : ctr (w0 V) (w1 V) (w2 V) n.val 0 - ext (w0 V) (w1 V) (w2 V) n.val 0 = R
  after_reads_at
  after_reads_at
  by_cases h : n.val < 8112
  · rw [dif_pos h]
    after_reads_at
    after_reads_at
    split
    swap
    · omega
    subst hR
    have e := low_of (w0 V) (w1 V) (w2 V) n.val 0 _ _ _ _ _ (cellx0 n.val h n.isLt)
      (feat0 (w0 V) (w1 V) (w2 V) n.val 0 (by omega) h) (sideW0 n.val h)
      (feat0 (w0 V) (w1 V) (w2 V) n.val (2 + 0) (by omega) h) (anc0 n.val 0 h (by omega))
    simp only [Nat.add_zero] at e
    exact e
  by_cases h1 : n.val - 8112 < 2028
  · rw [dif_neg h, dif_pos h1]
    after_reads_at
    after_reads_at
    split
    swap
    · omega
    subst hR
    have e := low_of (w0 V) (w1 V) (w2 V) n.val 0 _ _ _ _ _ (cellx1 n.val h h1 n.isLt)
      (feat1 (w0 V) (w1 V) (w2 V) n.val 0 (by omega) h h1) (sideW1 n.val h h1)
      (feat1 (w0 V) (w1 V) (w2 V) n.val (2 + 0) (by omega) h h1) (anc1 n.val 0 h h1 (by omega))
    simp only [Nat.add_zero] at e
    exact e
  · rw [dif_neg h, dif_neg h1]
    after_reads_at
    after_reads_at
    split
    swap
    · omega
    subst hR
    have e := low_of (w0 V) (w1 V) (w2 V) n.val 0 _ _ _ _ _ (cellx2 n.val h h1 n.isLt)
      (feat2 (w0 V) (w1 V) (w2 V) n.val 0 (by omega) h h1 n.isLt) (sideW2 n.val h h1)
      (feat2 (w0 V) (w1 V) (w2 V) n.val (2 + 0) (by omega) h h1 n.isLt) (anc2 n.val 0 h h1 (by omega))
    simp only [Nat.add_zero] at e
    exact e

end Cert.Proof.ReferenceIdeal
-- ==== Proof.ReferenceIdealBoxes1.lean ====
/- The reference's decoding: the scores and boxes it has before the loop are those of the three feature maps. -/
module

public import proofs.«01_k».proof.Proof.ReferenceIdealCells
public import Idealize.ShloMosaic.Lib.StableHlo.ReadAt
public import Idealize.ShloMosaic.Lib.IdealHost

@[expose] public section

set_option maxRecDepth 200000
noncomputable section

open Idealize.ShloMosaic Idealize.ShloMosaic.TcCoe Idealize.ShloMosaic.StableHlo

namespace Cert.Proof.ReferenceIdeal

open Cert.ReferenceIdeal Gen Value Spec

variable (V : Valuation τ sig (Elt Ideal))

set_option maxHeartbeats 4000000 in
theorem boxes_read1 (n : Fin 10647) :
    (after hostOps0 V (Proc.devRef .tc main_v159) : S10647x4.Idx → EReal) (ix2 n 1) = ctr (w0 V) (w1 V) (w2 V) n.val 1 - ext (w0 V) (w1 V) (w2 V) n.val 1 := by
  generalize hR : ctr (w0 V) (w1 V) (w2 V) n.val 1 - ext (w0 V) (w1 V) (w2 V) n.val 1 = R
  after_reads_at
  after_reads_at
  by_cases h : n.val < 8112
  · rw [dif_pos h]
    after_reads_at
    after_reads_at
    split
    · omega
    subst hR
    have e := low_of (w0 V) (w1 V) (w2 V) n.val 1 _ _ _ _ _ (celly0 n.val h n.isLt)
      (feat0 (w0 V) (w1 V) (w2 V) n.val 1 (by omega) h) (sideW0 n.val h)
      (feat0 (w0 V) (w1 V) (w2 V) n.val (2 + 1) (by omega) h) (anc0 n.val 1 h (by omega))
    exact e
  by_cases h1 : n.val - 8112 < 2028
  · rw [dif_neg h, dif_pos h1]
    after_reads_at
    after_reads_at
    split
    · omega
    subst hR
    have e := low_of (w0 V) (w1 V) (w2 V) n.val 1 _ _ _ _ _ (celly1 n.val h h1 n.isLt)
      (feat1 (w0 V) (w1 V) (w2 V) n.val 1 (by omega) h h1) (sideW1 n.val h h1)
      (feat1 (w0 V) (w1 V) (w2 V) n.val (2 + 1) (by omega) h h1) (anc1 n.val 1 h h1 (by omega))
    exact e
  · rw [dif_neg h, dif_neg h1]
    after_reads_at
    after_reads_at
    split
    · omega
    subst hR
    have e := low_of (w0 V) (w1 V) (w2 V) n.val 1 _ _ _ _ _ (celly2 n.val h h1 n.isLt)
      (feat2 (w0 V) (w1 V) (w2 V) n.val 1 (by omega) h h1 n.isLt) (sideW2 n.val h h1)
      (feat2 (w0 V) (w1 V) (w2 V) n.val (2 + 1) (by omega) h h1 n.isLt) (anc2 n.val 1 h h1 (by omega))
    exact e

end Cert.Proof.ReferenceIdeal
-- ==== Proof.ReferenceIdealBoxes2.lean ====
/- The reference's decoding: the scores and boxes it has before the loop are those of the three feature maps. -/
module

public import proofs.«01_k».proof.Proof.ReferenceIdealCells
public import Idealize.ShloMosaic.Lib.StableHlo.ReadAt
public import Idealize.ShloMosaic.Lib.IdealHost

@[expose] public section

set_option maxRecDepth 200000
noncomputable section

open Idealize.ShloMosaic Idealize.ShloMosaic.TcCoe Idealize.ShloMosaic.StableHlo

namespace Cert.Proof.ReferenceIdeal

open Cert.ReferenceIdeal Gen Value Spec

variable (V : Valuation τ sig (Elt Ideal))

set_option maxHeartbeats 4000000 in
theorem boxes_read2 (n : Fin 10647) :
    (after hostOps0 V (Proc.devRef .tc main_v159) : S10647x4.Idx → EReal) (ix2 n 2) = ctr (w0 V) (w1 V) (w2 V) n.val 0 + ext (w0 V) (w1 V) (w2 V) n.val 0 := by
  generalize hR : ctr (w0 V) (w1 V) (w2 V) n.val 0 + ext (w0 V) (w1 V) (w2 V) n.val 0 = R
  after_reads_at
  after_reads_at
  by_cases h : n.val < 8112
  · rw [dif_pos h]
    after_reads_at
    after_reads_at
    split
    swap
    · omega
    subst hR
    have e := high_of (w0 V) (w1 V) (w2 V) n.val 0 _ _ _ _ _ (cellx0 n.val h n.isLt)
      (feat0 (w0 V) (w1 V) (w2 V) n.val 0 (by omega) h) (sideW0 n.val h)
      (feat0 (w0 V) (w1 V) (w2 V) n.val (2 + 0) (by omega) h) (anc0 n.val 0 h (by omega))
    simp only [Nat.add_zero] at e
    exact e
  by_cases h1 : n.val - 8112 < 2028
  · rw [dif_neg h, dif_pos h1]
    after_reads_at
    after_reads_at
    split
    swap
    · omega
    subst hR
    have e := high_of (w0 V) (w1 V) (w2 V) n.val 0 _ _ _ _ _ (cellx1 n.val h h1 n.isLt)
      (feat1 (w0 V) (w1 V) (w2 V) n.val 0 (by omega) h h1) (sideW1 n.val h h1)
      (feat1 (w0 V) (w1 V) (w2 V) n.val (2 + 0) (by omega) h h1) (anc1 n.val 0 h h1 (by omega))
    simp only [Nat.add_zero] at e
    exact e
  · rw [dif_neg h, dif_neg h1]
    after_reads_at
    after_reads_at
    split
    swap
    · omega
    subst hR
    have e := high_of (w0 V) (w1 V) (w2 V) n.val 0 _ _ _ _ _ (cellx2 n.val h h1 n.isLt)
      (feat2 (w0 V) (w1 V) (w2 V) n.val 0 (by omega) h h1 n.isLt) (sideW2 n.val h h1)
      (feat2 (w0 V) (w1 V) (w2 V) n.val (2 + 0) (by omega) h h1 n.isLt) (anc2 n.val 0 h h1 (by omega))
    simp only [Nat.add_zero] at e
    exact e

end Cert.Proof.ReferenceIdeal
-- ==== Proof.ReferenceIdealBoxes3.lean ====
/- The reference's decoding: the scores and boxes it has before the loop are those of the three feature maps. -/
module

public import proofs.«01_k».proof.Proof.ReferenceIdealCells
public import Idealize.ShloMosaic.Lib.StableHlo.ReadAt
public import Idealize.ShloMosaic.Lib.IdealHost

@[expose] public section

set_option maxRecDepth 200000
noncomputable section

open Idealize.ShloMosaic Idealize.ShloMosaic.TcCoe Idealize.ShloMosaic.StableHlo

namespace Cert.Proof.ReferenceIdeal

open Cert.ReferenceIdeal Gen Value Spec

variable (V : Valuation τ sig (Elt Ideal))

set_option maxHeartbeats 4000000 in
theorem boxes_read3 (n : Fin 10647) :
    (after hostOps0 V (Proc.devRef .tc main_v159) : S10647x4.Idx → EReal) (ix2 n 3) = ctr (w0 V) (w1 V) (w2 V) n.val 1 + ext (w0 V) (w1 V) (w2 V) n.val 1 := by
  generalize hR : ctr (w0 V) (w1 V) (w2 V) n.val 1 + ext (w0 V) (w1 V) (w2 V) n.val 1 = R
  after_reads_at
  after_reads_at
  by_cases h : n.val < 8112
  · rw [dif_pos h]
    after_reads_at
    after_reads_at
    split
    · omega
    subst hR
    have e := high_of (w0 V) (w1 V) (w2 V) n.val 1 _ _ _ _ _ (celly0 n.val h n.isLt)
      (feat0 (w0 V) (w1 V) (w2 V) n.val 1 (by omega) h) (sideW0 n.val h)
      (feat0 (w0 V) (w1 V) (w2 V) n.val (2 + 1) (by omega) h) (anc0 n.val 1 h (by omega))
    exact e
  by_cases h1 : n.val - 8112 < 2028
  · rw [dif_neg h, dif_pos h1]
    after_reads_at
    after_reads_at
    split
    · omega
    subst hR
    have e := high_of (w0 V) (w1 V) (w2 V) n.val 1 _ _ _ _ _ (celly1 n.val h h1 n.isLt)
      (feat1 (w0 V) (w1 V) (w2 V) n.val 1 (by omega) h h1) (sideW1 n.val h h1)
      (feat1 (w0 V) (w1 V) (w2 V) n.val (2 + 1) (by omega) h h1) (anc1 n.val 1 h h1 (by omega))
    exact e
  · rw [dif_neg h, dif_neg h1]
    after_reads_at
    after_reads_at
    split
    · omega
    subst hR
    have e := high_of (w0 V) (w1 V) (w2 V) n.val 1 _ _ _ _ _ (celly2 n.val h h1 n.isLt)
      (feat2 (w0 V) (w1 V) (w2 V) n.val 1 (by omega) h h1 n.isLt) (sideW2 n.val h h1)
      (feat2 (w0 V) (w1 V) (w2 V) n.val (2 + 1) (by omega) h h1 n.isLt) (anc2 n.val 1 h h1 (by omega))
    exact e

end Cert.Proof.ReferenceIdeal
-- ==== Proof.ReferenceIdealDecode.lean ====
/- The reference's boxes before the loop are those of the three feature maps. -/
module

public import proofs.«01_k».proof.Proof.ReferenceIdealScores
public import proofs.«01_k».proof.Proof.ReferenceIdealBoxes0
public import proofs.«01_k».proof.Proof.ReferenceIdealBoxes1
public import proofs.«01_k».proof.Proof.ReferenceIdealBoxes2
public import proofs.«01_k».proof.Proof.ReferenceIdealBoxes3

@[expose] public section

noncomputable section

open Idealize.ShloMosaic Idealize.ShloMosaic.TcCoe Idealize.ShloMosaic.StableHlo

namespace Cert.Proof.ReferenceIdeal

open Cert.ReferenceIdeal Gen Value Spec

variable (V : Valuation τ sig (Elt Ideal))

theorem boxes_read (n : Fin 10647) (j : Fin 4) :
    (after hostOps0 V (Proc.devRef .tc main_v159) : S10647x4.Idx → EReal) (ix2 n j) = bx (w0 V) (w1 V) (w2 V) n j := by
  fin_cases j
  · exact boxes_read0 V n
  · exact boxes_read1 V n
  · exact boxes_read2 V n
  · exact boxes_read3 V n

end Cert.Proof.ReferenceIdeal
-- ==== Proof.ReferenceIdealFinal.lean ====
/- What the reference's run leaves in its three results. -/
module

public import proofs.«01_k».proof.Proof.ReferenceIdealOut
public import proofs.«01_k».proof.Proof.ReferenceIdealScores
public import proofs.«01_k».proof.Proof.ReferenceIdealDecode

@[expose] public section

set_option maxRecDepth 200000
noncomputable section

open Idealize.ShloMosaic Idealize.ShloMosaic.TcCoe Idealize.ShloMosaic.StableHlo Idealize.SL Idealize.SL.Sem

namespace Cert.Proof.ReferenceIdeal

open Cert.ReferenceIdeal Gen Value Spec

variable (m : (ℓ : Loc nD τ sig) → Buf (Elt Ideal) ℓ) (ρ : Dev nD → PrngReg) (c : Dev nD)

/-- The three feature maps. -/
abbrev a0 : S1x52x52x255.Idx → EReal := m ((c.tc : Thread nD τ).loc main_arg0)
abbrev a1 : S1x26x26x255.Idx → EReal := m ((c.tc : Thread nD τ).loc main_arg1)
abbrev a2 : S1x13x13x255.Idx → EReal := m ((c.tc : Thread nD τ).loc main_arg2)

/-- The three results. -/
def rBoxes : S100x4.Idx → EReal := finalContents condOps preI bodyI postI 100 m c (Proc.devRef .tc main_v197)
def rScores : S100.Idx → EReal := finalContents condOps preI bodyI postI 100 m c (Proc.devRef .tc main_values_35)
def rClasses : S100.Idx → BitVec 32 := finalContents condOps preI bodyI postI 100 m c (Proc.devRef .tc main_v204)

theorem entry_scores (r : Fin 80) (n : Fin 10647) : (entryContents preI m c (Proc.devRef .tc main_v161) : S80x10647.Idx → EReal) (ix2 r n)
    = sc (a0 m c) (a1 m c) (a2 m c) r n := by
  rw [entryContents, afterL_cons, afterL_nil]
  exact scores_read _ r n

theorem entry_boxes (n : Fin 10647) (j : Fin 4) : (entryContents preI m c (Proc.devRef .tc main_v159) : S10647x4.Idx → EReal) (ix2 n j)
    = bx (a0 m c) (a1 m c) (a2 m c) n j := by
  rw [entryContents, afterL_cons, afterL_nil]
  exact boxes_read _ n j

/-- They satisfy what determines them. -/
theorem reference_isOut : Top.Out (sc (a0 m c) (a1 m c) (a2 m c)) (bx (a0 m c) (a1 m c) (a2 m c))
    (fun t j => rBoxes m c (ix2 t j)) (fun t => rScores m c (ix1 t)) (fun t => rClasses m c (ix1 t)) :=
  run_isOut _ _ m c (entry_scores m c) (entry_boxes m c)

/-- The run leaves them, and the arguments as launched. -/
theorem values : θ_run (defs (F := Ideal)) (onTc (τ := τ) (main (F := Ideal))) ⟨m, fun _ => 0, ρ⟩ (fun r => ∀ c : Dev nD,
    r.2.mem ((c.tc : Thread nD τ).loc main_v197) = rBoxes m c
    ∧ r.2.mem ((c.tc : Thread nD τ).loc main_values_35) = rScores m c
    ∧ r.2.mem ((c.tc : Thread nD τ).loc main_v204) = rClasses m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run _ _ _).mono (fun _ h c => ⟨h c main_v197 rfl, h c main_values_35 rfl, h c main_v204 rfl, (h c main_arg0 rfl).trans (arg0_kept m c),
    (h c main_arg1 rfl).trans (arg1_kept m c), (h c main_arg2 rfl).trans (arg2_kept m c)⟩) (run_fold m ρ)

end Cert.Proof.ReferenceIdeal
-- ==== Proof.lean ====
/- The proof of the claims: the three frames, the equation, and the equal results. -/
module

public import proofs.«01_k».proof.Defs
public import proofs.«01_k».proof.Proof.KernelRun
public import proofs.«01_k».proof.Proof.KernelIdealRun
public import proofs.«01_k».proof.Proof.ReferenceIdealRun
public import proofs.«01_k».proof.Proof.KernelIdealFinal
public import proofs.«01_k».proof.Proof.ReferenceIdealFinal
public import Idealize.ShloMosaic.Adequacy
public import Idealize.ShloMosaic.Init

@[expose] public section

noncomputable section

namespace Cert.Proof

open Idealize.ShloMosaic Idealize.ShloMosaic.TcCoe Idealize.SL.Sem

/-- The kernel's run leaves its arguments as launched and every counter at zero. -/
theorem frameKernel : Cert.quiescent_Kernel (hKernel := Cert.Kernel.Gen.facts) := fun m g _ =>
  θ_run_with_sems (fun h => Cert.Kernel.Gen.frame_of m g (Cert.Proof.Kernel.dats m) (Cert.Proof.Kernel.dats_A m) h) (Cert.Proof.Kernel.run m g)

/-- The idealized kernel's run leaves its arguments as launched and every counter at zero. -/
theorem frameKernelIdeal : Cert.quiescent_KernelIdeal (hKernelIdeal := Cert.KernelIdeal.Gen.facts) := fun m g _ =>
  θ_run_with_sems (fun h => Cert.KernelIdeal.Gen.frame_of m g (Cert.Proof.KernelIdeal.dats m) (Cert.Proof.KernelIdeal.dats_A m) h) (Cert.Proof.KernelIdeal.run m g)

/-- The reference's run leaves its arguments as launched and every counter at zero. -/
theorem frameReference : Cert.quiescent_ReferenceIdeal (hReferenceIdeal := Cert.ReferenceIdeal.Gen.facts) := fun m g _ =>
  Cert.Proof.ReferenceIdeal.frame m g

/-- Contents of a matrix equal at every index are equal. -/
theorem ext_two {α : Type} {a b : ℕ} {x y : (⟨2, ![a, b]⟩ : Shape).Idx → α} (h : (fun (i : Fin a) (j : Fin b) => x (ix2 i j)) = fun i j => y (ix2 i j)) :
    x = y := by
  funext i
  have e : i = ix2 (i 0) (i 1) := by funext d; fin_cases d <;> rfl
  rw [e]
  exact congrFun (congrFun h (i 0)) (i 1)

/-- Contents of a vector equal at every index are equal. -/
theorem ext_one {α : Type} {a : ℕ} {x y : (⟨1, ![a]⟩ : Shape).Idx → α} (h : (fun i : Fin a => x (ix1 i)) = fun i => y (ix1 i)) : x = y := by
  funext i
  have e : i = ix1 (i 0) := by funext d; fin_cases d; rfl
  rw [e]
  exact congrFun h (i 0)

/-- From equal arguments the idealized kernel and the reference leave the same boxes, scores and classes. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : ReferenceIdeal.a0 m' c = KernelIdeal.a0 m c) (h1 : ReferenceIdeal.a1 m' c = KernelIdeal.a1 m c) (h2 : ReferenceIdeal.a2 m' c = KernelIdeal.a2 m c) :
    ReferenceIdeal.rBoxes m' c = KernelIdeal.kBoxes m c ∧ ReferenceIdeal.rScores m' c = KernelIdeal.kScores m c
      ∧ ReferenceIdeal.rClasses m' c = KernelIdeal.kClasses m c := by
  have hr := ReferenceIdeal.reference_isOut m' c
  rw [h0, h1, h2] at hr
  obtain ⟨e0, e1, e2⟩ := Top.Out.unique _ _ hr (KernelIdeal.kernel_isOut m c)
  exact ⟨ext_two e0, ext_one e1, ext_one e2⟩

/-- The idealized kernel computes what the reference computes. -/
theorem equalResults : Cert.algebraic_KernelIdeal_ReferenceIdeal (hKernelIdeal := Cert.KernelIdeal.Gen.facts) (hReferenceIdeal := Cert.ReferenceIdeal.Gen.facts) := by
  intro m g m' g' _ h
  refine ⟨fun c => KernelIdeal.kBoxes m c, fun c => KernelIdeal.kScores m c, fun c => KernelIdeal.kClasses m c, KernelIdeal.values m g, ?_⟩
  refine (θ_run _ _ _).mono (fun r hr c => ?_) (ReferenceIdeal.values m' g')
  obtain ⟨e0, e1, e2⟩ := results m m' c (h c).1 (h c).2.1 (h c).2.2
  exact ⟨(hr c).1.trans e0, (hr c).2.1.trans e1, (hr c).2.2.1.trans e2, (hr c).2.2.2⟩

/-- All the claims. -/
theorem claim : Cert.Claim := ⟨Cert.Kernel.Gen.facts, Cert.KernelIdeal.Gen.facts, Cert.ReferenceIdeal.Gen.facts,
  frameKernel, frameKernelIdeal, frameReference, trivial, equalResults⟩

end Cert.Proof

end
